-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_finite_route [hPre_finite_route : Cert.Pre_finite_route.Facts] (m : (ℓ : Loc Cert.MoeIdeal.nD Cert.MoeIdeal.τ Cert.MoeIdeal.sig) → Buf (Elt Ideal) ℓ) : Prop :=
  ∀ c : Dev Cert.MoeIdeal.nD,
    (Cert.Pre_finite_route.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_finite_route [hPre_finite_route : Cert.Pre_finite_route.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_finite_route.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_AttnLat (m : (ℓ : Loc Cert.AttnLat.nD Cert.AttnLat.τ Cert.AttnLat.sig) → Buf (Elt Bits) ℓ) : Prop :=
  True

def Pre_AttnLatIdeal (m : (ℓ : Loc Cert.AttnLatIdeal.nD Cert.AttnLatIdeal.τ Cert.AttnLatIdeal.sig) → Buf (Elt Ideal) ℓ) : Prop :=
  True

def Pre_AttnLatIdeal_finite_qk [hPre_finite_qk : Cert.Pre_finite_qk.Facts] (m : (ℓ : Loc Cert.AttnLatIdeal.nD Cert.AttnLatIdeal.τ Cert.AttnLatIdeal.sig) → Buf (Elt Ideal) ℓ) : Prop :=
  ∀ c : Dev Cert.AttnLatIdeal.nD,
    (Cert.Pre_finite_qk.fn (F := Ideal) (m ((c.tc : Thread Cert.AttnLatIdeal.nD Cert.AttnLatIdeal.τ).loc Cert.AttnLatIdeal.main_arg0)) (m ((c.tc : Thread Cert.AttnLatIdeal.nD Cert.AttnLatIdeal.τ).loc Cert.AttnLatIdeal.main_arg1)) (m ((c.tc : Thread Cert.AttnLatIdeal.nD Cert.AttnLatIdeal.τ).loc Cert.AttnLatIdeal.main_arg2)) (m ((c.tc : Thread Cert.AttnLatIdeal.nD Cert.AttnLatIdeal.τ).loc Cert.AttnLatIdeal.main_arg3)) (m ((c.tc : Thread Cert.AttnLatIdeal.nD Cert.AttnLatIdeal.τ).loc Cert.AttnLatIdeal.main_arg4))) = (fun _ => 1#1)

def Pre_AttnLatRefIdeal (m : (ℓ : Loc Cert.AttnLatRefIdeal.nD Cert.AttnLatRefIdeal.τ Cert.AttnLatRefIdeal.sig) → Buf (Elt Ideal) ℓ) : Prop :=
  True

def Pre_AttnLatRefIdeal_finite_qk [hPre_finite_qk : Cert.Pre_finite_qk.Facts] (m : (ℓ : Loc Cert.AttnLatRefIdeal.nD Cert.AttnLatRefIdeal.τ Cert.AttnLatRefIdeal.sig) → Buf (Elt Ideal) ℓ) : Prop :=
  ∀ c : Dev Cert.AttnLatRefIdeal.nD,
    (Cert.Pre_finite_qk.fn (F := Ideal) (m ((c.tc : Thread Cert.AttnLatRefIdeal.nD Cert.AttnLatRefIdeal.τ).loc Cert.AttnLatRefIdeal.main_arg0)) (m ((c.tc : Thread Cert.AttnLatRefIdeal.nD Cert.AttnLatRefIdeal.τ).loc Cert.AttnLatRefIdeal.main_arg1)) (m ((c.tc : Thread Cert.AttnLatRefIdeal.nD Cert.AttnLatRefIdeal.τ).loc Cert.AttnLatRefIdeal.main_arg2)) (m ((c.tc : Thread Cert.AttnLatRefIdeal.nD Cert.AttnLatRefIdeal.τ).loc Cert.AttnLatRefIdeal.main_arg3)) (m ((c.tc : Thread Cert.AttnLatRefIdeal.nD Cert.AttnLatRefIdeal.τ).loc Cert.AttnLatRefIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_QkCtx (m : (ℓ : Loc Cert.QkCtx.nD Cert.QkCtx.τ Cert.QkCtx.sig) → Buf (Elt Bits) ℓ) : Prop :=
  True

def Pre_QkCtxIdeal (m : (ℓ : Loc Cert.QkCtxIdeal.nD Cert.QkCtxIdeal.τ Cert.QkCtxIdeal.sig) → Buf (Elt Ideal) ℓ) : Prop :=
  True

def Pre_QkCtxIdeal_finite_heads [hPre_finite_heads : Cert.Pre_finite_heads.Facts] (m : (ℓ : Loc Cert.QkCtxIdeal.nD Cert.QkCtxIdeal.τ Cert.QkCtxIdeal.sig) → Buf (Elt Ideal) ℓ) : Prop :=
  ∀ c : Dev Cert.QkCtxIdeal.nD,
    (Cert.Pre_finite_heads.fn (F := Ideal) (m ((c.tc : Thread Cert.QkCtxIdeal.nD Cert.QkCtxIdeal.τ).loc Cert.QkCtxIdeal.main_arg0)) (m ((c.tc : Thread Cert.QkCtxIdeal.nD Cert.QkCtxIdeal.τ).loc Cert.QkCtxIdeal.main_arg1))) = (fun _ => 1#1)

def Pre_QkCtxRefIdeal (m : (ℓ : Loc Cert.QkCtxRefIdeal.nD Cert.QkCtxRefIdeal.τ Cert.QkCtxRefIdeal.sig) → Buf (Elt Ideal) ℓ) : Prop :=
  True

def Pre_QkCtxRefIdeal_finite_heads [hPre_finite_heads : Cert.Pre_finite_heads.Facts] (m : (ℓ : Loc Cert.QkCtxRefIdeal.nD Cert.QkCtxRefIdeal.τ Cert.QkCtxRefIdeal.sig) → Buf (Elt Ideal) ℓ) : Prop :=
  ∀ c : Dev Cert.QkCtxRefIdeal.nD,
    (Cert.Pre_finite_heads.fn (F := Ideal) (m ((c.tc : Thread Cert.QkCtxRefIdeal.nD Cert.QkCtxRefIdeal.τ).loc Cert.QkCtxRefIdeal.main_arg0)) (m ((c.tc : Thread Cert.QkCtxRefIdeal.nD Cert.QkCtxRefIdeal.τ).loc Cert.QkCtxRefIdeal.main_arg1))) = (fun _ => 1#1)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeIdeal_pre_finite_route [hMoeIdeal : Cert.MoeIdeal.Facts] [hPre_finite_route : Cert.Pre_finite_route.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_finite_route m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_MoeRefIdeal_pre_finite_route [hMoeRefIdeal : Cert.MoeRefIdeal.Facts] [hPre_finite_route : Cert.Pre_finite_route.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_finite_route m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_AttnLat [hAttnLat : Cert.AttnLat.Facts] : Prop :=
  ∀ (m : (ℓ : Loc Cert.AttnLat.nD Cert.AttnLat.τ Cert.AttnLat.sig) → Buf (Elt Bits) ℓ) (g : Dev Cert.AttnLat.nD → PrngReg), Pre_AttnLat m →
    θ_run (Cert.AttnLat.defs (F := Bits)) (onTc (τ := Cert.AttnLat.τ) (Cert.AttnLat.main (F := Bits))) ⟨m, fun _ => 0, g⟩ (fun r => (∀ c : Dev Cert.AttnLat.nD,
      r.2.mem ((c.tc : Thread Cert.AttnLat.nD Cert.AttnLat.τ).loc Cert.AttnLat.main_arg0) = m ((c.tc : Thread Cert.AttnLat.nD Cert.AttnLat.τ).loc Cert.AttnLat.main_arg0)
      ∧ r.2.mem ((c.tc : Thread Cert.AttnLat.nD Cert.AttnLat.τ).loc Cert.AttnLat.main_arg1) = m ((c.tc : Thread Cert.AttnLat.nD Cert.AttnLat.τ).loc Cert.AttnLat.main_arg1)
      ∧ r.2.mem ((c.tc : Thread Cert.AttnLat.nD Cert.AttnLat.τ).loc Cert.AttnLat.main_arg2) = m ((c.tc : Thread Cert.AttnLat.nD Cert.AttnLat.τ).loc Cert.AttnLat.main_arg2)
      ∧ r.2.mem ((c.tc : Thread Cert.AttnLat.nD Cert.AttnLat.τ).loc Cert.AttnLat.main_arg3) = m ((c.tc : Thread Cert.AttnLat.nD Cert.AttnLat.τ).loc Cert.AttnLat.main_arg3)
      ∧ r.2.mem ((c.tc : Thread Cert.AttnLat.nD Cert.AttnLat.τ).loc Cert.AttnLat.main_arg4) = m ((c.tc : Thread Cert.AttnLat.nD Cert.AttnLat.τ).loc Cert.AttnLat.main_arg4))
      ∧ r.2.sem = fun _ => 0)

def quiescent_AttnLatIdeal [hAttnLatIdeal : Cert.AttnLatIdeal.Facts] : Prop :=
  ∀ (m : (ℓ : Loc Cert.AttnLatIdeal.nD Cert.AttnLatIdeal.τ Cert.AttnLatIdeal.sig) → Buf (Elt Ideal) ℓ) (g : Dev Cert.AttnLatIdeal.nD → PrngReg), Pre_AttnLatIdeal m →
    θ_run (Cert.AttnLatIdeal.defs (F := Ideal)) (onTc (τ := Cert.AttnLatIdeal.τ) (Cert.AttnLatIdeal.main (F := Ideal))) ⟨m, fun _ => 0, g⟩ (fun r => (∀ c : Dev Cert.AttnLatIdeal.nD,
      r.2.mem ((c.tc : Thread Cert.AttnLatIdeal.nD Cert.AttnLatIdeal.τ).loc Cert.AttnLatIdeal.main_arg0) = m ((c.tc : Thread Cert.AttnLatIdeal.nD Cert.AttnLatIdeal.τ).loc Cert.AttnLatIdeal.main_arg0)
      ∧ r.2.mem ((c.tc : Thread Cert.AttnLatIdeal.nD Cert.AttnLatIdeal.τ).loc Cert.AttnLatIdeal.main_arg1) = m ((c.tc : Thread Cert.AttnLatIdeal.nD Cert.AttnLatIdeal.τ).loc Cert.AttnLatIdeal.main_arg1)
      ∧ r.2.mem ((c.tc : Thread Cert.AttnLatIdeal.nD Cert.AttnLatIdeal.τ).loc Cert.AttnLatIdeal.main_arg2) = m ((c.tc : Thread Cert.AttnLatIdeal.nD Cert.AttnLatIdeal.τ).loc Cert.AttnLatIdeal.main_arg2)
      ∧ r.2.mem ((c.tc : Thread Cert.AttnLatIdeal.nD Cert.AttnLatIdeal.τ).loc Cert.AttnLatIdeal.main_arg3) = m ((c.tc : Thread Cert.AttnLatIdeal.nD Cert.AttnLatIdeal.τ).loc Cert.AttnLatIdeal.main_arg3)
      ∧ r.2.mem ((c.tc : Thread Cert.AttnLatIdeal.nD Cert.AttnLatIdeal.τ).loc Cert.AttnLatIdeal.main_arg4) = m ((c.tc : Thread Cert.AttnLatIdeal.nD Cert.AttnLatIdeal.τ).loc Cert.AttnLatIdeal.main_arg4))
      ∧ r.2.sem = fun _ => 0)

def quiescent_AttnLatIdeal_pre_finite_qk [hAttnLatIdeal : Cert.AttnLatIdeal.Facts] [hPre_finite_qk : Cert.Pre_finite_qk.Facts] : Prop :=
  ∀ (m : (ℓ : Loc Cert.AttnLatIdeal.nD Cert.AttnLatIdeal.τ Cert.AttnLatIdeal.sig) → Buf (Elt Ideal) ℓ) (g : Dev Cert.AttnLatIdeal.nD → PrngReg), Pre_AttnLatIdeal_finite_qk m →
    θ_run (Cert.AttnLatIdeal.defs (F := Ideal)) (onTc (τ := Cert.AttnLatIdeal.τ) (Cert.AttnLatIdeal.main (F := Ideal))) ⟨m, fun _ => 0, g⟩ (fun r => (∀ c : Dev Cert.AttnLatIdeal.nD,
      r.2.mem ((c.tc : Thread Cert.AttnLatIdeal.nD Cert.AttnLatIdeal.τ).loc Cert.AttnLatIdeal.main_arg0) = m ((c.tc : Thread Cert.AttnLatIdeal.nD Cert.AttnLatIdeal.τ).loc Cert.AttnLatIdeal.main_arg0)
      ∧ r.2.mem ((c.tc : Thread Cert.AttnLatIdeal.nD Cert.AttnLatIdeal.τ).loc Cert.AttnLatIdeal.main_arg1) = m ((c.tc : Thread Cert.AttnLatIdeal.nD Cert.AttnLatIdeal.τ).loc Cert.AttnLatIdeal.main_arg1)
      ∧ r.2.mem ((c.tc : Thread Cert.AttnLatIdeal.nD Cert.AttnLatIdeal.τ).loc Cert.AttnLatIdeal.main_arg2) = m ((c.tc : Thread Cert.AttnLatIdeal.nD Cert.AttnLatIdeal.τ).loc Cert.AttnLatIdeal.main_arg2)
      ∧ r.2.mem ((c.tc : Thread Cert.AttnLatIdeal.nD Cert.AttnLatIdeal.τ).loc Cert.AttnLatIdeal.main_arg3) = m ((c.tc : Thread Cert.AttnLatIdeal.nD Cert.AttnLatIdeal.τ).loc Cert.AttnLatIdeal.main_arg3)
      ∧ r.2.mem ((c.tc : Thread Cert.AttnLatIdeal.nD Cert.AttnLatIdeal.τ).loc Cert.AttnLatIdeal.main_arg4) = m ((c.tc : Thread Cert.AttnLatIdeal.nD Cert.AttnLatIdeal.τ).loc Cert.AttnLatIdeal.main_arg4))
      ∧ r.2.sem = fun _ => 0)

def quiescent_AttnLatRefIdeal [hAttnLatRefIdeal : Cert.AttnLatRefIdeal.Facts] : Prop :=
  ∀ (m : (ℓ : Loc Cert.AttnLatRefIdeal.nD Cert.AttnLatRefIdeal.τ Cert.AttnLatRefIdeal.sig) → Buf (Elt Ideal) ℓ) (g : Dev Cert.AttnLatRefIdeal.nD → PrngReg), Pre_AttnLatRefIdeal m →
    θ_run (Cert.AttnLatRefIdeal.defs (F := Ideal)) (onTc (τ := Cert.AttnLatRefIdeal.τ) (Cert.AttnLatRefIdeal.main (F := Ideal))) ⟨m, fun _ => 0, g⟩ (fun r => (∀ c : Dev Cert.AttnLatRefIdeal.nD,
      r.2.mem ((c.tc : Thread Cert.AttnLatRefIdeal.nD Cert.AttnLatRefIdeal.τ).loc Cert.AttnLatRefIdeal.main_arg0) = m ((c.tc : Thread Cert.AttnLatRefIdeal.nD Cert.AttnLatRefIdeal.τ).loc Cert.AttnLatRefIdeal.main_arg0)
      ∧ r.2.mem ((c.tc : Thread Cert.AttnLatRefIdeal.nD Cert.AttnLatRefIdeal.τ).loc Cert.AttnLatRefIdeal.main_arg1) = m ((c.tc : Thread Cert.AttnLatRefIdeal.nD Cert.AttnLatRefIdeal.τ).loc Cert.AttnLatRefIdeal.main_arg1)
      ∧ r.2.mem ((c.tc : Thread Cert.AttnLatRefIdeal.nD Cert.AttnLatRefIdeal.τ).loc Cert.AttnLatRefIdeal.main_arg2) = m ((c.tc : Thread Cert.AttnLatRefIdeal.nD Cert.AttnLatRefIdeal.τ).loc Cert.AttnLatRefIdeal.main_arg2)
      ∧ r.2.mem ((c.tc : Thread Cert.AttnLatRefIdeal.nD Cert.AttnLatRefIdeal.τ).loc Cert.AttnLatRefIdeal.main_arg3) = m ((c.tc : Thread Cert.AttnLatRefIdeal.nD Cert.AttnLatRefIdeal.τ).loc Cert.AttnLatRefIdeal.main_arg3)
      ∧ r.2.mem ((c.tc : Thread Cert.AttnLatRefIdeal.nD Cert.AttnLatRefIdeal.τ).loc Cert.AttnLatRefIdeal.main_arg4) = m ((c.tc : Thread Cert.AttnLatRefIdeal.nD Cert.AttnLatRefIdeal.τ).loc Cert.AttnLatRefIdeal.main_arg4))
      ∧ r.2.sem = fun _ => 0)

def quiescent_AttnLatRefIdeal_pre_finite_qk [hAttnLatRefIdeal : Cert.AttnLatRefIdeal.Facts] [hPre_finite_qk : Cert.Pre_finite_qk.Facts] : Prop :=
  ∀ (m : (ℓ : Loc Cert.AttnLatRefIdeal.nD Cert.AttnLatRefIdeal.τ Cert.AttnLatRefIdeal.sig) → Buf (Elt Ideal) ℓ) (g : Dev Cert.AttnLatRefIdeal.nD → PrngReg), Pre_AttnLatRefIdeal_finite_qk m →
    θ_run (Cert.AttnLatRefIdeal.defs (F := Ideal)) (onTc (τ := Cert.AttnLatRefIdeal.τ) (Cert.AttnLatRefIdeal.main (F := Ideal))) ⟨m, fun _ => 0, g⟩ (fun r => (∀ c : Dev Cert.AttnLatRefIdeal.nD,
      r.2.mem ((c.tc : Thread Cert.AttnLatRefIdeal.nD Cert.AttnLatRefIdeal.τ).loc Cert.AttnLatRefIdeal.main_arg0) = m ((c.tc : Thread Cert.AttnLatRefIdeal.nD Cert.AttnLatRefIdeal.τ).loc Cert.AttnLatRefIdeal.main_arg0)
      ∧ r.2.mem ((c.tc : Thread Cert.AttnLatRefIdeal.nD Cert.AttnLatRefIdeal.τ).loc Cert.AttnLatRefIdeal.main_arg1) = m ((c.tc : Thread Cert.AttnLatRefIdeal.nD Cert.AttnLatRefIdeal.τ).loc Cert.AttnLatRefIdeal.main_arg1)
      ∧ r.2.mem ((c.tc : Thread Cert.AttnLatRefIdeal.nD Cert.AttnLatRefIdeal.τ).loc Cert.AttnLatRefIdeal.main_arg2) = m ((c.tc : Thread Cert.AttnLatRefIdeal.nD Cert.AttnLatRefIdeal.τ).loc Cert.AttnLatRefIdeal.main_arg2)
      ∧ r.2.mem ((c.tc : Thread Cert.AttnLatRefIdeal.nD Cert.AttnLatRefIdeal.τ).loc Cert.AttnLatRefIdeal.main_arg3) = m ((c.tc : Thread Cert.AttnLatRefIdeal.nD Cert.AttnLatRefIdeal.τ).loc Cert.AttnLatRefIdeal.main_arg3)
      ∧ r.2.mem ((c.tc : Thread Cert.AttnLatRefIdeal.nD Cert.AttnLatRefIdeal.τ).loc Cert.AttnLatRefIdeal.main_arg4) = m ((c.tc : Thread Cert.AttnLatRefIdeal.nD Cert.AttnLatRefIdeal.τ).loc Cert.AttnLatRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_QkCtx [hQkCtx : Cert.QkCtx.Facts] : Prop :=
  ∀ (m : (ℓ : Loc Cert.QkCtx.nD Cert.QkCtx.τ Cert.QkCtx.sig) → Buf (Elt Bits) ℓ) (g : Dev Cert.QkCtx.nD → PrngReg), Pre_QkCtx m →
    θ_run (Cert.QkCtx.defs (F := Bits)) (onTc (τ := Cert.QkCtx.τ) (Cert.QkCtx.main (F := Bits))) ⟨m, fun _ => 0, g⟩ (fun r => (∀ c : Dev Cert.QkCtx.nD,
      r.2.mem ((c.tc : Thread Cert.QkCtx.nD Cert.QkCtx.τ).loc Cert.QkCtx.main_arg0) = m ((c.tc : Thread Cert.QkCtx.nD Cert.QkCtx.τ).loc Cert.QkCtx.main_arg0)
      ∧ r.2.mem ((c.tc : Thread Cert.QkCtx.nD Cert.QkCtx.τ).loc Cert.QkCtx.main_arg1) = m ((c.tc : Thread Cert.QkCtx.nD Cert.QkCtx.τ).loc Cert.QkCtx.main_arg1))
      ∧ r.2.sem = fun _ => 0)

def quiescent_QkCtxIdeal [hQkCtxIdeal : Cert.QkCtxIdeal.Facts] : Prop :=
  ∀ (m : (ℓ : Loc Cert.QkCtxIdeal.nD Cert.QkCtxIdeal.τ Cert.QkCtxIdeal.sig) → Buf (Elt Ideal) ℓ) (g : Dev Cert.QkCtxIdeal.nD → PrngReg), Pre_QkCtxIdeal m →
    θ_run (Cert.QkCtxIdeal.defs (F := Ideal)) (onTc (τ := Cert.QkCtxIdeal.τ) (Cert.QkCtxIdeal.main (F := Ideal))) ⟨m, fun _ => 0, g⟩ (fun r => (∀ c : Dev Cert.QkCtxIdeal.nD,
      r.2.mem ((c.tc : Thread Cert.QkCtxIdeal.nD Cert.QkCtxIdeal.τ).loc Cert.QkCtxIdeal.main_arg0) = m ((c.tc : Thread Cert.QkCtxIdeal.nD Cert.QkCtxIdeal.τ).loc Cert.QkCtxIdeal.main_arg0)
      ∧ r.2.mem ((c.tc : Thread Cert.QkCtxIdeal.nD Cert.QkCtxIdeal.τ).loc Cert.QkCtxIdeal.main_arg1) = m ((c.tc : Thread Cert.QkCtxIdeal.nD Cert.QkCtxIdeal.τ).loc Cert.QkCtxIdeal.main_arg1))
      ∧ r.2.sem = fun _ => 0)

def quiescent_QkCtxIdeal_pre_finite_heads [hQkCtxIdeal : Cert.QkCtxIdeal.Facts] [hPre_finite_heads : Cert.Pre_finite_heads.Facts] : Prop :=
  ∀ (m : (ℓ : Loc Cert.QkCtxIdeal.nD Cert.QkCtxIdeal.τ Cert.QkCtxIdeal.sig) → Buf (Elt Ideal) ℓ) (g : Dev Cert.QkCtxIdeal.nD → PrngReg), Pre_QkCtxIdeal_finite_heads m →
    θ_run (Cert.QkCtxIdeal.defs (F := Ideal)) (onTc (τ := Cert.QkCtxIdeal.τ) (Cert.QkCtxIdeal.main (F := Ideal))) ⟨m, fun _ => 0, g⟩ (fun r => (∀ c : Dev Cert.QkCtxIdeal.nD,
      r.2.mem ((c.tc : Thread Cert.QkCtxIdeal.nD Cert.QkCtxIdeal.τ).loc Cert.QkCtxIdeal.main_arg0) = m ((c.tc : Thread Cert.QkCtxIdeal.nD Cert.QkCtxIdeal.τ).loc Cert.QkCtxIdeal.main_arg0)
      ∧ r.2.mem ((c.tc : Thread Cert.QkCtxIdeal.nD Cert.QkCtxIdeal.τ).loc Cert.QkCtxIdeal.main_arg1) = m ((c.tc : Thread Cert.QkCtxIdeal.nD Cert.QkCtxIdeal.τ).loc Cert.QkCtxIdeal.main_arg1))
      ∧ r.2.sem = fun _ => 0)

def quiescent_QkCtxRefIdeal [hQkCtxRefIdeal : Cert.QkCtxRefIdeal.Facts] : Prop :=
  ∀ (m : (ℓ : Loc Cert.QkCtxRefIdeal.nD Cert.QkCtxRefIdeal.τ Cert.QkCtxRefIdeal.sig) → Buf (Elt Ideal) ℓ) (g : Dev Cert.QkCtxRefIdeal.nD → PrngReg), Pre_QkCtxRefIdeal m →
    θ_run (Cert.QkCtxRefIdeal.defs (F := Ideal)) (onTc (τ := Cert.QkCtxRefIdeal.τ) (Cert.QkCtxRefIdeal.main (F := Ideal))) ⟨m, fun _ => 0, g⟩ (fun r => (∀ c : Dev Cert.QkCtxRefIdeal.nD,
      r.2.mem ((c.tc : Thread Cert.QkCtxRefIdeal.nD Cert.QkCtxRefIdeal.τ).loc Cert.QkCtxRefIdeal.main_arg0) = m ((c.tc : Thread Cert.QkCtxRefIdeal.nD Cert.QkCtxRefIdeal.τ).loc Cert.QkCtxRefIdeal.main_arg0)
      ∧ r.2.mem ((c.tc : Thread Cert.QkCtxRefIdeal.nD Cert.QkCtxRefIdeal.τ).loc Cert.QkCtxRefIdeal.main_arg1) = m ((c.tc : Thread Cert.QkCtxRefIdeal.nD Cert.QkCtxRefIdeal.τ).loc Cert.QkCtxRefIdeal.main_arg1))
      ∧ r.2.sem = fun _ => 0)

def quiescent_QkCtxRefIdeal_pre_finite_heads [hQkCtxRefIdeal : Cert.QkCtxRefIdeal.Facts] [hPre_finite_heads : Cert.Pre_finite_heads.Facts] : Prop :=
  ∀ (m : (ℓ : Loc Cert.QkCtxRefIdeal.nD Cert.QkCtxRefIdeal.τ Cert.QkCtxRefIdeal.sig) → Buf (Elt Ideal) ℓ) (g : Dev Cert.QkCtxRefIdeal.nD → PrngReg), Pre_QkCtxRefIdeal_finite_heads m →
    θ_run (Cert.QkCtxRefIdeal.defs (F := Ideal)) (onTc (τ := Cert.QkCtxRefIdeal.τ) (Cert.QkCtxRefIdeal.main (F := Ideal))) ⟨m, fun _ => 0, g⟩ (fun r => (∀ c : Dev Cert.QkCtxRefIdeal.nD,
      r.2.mem ((c.tc : Thread Cert.QkCtxRefIdeal.nD Cert.QkCtxRefIdeal.τ).loc Cert.QkCtxRefIdeal.main_arg0) = m ((c.tc : Thread Cert.QkCtxRefIdeal.nD Cert.QkCtxRefIdeal.τ).loc Cert.QkCtxRefIdeal.main_arg0)
      ∧ r.2.mem ((c.tc : Thread Cert.QkCtxRefIdeal.nD Cert.QkCtxRefIdeal.τ).loc Cert.QkCtxRefIdeal.main_arg1) = m ((c.tc : Thread Cert.QkCtxRefIdeal.nD Cert.QkCtxRefIdeal.τ).loc Cert.QkCtxRefIdeal.main_arg1))
      ∧ r.2.sem = fun _ => 0)

def preserves_Moe_MoeIdeal : Prop :=
  True

def algebraic_MoeIdeal_MoeRefIdeal_pre_finite_route [hMoeIdeal : Cert.MoeIdeal.Facts] [hMoeRefIdeal : Cert.MoeRefIdeal.Facts] [hPre_finite_route : Cert.Pre_finite_route.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_finite_route m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)) →
    ∃ (v0 : (c : Dev Cert.MoeIdeal.nD) → Buf (Elt Ideal) ((c.tc : Thread Cert.MoeIdeal.nD Cert.MoeIdeal.τ).loc Cert.MoeIdeal.main_v18)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v18) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v188) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v64) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v14)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v14) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v47) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_AttnLat_AttnLatIdeal : Prop :=
  True

def algebraic_AttnLatIdeal_AttnLatRefIdeal_pre_finite_qk [hAttnLatIdeal : Cert.AttnLatIdeal.Facts] [hAttnLatRefIdeal : Cert.AttnLatRefIdeal.Facts] [hPre_finite_qk : Cert.Pre_finite_qk.Facts] : Prop :=
  ∀ (m : (ℓ : Loc Cert.AttnLatIdeal.nD Cert.AttnLatIdeal.τ Cert.AttnLatIdeal.sig) → Buf (Elt Ideal) ℓ) (g : Dev Cert.AttnLatIdeal.nD → PrngReg)
    (m' : (ℓ : Loc Cert.AttnLatRefIdeal.nD Cert.AttnLatRefIdeal.τ Cert.AttnLatRefIdeal.sig) → Buf (Elt Ideal) ℓ) (g' : Dev Cert.AttnLatRefIdeal.nD → PrngReg), Pre_AttnLatIdeal_finite_qk m →
    (∀ c : Dev Cert.AttnLatIdeal.nD,
      m' ((c.tc : Thread Cert.AttnLatRefIdeal.nD Cert.AttnLatRefIdeal.τ).loc Cert.AttnLatRefIdeal.main_arg0) = m ((c.tc : Thread Cert.AttnLatIdeal.nD Cert.AttnLatIdeal.τ).loc Cert.AttnLatIdeal.main_arg0)
      ∧ m' ((c.tc : Thread Cert.AttnLatRefIdeal.nD Cert.AttnLatRefIdeal.τ).loc Cert.AttnLatRefIdeal.main_arg1) = m ((c.tc : Thread Cert.AttnLatIdeal.nD Cert.AttnLatIdeal.τ).loc Cert.AttnLatIdeal.main_arg1)
      ∧ m' ((c.tc : Thread Cert.AttnLatRefIdeal.nD Cert.AttnLatRefIdeal.τ).loc Cert.AttnLatRefIdeal.main_arg2) = m ((c.tc : Thread Cert.AttnLatIdeal.nD Cert.AttnLatIdeal.τ).loc Cert.AttnLatIdeal.main_arg2)
      ∧ m' ((c.tc : Thread Cert.AttnLatRefIdeal.nD Cert.AttnLatRefIdeal.τ).loc Cert.AttnLatRefIdeal.main_arg3) = m ((c.tc : Thread Cert.AttnLatIdeal.nD Cert.AttnLatIdeal.τ).loc Cert.AttnLatIdeal.main_arg3)
      ∧ m' ((c.tc : Thread Cert.AttnLatRefIdeal.nD Cert.AttnLatRefIdeal.τ).loc Cert.AttnLatRefIdeal.main_arg4) = m ((c.tc : Thread Cert.AttnLatIdeal.nD Cert.AttnLatIdeal.τ).loc Cert.AttnLatIdeal.main_arg4)) →
    ∃ (v0 : (c : Dev Cert.AttnLatIdeal.nD) → Buf (Elt Ideal) ((c.tc : Thread Cert.AttnLatIdeal.nD Cert.AttnLatIdeal.τ).loc Cert.AttnLatIdeal.main_v8)),
      θ_run (Cert.AttnLatIdeal.defs (F := Ideal)) (onTc (τ := Cert.AttnLatIdeal.τ) (Cert.AttnLatIdeal.main (F := Ideal))) ⟨m, fun _ => 0, g⟩ (fun r => ∀ c : Dev Cert.AttnLatIdeal.nD,
          r.2.mem ((c.tc : Thread Cert.AttnLatIdeal.nD Cert.AttnLatIdeal.τ).loc Cert.AttnLatIdeal.main_v8) = v0 c
          ∧ r.2.mem ((c.tc : Thread Cert.AttnLatIdeal.nD Cert.AttnLatIdeal.τ).loc Cert.AttnLatIdeal.main_arg0) = m ((c.tc : Thread Cert.AttnLatIdeal.nD Cert.AttnLatIdeal.τ).loc Cert.AttnLatIdeal.main_arg0)
          ∧ r.2.mem ((c.tc : Thread Cert.AttnLatIdeal.nD Cert.AttnLatIdeal.τ).loc Cert.AttnLatIdeal.main_arg1) = m ((c.tc : Thread Cert.AttnLatIdeal.nD Cert.AttnLatIdeal.τ).loc Cert.AttnLatIdeal.main_arg1)
          ∧ r.2.mem ((c.tc : Thread Cert.AttnLatIdeal.nD Cert.AttnLatIdeal.τ).loc Cert.AttnLatIdeal.main_arg2) = m ((c.tc : Thread Cert.AttnLatIdeal.nD Cert.AttnLatIdeal.τ).loc Cert.AttnLatIdeal.main_arg2)
          ∧ r.2.mem ((c.tc : Thread Cert.AttnLatIdeal.nD Cert.AttnLatIdeal.τ).loc Cert.AttnLatIdeal.main_arg3) = m ((c.tc : Thread Cert.AttnLatIdeal.nD Cert.AttnLatIdeal.τ).loc Cert.AttnLatIdeal.main_arg3)
          ∧ r.2.mem ((c.tc : Thread Cert.AttnLatIdeal.nD Cert.AttnLatIdeal.τ).loc Cert.AttnLatIdeal.main_arg4) = m ((c.tc : Thread Cert.AttnLatIdeal.nD Cert.AttnLatIdeal.τ).loc Cert.AttnLatIdeal.main_arg4))
      ∧ θ_run (Cert.AttnLatRefIdeal.defs (F := Ideal)) (onTc (τ := Cert.AttnLatRefIdeal.τ) (Cert.AttnLatRefIdeal.main (F := Ideal))) ⟨m', fun _ => 0, g'⟩ (fun r => ∀ c : Dev Cert.AttnLatRefIdeal.nD,
          r.2.mem ((c.tc : Thread Cert.AttnLatRefIdeal.nD Cert.AttnLatRefIdeal.τ).loc Cert.AttnLatRefIdeal.main_v23) = v0 c
          ∧ r.2.mem ((c.tc : Thread Cert.AttnLatRefIdeal.nD Cert.AttnLatRefIdeal.τ).loc Cert.AttnLatRefIdeal.main_arg0) = m' ((c.tc : Thread Cert.AttnLatRefIdeal.nD Cert.AttnLatRefIdeal.τ).loc Cert.AttnLatRefIdeal.main_arg0)
          ∧ r.2.mem ((c.tc : Thread Cert.AttnLatRefIdeal.nD Cert.AttnLatRefIdeal.τ).loc Cert.AttnLatRefIdeal.main_arg1) = m' ((c.tc : Thread Cert.AttnLatRefIdeal.nD Cert.AttnLatRefIdeal.τ).loc Cert.AttnLatRefIdeal.main_arg1)
          ∧ r.2.mem ((c.tc : Thread Cert.AttnLatRefIdeal.nD Cert.AttnLatRefIdeal.τ).loc Cert.AttnLatRefIdeal.main_arg2) = m' ((c.tc : Thread Cert.AttnLatRefIdeal.nD Cert.AttnLatRefIdeal.τ).loc Cert.AttnLatRefIdeal.main_arg2)
          ∧ r.2.mem ((c.tc : Thread Cert.AttnLatRefIdeal.nD Cert.AttnLatRefIdeal.τ).loc Cert.AttnLatRefIdeal.main_arg3) = m' ((c.tc : Thread Cert.AttnLatRefIdeal.nD Cert.AttnLatRefIdeal.τ).loc Cert.AttnLatRefIdeal.main_arg3)
          ∧ r.2.mem ((c.tc : Thread Cert.AttnLatRefIdeal.nD Cert.AttnLatRefIdeal.τ).loc Cert.AttnLatRefIdeal.main_arg4) = m' ((c.tc : Thread Cert.AttnLatRefIdeal.nD Cert.AttnLatRefIdeal.τ).loc Cert.AttnLatRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v88) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12))

def preserves_QkCtx_QkCtxIdeal : Prop :=
  True

def algebraic_QkCtxIdeal_QkCtxRefIdeal_pre_finite_heads [hQkCtxIdeal : Cert.QkCtxIdeal.Facts] [hQkCtxRefIdeal : Cert.QkCtxRefIdeal.Facts] [hPre_finite_heads : Cert.Pre_finite_heads.Facts] : Prop :=
  ∀ (m : (ℓ : Loc Cert.QkCtxIdeal.nD Cert.QkCtxIdeal.τ Cert.QkCtxIdeal.sig) → Buf (Elt Ideal) ℓ) (g : Dev Cert.QkCtxIdeal.nD → PrngReg)
    (m' : (ℓ : Loc Cert.QkCtxRefIdeal.nD Cert.QkCtxRefIdeal.τ Cert.QkCtxRefIdeal.sig) → Buf (Elt Ideal) ℓ) (g' : Dev Cert.QkCtxRefIdeal.nD → PrngReg), Pre_QkCtxIdeal_finite_heads m →
    (∀ c : Dev Cert.QkCtxIdeal.nD,
      m' ((c.tc : Thread Cert.QkCtxRefIdeal.nD Cert.QkCtxRefIdeal.τ).loc Cert.QkCtxRefIdeal.main_arg0) = m ((c.tc : Thread Cert.QkCtxIdeal.nD Cert.QkCtxIdeal.τ).loc Cert.QkCtxIdeal.main_arg0)
      ∧ m' ((c.tc : Thread Cert.QkCtxRefIdeal.nD Cert.QkCtxRefIdeal.τ).loc Cert.QkCtxRefIdeal.main_arg1) = m ((c.tc : Thread Cert.QkCtxIdeal.nD Cert.QkCtxIdeal.τ).loc Cert.QkCtxIdeal.main_arg1)) →
    ∃ (v0 : (c : Dev Cert.QkCtxIdeal.nD) → Buf (Elt Ideal) ((c.tc : Thread Cert.QkCtxIdeal.nD Cert.QkCtxIdeal.τ).loc Cert.QkCtxIdeal.main_v21_0)) (v1 : (c : Dev Cert.QkCtxIdeal.nD) → Buf (Elt Ideal) ((c.tc : Thread Cert.QkCtxIdeal.nD Cert.QkCtxIdeal.τ).loc Cert.QkCtxIdeal.main_v21_1)) (v2 : (c : Dev Cert.QkCtxIdeal.nD) → Buf (Elt Ideal) ((c.tc : Thread Cert.QkCtxIdeal.nD Cert.QkCtxIdeal.τ).loc Cert.QkCtxIdeal.main_v21_2)),
      θ_run (Cert.QkCtxIdeal.defs (F := Ideal)) (onTc (τ := Cert.QkCtxIdeal.τ) (Cert.QkCtxIdeal.main (F := Ideal))) ⟨m, fun _ => 0, g⟩ (fun r => ∀ c : Dev Cert.QkCtxIdeal.nD,
          r.2.mem ((c.tc : Thread Cert.QkCtxIdeal.nD Cert.QkCtxIdeal.τ).loc Cert.QkCtxIdeal.main_v21_0) = v0 c
          ∧ r.2.mem ((c.tc : Thread Cert.QkCtxIdeal.nD Cert.QkCtxIdeal.τ).loc Cert.QkCtxIdeal.main_v21_1) = v1 c
          ∧ r.2.mem ((c.tc : Thread Cert.QkCtxIdeal.nD Cert.QkCtxIdeal.τ).loc Cert.QkCtxIdeal.main_v21_2) = v2 c
          ∧ r.2.mem ((c.tc : Thread Cert.QkCtxIdeal.nD Cert.QkCtxIdeal.τ).loc Cert.QkCtxIdeal.main_arg0) = m ((c.tc : Thread Cert.QkCtxIdeal.nD Cert.QkCtxIdeal.τ).loc Cert.QkCtxIdeal.main_arg0)
          ∧ r.2.mem ((c.tc : Thread Cert.QkCtxIdeal.nD Cert.QkCtxIdeal.τ).loc Cert.QkCtxIdeal.main_arg1) = m ((c.tc : Thread Cert.QkCtxIdeal.nD Cert.QkCtxIdeal.τ).loc Cert.QkCtxIdeal.main_arg1))
      ∧ θ_run (Cert.QkCtxRefIdeal.defs (F := Ideal)) (onTc (τ := Cert.QkCtxRefIdeal.τ) (Cert.QkCtxRefIdeal.main (F := Ideal))) ⟨m', fun _ => 0, g'⟩ (fun r => ∀ c : Dev Cert.QkCtxRefIdeal.nD,
          r.2.mem ((c.tc : Thread Cert.QkCtxRefIdeal.nD Cert.QkCtxRefIdeal.τ).loc Cert.QkCtxRefIdeal.main_v37) = v0 c
          ∧ r.2.mem ((c.tc : Thread Cert.QkCtxRefIdeal.nD Cert.QkCtxRefIdeal.τ).loc Cert.QkCtxRefIdeal.main_v39) = v1 c
          ∧ r.2.mem ((c.tc : Thread Cert.QkCtxRefIdeal.nD Cert.QkCtxRefIdeal.τ).loc Cert.QkCtxRefIdeal.main_v40) = v2 c
          ∧ r.2.mem ((c.tc : Thread Cert.QkCtxRefIdeal.nD Cert.QkCtxRefIdeal.τ).loc Cert.QkCtxRefIdeal.main_arg0) = m' ((c.tc : Thread Cert.QkCtxRefIdeal.nD Cert.QkCtxRefIdeal.τ).loc Cert.QkCtxRefIdeal.main_arg0)
          ∧ r.2.mem ((c.tc : Thread Cert.QkCtxRefIdeal.nD Cert.QkCtxRefIdeal.τ).loc Cert.QkCtxRefIdeal.main_arg1) = m' ((c.tc : Thread Cert.QkCtxRefIdeal.nD Cert.QkCtxRefIdeal.τ).loc Cert.QkCtxRefIdeal.main_arg1))

def Claim : Prop :=
  ∃ (hMoe : Cert.Moe.Facts) (hMoeIdeal : Cert.MoeIdeal.Facts) (hMoeRefIdeal : Cert.MoeRefIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hAttnLat : Cert.AttnLat.Facts) (hAttnLatIdeal : Cert.AttnLatIdeal.Facts) (hAttnLatRefIdeal : Cert.AttnLatRefIdeal.Facts) (hMerge : Cert.Merge.Facts) (hMergeIdeal : Cert.MergeIdeal.Facts) (hMergeRefIdeal : Cert.MergeRefIdeal.Facts) (hQkCtx : Cert.QkCtx.Facts) (hQkCtxIdeal : Cert.QkCtxIdeal.Facts) (hQkCtxRefIdeal : Cert.QkCtxRefIdeal.Facts) (hPre_finite_route : Cert.Pre_finite_route.Facts) (hPre_finite_qk : Cert.Pre_finite_qk.Facts) (hPre_finite_heads : Cert.Pre_finite_heads.Facts),
    quiescent_Moe (hMoe := hMoe)
    ∧ quiescent_MoeIdeal (hMoeIdeal := hMoeIdeal)
    ∧ quiescent_MoeIdeal_pre_finite_route (hMoeIdeal := hMoeIdeal) (hPre_finite_route := hPre_finite_route)
    ∧ quiescent_MoeRefIdeal (hMoeRefIdeal := hMoeRefIdeal)
    ∧ quiescent_MoeRefIdeal_pre_finite_route (hMoeRefIdeal := hMoeRefIdeal) (hPre_finite_route := hPre_finite_route)
    ∧ quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_AttnLat (hAttnLat := hAttnLat)
    ∧ quiescent_AttnLatIdeal (hAttnLatIdeal := hAttnLatIdeal)
    ∧ quiescent_AttnLatIdeal_pre_finite_qk (hAttnLatIdeal := hAttnLatIdeal) (hPre_finite_qk := hPre_finite_qk)
    ∧ quiescent_AttnLatRefIdeal (hAttnLatRefIdeal := hAttnLatRefIdeal)
    ∧ quiescent_AttnLatRefIdeal_pre_finite_qk (hAttnLatRefIdeal := hAttnLatRefIdeal) (hPre_finite_qk := hPre_finite_qk)
    ∧ quiescent_Merge (hMerge := hMerge)
    ∧ quiescent_MergeIdeal (hMergeIdeal := hMergeIdeal)
    ∧ quiescent_MergeRefIdeal (hMergeRefIdeal := hMergeRefIdeal)
    ∧ quiescent_QkCtx (hQkCtx := hQkCtx)
    ∧ quiescent_QkCtxIdeal (hQkCtxIdeal := hQkCtxIdeal)
    ∧ quiescent_QkCtxIdeal_pre_finite_heads (hQkCtxIdeal := hQkCtxIdeal) (hPre_finite_heads := hPre_finite_heads)
    ∧ quiescent_QkCtxRefIdeal (hQkCtxRefIdeal := hQkCtxRefIdeal)
    ∧ quiescent_QkCtxRefIdeal_pre_finite_heads (hQkCtxRefIdeal := hQkCtxRefIdeal) (hPre_finite_heads := hPre_finite_heads)
    ∧ preserves_Moe_MoeIdeal
    ∧ algebraic_MoeIdeal_MoeRefIdeal_pre_finite_route (hMoeIdeal := hMoeIdeal) (hMoeRefIdeal := hMoeRefIdeal) (hPre_finite_route := hPre_finite_route)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
    ∧ preserves_AttnLat_AttnLatIdeal
    ∧ algebraic_AttnLatIdeal_AttnLatRefIdeal_pre_finite_qk (hAttnLatIdeal := hAttnLatIdeal) (hAttnLatRefIdeal := hAttnLatRefIdeal) (hPre_finite_qk := hPre_finite_qk)
    ∧ preserves_Merge_MergeIdeal
    ∧ algebraic_MergeIdeal_MergeRefIdeal (hMergeIdeal := hMergeIdeal) (hMergeRefIdeal := hMergeRefIdeal)
    ∧ preserves_QkCtx_QkCtxIdeal
    ∧ algebraic_QkCtxIdeal_QkCtxRefIdeal_pre_finite_heads (hQkCtxIdeal := hQkCtxIdeal) (hQkCtxRefIdeal := hQkCtxRefIdeal) (hPre_finite_heads := hPre_finite_heads)
-- ==== Pre_finite_heads.lean ====
abbrev S12288x6144 : Shape := ⟨2, ![12288, 6144]⟩
abbrev S2x64 : Shape := ⟨2, ![2, 64]⟩
abbrev S4096x512 : Shape := ⟨2, ![4096, 512]⟩
abbrev S_ : Shape := ⟨0, ![]⟩
abbrev S4096x128 : Shape := ⟨2, ![4096, 128]⟩

class Facts : Prop where
  slices_S12288x6144_S4096x512_0_4608 : S12288x6144.Slices ![0, 4608] S4096x512
  bcast_S_S4096x512 : S_.BroadcastsInDim S4096x512 (![] : Fin 0 → Fin S4096x512.rank)
  reducesTo_S4096x512_S_d0_1 : S4096x512.ReducesTo [0, 1] S_
  h_S_ : 0 < S_.numel
  slices_S12288x6144_S4096x128_0_5632 : S12288x6144.Slices ![0, 5632] S4096x128
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S12288x6144 .f32) (main_arg1 : FVec F S2x64 .f32) : IVec S_ 1 :=
  let main_v0 : FVec F S4096x512 .f32 := (extractStridedSlice S4096x512 ![0, 4608] · slices_S12288x6144_S4096x512_0_4608) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_c : IVec S_ 1 := constantI S_ 1 1#1
  let main_v4 : IVec S_ 1 := (fun x v => Host.reduce IntOp.andi x v reducesTo_S4096x512_S_d0_1 h_S_) main_v3 main_c
  let main_v5 : FVec F S4096x128 .f32 := (extractStridedSlice S4096x128 ![0, 5632] · slices_S12288x6144_S4096x128_0_5632) main_arg0
  let main_v6 : FVec F S4096x128 .f32 := Host.absf main_v5
  let main_cst_0 : FVec F S_ .f32 := constant S_ .f32 0x7F800000#32
  let main_v7 : FVec F S4096x128 .f32 := broadcastInDim S4096x128 ![] bcast_S_S4096x128 main_cst_0
  let main_v8 : IVec S4096x128 1 := cmpf .olt main_v6 main_v7
  let main_c_1 : IVec S_ 1 := constantI S_ 1 1#1
  let main_v9 : IVec S_ 1 := (fun x v => Host.reduce IntOp.andi x v reducesTo_S4096x128_S_d0_1 h_S_) main_v8 main_c_1
  let main_v10 : IVec S_ 1 := andi main_v4 main_v9
  main_v10
-- ==== Pre_finite_qk.lean ====
abbrev S4x2048x8x64 : Shape := ⟨4, ![4, 2048, 8, 64]⟩
abbrev S4x2048x2x64 : Shape := ⟨4, ![4, 2048, 2, 64]⟩
abbrev S12288x6144 : Shape := ⟨2, ![12288, 6144]⟩
abbrev S4x512x2x64 : Shape := ⟨4, ![4, 512, 2, 64]⟩
abbrev S_ : Shape := ⟨0, ![]⟩

class Facts : Prop where
  bcast_S_S4x2048x8x64 : S_.BroadcastsInDim S4x2048x8x64 (![] : Fin 0 → Fin S4x2048x8x64.rank)
  reducesTo_S4x2048x8x64_S_d0_1_2_3 : S4x2048x8x64.ReducesTo [0, 1, 2, 3] S_
  h_S_ : 0 < S_.numel
  bcast_S_S4x2048x2x64 : S_.BroadcastsInDim S4x2048x2x64 (![] : Fin 0 → Fin S4x2048x2x64.rank)
  reducesTo_S4x2048x2x64_S_d0_1_2_3 : S4x2048x2x64.ReducesTo [0, 1, 2, 3] S_
  bcast_S_S4x512x2x64 : S_.BroadcastsInDim S4x512x2x64 (![] : Fin 0 → Fin S4x512x2x64.rank)
  reducesTo_S4x512x2x64_S_d0_1_2_3 : S4x512x2x64.ReducesTo [0, 1, 2, 3] S_

variable [Facts]

def fn {F : FTy → Type} [FloatOps F] (main_arg0 : FVec F S4x2048x8x64 .f32) (main_arg1 : FVec F S4x2048x2x64 .f32) (main_arg2 : FVec F S12288x6144 .f32) (main_arg3 : FVec F S4x512x2x64 .f32) (main_arg4 : FVec F S4x512x2x64 .f32) : IVec S_ 1 :=
  let main_v0 : FVec F S4x2048x8x64 .f32 := Host.absf main_arg0
  let main_cst : FVec F S_ .f32 := constant S_ .f32 0x7F800000#32
  let main_v1 : FVec F S4x2048x8x64 .f32 := broadcastInDim S4x2048x8x64 ![] bcast_S_S4x2048x8x64 main_cst
  let main_v2 : IVec S4x2048x8x64 1 := cmpf .olt main_v0 main_v1
  let main_c : IVec S_ 1 := constantI S_ 1 1#1
  let main_v3 : IVec S_ 1 := (fun x v => Host.reduce IntOp.andi x v reducesTo_S4x2048x8x64_S_d0_1_2_3 h_S_) main_v2 main_c
  let main_v4 : FVec F S4x2048x2x64 .f32 := Host.absf main_arg1
  let main_cst_0 : FVec F S_ .f32 := constant S_ .f32 0x7F800000#32
  let main_v5 : FVec F S4x2048x2x64 .f32 := broadcastInDim S4x2048x2x64 ![] bcast_S_S4x2048x2x64 main_cst_0
  let main_v6 : IVec S4x2048x2x64 1 := cmpf .olt main_v4 main_v5
  let main_c_1 : IVec S_ 1 := constantI S_ 1 1#1
  let main_v7 : IVec S_ 1 := (fun x v => Host.reduce IntOp.andi x v reducesTo_S4x2048x2x64_S_d0_1_2_3 h_S_) main_v6 main_c_1
  let main_v8 : IVec S_ 1 := andi main_v3 main_v7
  let main_v9 : FVec F S4x512x2x64 .f32 := Host.absf main_arg3
  let main_cst_2 : FVec F S_ .f32 := constant S_ .f32 0x7F800000#32
  let main_v10 : FVec F S4x512x2x64 .f32 := broadcastInDim S4x512x2x64 ![] bcast_S_S4x512x2x64 main_cst_2
  let main_v11 : IVec S4x512x2x64 1 := cmpf .olt main_v9 main_v10
  let main_c_3 : IVec S_ 1 := constantI S_ 1 1#1
  let main_v12 : IVec S_ 1 := (fun x v => Host.reduce IntOp.andi x v reducesTo_S4x512x2x64_S_d0_1_2_3 h_S_) main_v11 main_c_3
  let main_v13 : IVec S_ 1 := andi main_v8 main_v12
  main_v13
-- ==== Pre_finite_route.lean ====
abbrev S12288x1024 : Shape := ⟨2, ![12288, 1024]⟩
abbrev S8x6x1024 : Shape := ⟨3, ![8, 6, 1024]⟩
abbrev S1024 : Shape := ⟨1, ![1024]⟩
abbrev S1024x8 : Shape := ⟨2, ![1024, 8]⟩
abbrev S8 : Shape := ⟨1, ![8]⟩
abbrev S8x1024x2816 : Shape := ⟨3, ![8, 1024, 2816]⟩
abbrev S8x1408x1024 : Shape := ⟨3, ![8, 1408, 1024]⟩
abbrev S_ : Shape := ⟨0, ![]⟩

class Facts : Prop where
  bcast_S_S12288x1024 : S_.BroadcastsInDim S12288x1024 (![] : Fin 0 → Fin S12288x1024.rank)
  reducesTo_S12288x1024_S_d0_1 : S12288x1024.ReducesTo [0, 1] S_
  h_S_ : 0 < S_.numel
  bcast_S_S8x6x1024 : S_.BroadcastsInDim S8x6x1024 (![] : Fin 0 → Fin S8x6x1024.rank)
  reducesTo_S8x6x1024_S_d0_1_2 : S8x6x1024.ReducesTo [0, 1, 2] S_
  bcast_S_S1024 : S_.BroadcastsInDim S1024 (![] : Fin 0 → Fin S1024.rank)
  reducesTo_S1024_S_d0 : S1024.ReducesTo [0] S_
  bcast_S_S1024x8 : S_.BroadcastsInDim S1024x8 (![] : Fin 0 → Fin S1024x8.rank)
  reducesTo_S1024x8_S_d0_1 : S1024x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S1024x8 1) : IVec S_ 1 :=
  let main_c_5 : IVec S_ 1 := constantI S_ 1 1#1
  let main_v17 : IVec S_ 1 := (fun x v => Host.reduce IntOp.andi x v reducesTo_S1024x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S12288x1024 .f32) (main_arg1 : FVec F S8x6x1024 .f32) (main_arg2 : FVec F S1024 .f32) (main_arg3 : FVec F S1024 .f32) (main_arg4 : FVec F S1024x8 .f32) (main_arg5 : FVec F S8 .f32) (main_arg6 : FVec F S8x1024x2816 .f32) (main_arg7 : FVec F S8x1408x1024 .f32) : IVec S_ 1 :=
  let main_v0 : FVec F S12288x1024 .f32 := Host.absf main_arg0
  let main_cst : FVec F S_ .f32 := constant S_ .f32 0x7F800000#32
  let main_v1 : FVec F S12288x1024 .f32 := broadcastInDim S12288x1024 ![] bcast_S_S12288x1024 main_cst
  let main_v2 : IVec S12288x1024 1 := cmpf .olt main_v0 main_v1
  let main_c : IVec S_ 1 := constantI S_ 1 1#1
  let main_v3 : IVec S_ 1 := (fun x v => Host.reduce IntOp.andi x v reducesTo_S12288x1024_S_d0_1 h_S_) main_v2 main_c
  let main_v4 : FVec F S8x6x1024 .f32 := Host.absf main_arg1
  let main_cst_0 : FVec F S_ .f32 := constant S_ .f32 0x7F800000#32
  let main_v5 : FVec F S8x6x1024 .f32 := broadcastInDim S8x6x1024 ![] bcast_S_S8x6x1024 main_cst_0
  let main_v6 : IVec S8x6x1024 1 := cmpf .olt main_v4 main_v5
  let main_c_1 : IVec S_ 1 := constantI S_ 1 1#1
  let main_v7 : IVec S_ 1 := (fun x v => Host.reduce IntOp.andi x v reducesTo_S8x6x1024_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x8 .f32 := Host.absf main_arg4
  let main_cst_4 : FVec F S_ .f32 := constant S_ .f32 0x7F800000#32
  let main_v15 : FVec F S1024x8 .f32 := broadcastInDim S1024x8 ![] bcast_S_S1024x8 main_cst_4
  let main_v16 : IVec S1024x8 1 := cmpf .olt main_v14 main_v15
  fn_part1 (F := F) main_arg5 main_v13 main_v16
-- ==== Moe.lean ====
abbrev S12288x1024 : Shape := ⟨2, ![12288, 1024]⟩
abbrev S8x6x1024 : Shape := ⟨3, ![8, 6, 1024]⟩
abbrev S1024 : Shape := ⟨1, ![1024]⟩
abbrev S1024x8 : Shape := ⟨2, ![1024, 8]⟩
abbrev S8 : Shape := ⟨1, ![8]⟩
abbrev S8x1024x2816 : Shape := ⟨3, ![8, 1024, 2816]⟩
abbrev S8x1408x1024 : Shape := ⟨3, ![8, 1408, 1024]⟩
abbrev S_ : Shape := ⟨0, ![]⟩
abbrev S1024x128 : Shape := ⟨2, ![1024, 128]⟩
abbrev S1x1024x128 : Shape := ⟨3, ![1, 1024, 128]⟩
abbrev S3x1024x128 : Shape := ⟨3, ![3, 1024, 128]⟩
abbrev S128 : Shape := ⟨1, ![128]⟩
abbrev S1x128 : Shape := ⟨2, ![1, 128]⟩
abbrev S1x1024 : Shape := ⟨2, ![1, 1024]⟩
abbrev S512x1024 : Shape := ⟨2, ![512, 1024]⟩
abbrev S1x6x1024 : Shape := ⟨3, ![1, 6, 1024]⟩
abbrev S1x1024x2816 : Shape := ⟨3, ![1, 1024, 2816]⟩
abbrev S1x1408x1024 : Shape := ⟨3, ![1, 1408, 1024]⟩
abbrev S512x128 : Shape := ⟨2, ![512, 128]⟩
abbrev S512 : Shape := ⟨1, ![512]⟩
abbrev S512x1 : Shape := ⟨2, ![512, 1]⟩
abbrev S1x1x1024 : Shape := ⟨3, ![1, 1, 1024]⟩
abbrev S1x1024x1408 : Shape := ⟨3, ![1, 1024, 1408]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 31
  | .vmem => 17
  | .smem => 0
  | _ => 0

abbrev bufTy : (tb : Table) → Fin (tcTables nBuf tb) → BufTy
  | .hbm, ⟨0, _⟩ => ⟨S12288x1024, .f32⟩
  | .hbm, ⟨1, _⟩ => ⟨S8x6x1024, .f32⟩
  | .hbm, ⟨2, _⟩ => ⟨S1024, .f32⟩
  | .hbm, ⟨3, _⟩ => ⟨S1024, .f32⟩
  | .hbm, ⟨4, _⟩ => ⟨S1024x8, .f32⟩
  | .hbm, ⟨5, _⟩ => ⟨S8, .f32⟩
  | .hbm, ⟨6, _⟩ => ⟨S8x1024x2816, .f32⟩
  | .hbm, ⟨7, _⟩ => ⟨S8x1408x1024, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S1024x128, .f32⟩
  | .hbm, ⟨13, _⟩ => ⟨S1024x128, .f32⟩
  | .hbm, ⟨14, _⟩ => ⟨S1024x128, .bf16⟩
  | .hbm, ⟨15, _⟩ => ⟨S1024x128, .f32⟩
  | .hbm, ⟨16, _⟩ => ⟨S1024x128, .f32⟩
  | .hbm, ⟨17, _⟩ => ⟨S1024x128, .bf16⟩
  | .hbm, ⟨18, _⟩ => ⟨S1x1024x128, .bf16⟩
  | .hbm, ⟨19, _⟩ => ⟨S1x1024x128, .bf16⟩
  | .hbm, ⟨20, _⟩ => ⟨S1x1024x128, .bf16⟩
  | .hbm, ⟨21, _⟩ => ⟨S3x1024x128, .bf16⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S1x1024, .f32⟩
  | .hbm, ⟨27, _⟩ => ⟨S1x1024, .f32⟩
  | .hbm, ⟨28, _⟩ => ⟨S8x1024x2816, .bf16⟩
  | .hbm, ⟨29, _⟩ => ⟨S8x1408x1024, .bf16⟩
  | .hbm, ⟨30, _⟩ => ⟨S12288x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024, .f32⟩
  | .local _ .vmem, ⟨6, _⟩ => ⟨S3x1024x128, .bf16⟩
  | .local _ .vmem, ⟨7, _⟩ => ⟨S1x128, .f32⟩
  | .local _ .vmem, ⟨8, _⟩ => ⟨S1x1024x2816, .bf16⟩
  | .local _ .vmem, ⟨9, _⟩ => ⟨S1x1024x2816, .bf16⟩
  | .local _ .vmem, ⟨10, _⟩ => ⟨S1x1408x1024, .bf16⟩
  | .local _ .vmem, ⟨11, _⟩ => ⟨S1x1408x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x128, .f32⟩
  | .local _ .vmem, ⟨16, _⟩ => ⟨S512x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_call1_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![24, 8], ![false, false]⟩

def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_23 : BitVec 32 := 0#32
  let v40 : BitVec 1 := Scalar.cmpi .ne v39 c0_i32_23
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MoeRefIdeal.lean ====
abbrev S12288x1024 : Shape := ⟨2, ![12288, 1024]⟩
abbrev S8x6x1024 : Shape := ⟨3, ![8, 6, 1024]⟩
abbrev S1024 : Shape := ⟨1, ![1024]⟩
abbrev S1024x8 : Shape := ⟨2, ![1024, 8]⟩
abbrev S8 : Shape := ⟨1, ![8]⟩
abbrev S8x1024x2816 : Shape := ⟨3, ![8, 1024, 2816]⟩
abbrev S8x1408x1024 : Shape := ⟨3, ![8, 1408, 1024]⟩
abbrev S1x1x1024 : Shape := ⟨3, ![1, 1, 1024]⟩
abbrev S1x1024 : Shape := ⟨2, ![1, 1024]⟩
abbrev S4096x1024 : Shape := ⟨2, ![4096, 1024]⟩
abbrev S4x1x1024 : Shape := ⟨3, ![4, 1, 1024]⟩
abbrev S4x1024 : Shape := ⟨2, ![4, 1024]⟩
abbrev S4x2048x1024 : Shape := ⟨3, ![4, 2048, 1024]⟩
abbrev S8192x1024 : Shape := ⟨2, ![8192, 1024]⟩
abbrev S_ : Shape := ⟨0, ![]⟩
abbrev S12288 : Shape := ⟨1, ![12288]⟩
abbrev S12288x1 : Shape := ⟨2, ![12288, 1]⟩
abbrev S12288x8 : Shape := ⟨2, ![12288, 8]⟩
abbrev S1x8 : Shape := ⟨2, ![1, 8]⟩
abbrev S12288x2 : Shape := ⟨2, ![12288, 2]⟩
abbrev S12288x2x1 : Shape := ⟨3, ![12288, 2, 1]⟩
abbrev S1x1x8 : Shape := ⟨3, ![1, 1, 8]⟩
abbrev S12288x2x8 : Shape := ⟨3, ![12288, 2, 8]⟩
abbrev S1x1024x2816 : Shape := ⟨3, ![1, 1024, 2816]⟩
abbrev S1024x2816 : Shape := ⟨2, ![1024, 2816]⟩
abbrev S1x1408x1024 : Shape := ⟨3, ![1, 1408, 1024]⟩
abbrev S1408x1024 : Shape := ⟨2, ![1408, 1024]⟩
abbrev S12288x2816 : Shape := ⟨2, ![12288, 2816]⟩
abbrev S12288x1408 : Shape := ⟨2, ![12288, 1408]⟩

abbrev nBuf : Space → Nat
  | .hbm => 279
  | .vmem => 0
  | .smem => 0
  | _ => 0

abbrev hbmTy0_0 (i : Nat) : BufTy := match i % 128 with
  | 0 => ⟨S12288x1024, .f32⟩
  | 1 => ⟨S8x6x1024, .f32⟩
  | 2 => ⟨S1024, .f32⟩
  | 3 => ⟨S1024, .f32⟩
  | 4 => ⟨S1024x8, .f32⟩
  | 5 => ⟨S8, .f32⟩
  | 6 => ⟨S8x1024x2816, .f32⟩
  | 7 => ⟨S8x1408x1024, .f32⟩
  | 8 => ⟨S1x1x1024, .f32⟩
  | 9 => ⟨S1x1024, .f32⟩
  | 10 => ⟨S4096x1024, .f32⟩
  | 11 => ⟨S4x1x1024, .f32⟩
  | 12 => ⟨S4x1024, .f32⟩
  | 13 => ⟨S4x1x1024, .f32⟩
  | 14 => ⟨S4x2048x1024, .f32⟩
  | 15 => ⟨S8192x1024, .f32⟩
  | 16 => ⟨S12288x1024, .f32⟩
  | 17 => ⟨S1x1x1024, .f32⟩
  | 18 => ⟨S1x1024, .f32⟩
  | 19 => ⟨S4096x1024, .f32⟩
  | 20 => ⟨S4x1x1024, .f32⟩
  | 21 => ⟨S4x1024, .f32⟩
  | 22 => ⟨S4x1x1024, .f32⟩
  | 23 => ⟨S4x2048x1024, .f32⟩
  | 24 => ⟨S8192x1024, .f32⟩
  | 25 => ⟨S12288x1024, .f32⟩
  | 26 => ⟨S1x1x1024, .f32⟩
  | 27 => ⟨S1x1024, .f32⟩
  | 28 => ⟨S4096x1024, .f32⟩
  | 29 => ⟨S4x1x1024, .f32⟩
  | 30 => ⟨S4x1024, .f32⟩
  | 31 => ⟨S4x1x1024, .f32⟩
  | 32 => ⟨S4x2048x1024, .f32⟩
  | 33 => ⟨S8192x1024, .f32⟩
  | 34 => ⟨S12288x1024, .f32⟩
  | 35 => ⟨S12288x1024, .f32⟩
  | 36 => ⟨S_, .f32⟩
  | 37 => ⟨S12288, .f32⟩
  | 38 => ⟨S12288x1, .f32⟩
  | 39 => ⟨S_, .f32⟩
  | 40 => ⟨S12288x1, .f32⟩
  | 41 => ⟨S12288x1, .f32⟩
  | 42 => ⟨S_, .f32⟩
  | 43 => ⟨S12288x1, .f32⟩
  | 44 => ⟨S12288x1, .f32⟩
  | 45 => ⟨S12288x1, .f32⟩
  | 46 => ⟨S12288x1024, .f32⟩
  | 47 => ⟨S12288x1024, .f32⟩
  | 48 => ⟨S1x1024, .f32⟩
  | 49 => ⟨S12288x1024, .f32⟩
  | 50 => ⟨S12288x1024, .f32⟩
  | 51 => ⟨S_, .f32⟩
  | 52 => ⟨S12288x1024, .f32⟩
  | 53 => ⟨S12288x1024, .f32⟩
  | 54 => ⟨S12288x1024, .f32⟩
  | 55 => ⟨S12288x1024, .f32⟩
  | 56 => ⟨S12288x8, .f32⟩
  | 57 => ⟨S1x8, .f32⟩
  | 58 => ⟨S12288x8, .f32⟩
  | 59 => ⟨S12288x8, .f32⟩
  | 60 => ⟨S12288x2, .f32⟩
  | 61 => ⟨S12288x2, .i32⟩
  | 62 => ⟨S_, .f32⟩
  | 63 => ⟨S12288, .f32⟩
  | 64 => ⟨S_, .f32⟩
  | 65 => ⟨S12288, .f32⟩
  | 66 => ⟨S12288, .f32⟩
  | 67 => ⟨S12288x1, .f32⟩
  | 68 => ⟨S12288x2, .f32⟩
  | 69 => ⟨S12288x2, .f32⟩
  | 70 => ⟨S12288x2, .f32⟩
  | 71 => ⟨S_, .f32⟩
  | 72 => ⟨S12288, .f32⟩
  | 73 => ⟨S12288x1, .f32⟩
  | 74 => ⟨S12288x2, .f32⟩
  | 75 => ⟨S12288x2, .f32⟩
  | 76 => ⟨S12288x2x1, .i32⟩
  | 77 => ⟨S1x1x8, .i32⟩
  | 78 => ⟨S12288x2x8, .i32⟩
  | 79 => ⟨S12288x2x8, .i32⟩
  | 80 => ⟨S12288x2x8, .i1⟩
  | 81 => ⟨S12288x2x8, .f32⟩
  | 82 => ⟨S12288x8, .f32⟩
  | 83 => ⟨S_, .f32⟩
  | 84 => ⟨S12288x1024, .f32⟩
  | 85 => ⟨S12288x1, .f32⟩
  | 86 => ⟨S1x1024x2816, .f32⟩
  | 87 => ⟨S1024x2816, .f32⟩
  | 88 => ⟨S1x1408x1024, .f32⟩
  | 89 => ⟨S1408x1024, .f32⟩
  | 90 => ⟨S12288x2816, .f32⟩
  | 91 => ⟨S12288x1408, .f32⟩
  | 92 => ⟨S12288x1408, .f32⟩
  | 93 => ⟨S12288x1408, .f32⟩
  | 94 => ⟨S12288x1408, .f32⟩
  | 95 => ⟨S_, .f32⟩
  | 96 => ⟨S12288x1408, .f32⟩
  | 97 => ⟨S12288x1408, .f32⟩
  | 98 => ⟨S_, .f32⟩
  | 99 => ⟨S12288x1408, .f32⟩
  | 100 => ⟨S12288x1408, .f32⟩
  | 101 => ⟨S12288x1408, .f32⟩
  | 102 => ⟨S12288x1408, .f32⟩
  | 103 => ⟨S12288x1024, .f32⟩
  | 104 => ⟨S12288x1024, .f32⟩
  | 105 => ⟨S12288x1024, .f32⟩
  | 106 => ⟨S12288x1024, .f32⟩
  | 107 => ⟨S12288x1, .f32⟩
  | 108 => ⟨S1x1024x2816, .f32⟩
  | 109 => ⟨S1024x2816, .f32⟩
  | 110 => ⟨S1x1408x1024, .f32⟩
  | 111 => ⟨S1408x1024, .f32⟩
  | 112 => ⟨S12288x2816, .f32⟩
  | 113 => ⟨S12288x1408, .f32⟩
  | 114 => ⟨S12288x1408, .f32⟩
  | 115 => ⟨S12288x1408, .f32⟩
  | 116 => ⟨S12288x1408, .f32⟩
  | 117 => ⟨S_, .f32⟩
  | 118 => ⟨S12288x1408, .f32⟩
  | 119 => ⟨S12288x1408, .f32⟩
  | 120 => ⟨S_, .f32⟩
  | 121 => ⟨S12288x1408, .f32⟩
  | 122 => ⟨S12288x1408, .f32⟩
  | 123 => ⟨S12288x1408, .f32⟩
  | 124 => ⟨S12288x1408, .f32⟩
  | 125 => ⟨S12288x1024, .f32⟩
  | 126 => ⟨S12288x1024, .f32⟩
  | 127 => ⟨S12288x1024, .f32⟩
  | _ => ⟨S12288x1024, .f32⟩

abbrev hbmTy0_1 (i : Nat) : BufTy := match i % 128 with
  | 0 => ⟨S12288x1024, .f32⟩
  | 1 => ⟨S12288x1, .f32⟩
  | 2 => ⟨S1x1024x2816, .f32⟩
  | 3 => ⟨S1024x2816, .f32⟩
  | 4 => ⟨S1x1408x1024, .f32⟩
  | 5 => ⟨S1408x1024, .f32⟩
  | 6 => ⟨S12288x2816, .f32⟩
  | 7 => ⟨S12288x1408, .f32⟩
  | 8 => ⟨S12288x1408, .f32⟩
  | 9 => ⟨S12288x1408, .f32⟩
  | 10 => ⟨S12288x1408, .f32⟩
  | 11 => ⟨S_, .f32⟩
  | 12 => ⟨S12288x1408, .f32⟩
  | 13 => ⟨S12288x1408, .f32⟩
  | 14 => ⟨S_, .f32⟩
  | 15 => ⟨S12288x1408, .f32⟩
  | 16 => ⟨S12288x1408, .f32⟩
  | 17 => ⟨S12288x1408, .f32⟩
  | 18 => ⟨S12288x1408, .f32⟩
  | 19 => ⟨S12288x1024, .f32⟩
  | 20 => ⟨S12288x1024, .f32⟩
  | 21 => ⟨S12288x1024, .f32⟩
  | 22 => ⟨S12288x1024, .f32⟩
  | 23 => ⟨S12288x1, .f32⟩
  | 24 => ⟨S1x1024x2816, .f32⟩
  | 25 => ⟨S1024x2816, .f32⟩
  | 26 => ⟨S1x1408x1024, .f32⟩
  | 27 => ⟨S1408x1024, .f32⟩
  | 28 => ⟨S12288x2816, .f32⟩
  | 29 => ⟨S12288x1408, .f32⟩
  | 30 => ⟨S12288x1408, .f32⟩
  | 31 => ⟨S12288x1408, .f32⟩
  | 32 => ⟨S12288x1408, .f32⟩
  | 33 => ⟨S_, .f32⟩
  | 34 => ⟨S12288x1408, .f32⟩
  | 35 => ⟨S12288x1408, .f32⟩
  | 36 => ⟨S_, .f32⟩
  | 37 => ⟨S12288x1408, .f32⟩
  | 38 => ⟨S12288x1408, .f32⟩
  | 39 => ⟨S12288x1408, .f32⟩
  | 40 => ⟨S12288x1408, .f32⟩
  | 41 => ⟨S12288x1024, .f32⟩
  | 42 => ⟨S12288x1024, .f32⟩
  | 43 => ⟨S12288x1024, .f32⟩
  | 44 => ⟨S12288x1024, .f32⟩
  | 45 => ⟨S12288x1, .f32⟩
  | 46 => ⟨S1x1024x2816, .f32⟩
  | 47 => ⟨S1024x2816, .f32⟩
  | 48 => ⟨S1x1408x1024, .f32⟩
  | 49 => ⟨S1408x1024, .f32⟩
  | 50 => ⟨S12288x2816, .f32⟩
  | 51 => ⟨S12288x1408, .f32⟩
  | 52 => ⟨S12288x1408, .f32⟩
  | 53 => ⟨S12288x1408, .f32⟩
  | 54 => ⟨S12288x1408, .f32⟩
  | 55 => ⟨S_, .f32⟩
  | 56 => ⟨S12288x1408, .f32⟩
  | 57 => ⟨S12288x1408, .f32⟩
  | 58 => ⟨S_, .f32⟩
  | 59 => ⟨S12288x1408, .f32⟩
  | 60 => ⟨S12288x1408, .f32⟩
  | 61 => ⟨S12288x1408, .f32⟩
  | 62 => ⟨S12288x1408, .f32⟩
  | 63 => ⟨S12288x1024, .f32⟩
  | 64 => ⟨S12288x1024, .f32⟩
  | 65 => ⟨S12288x1024, .f32⟩
  | 66 => ⟨S12288x1024, .f32⟩
  | 67 => ⟨S12288x1, .f32⟩
  | 68 => ⟨S1x1024x2816, .f32⟩
  | 69 => ⟨S1024x2816, .f32⟩
  | 70 => ⟨S1x1408x1024, .f32⟩
  | 71 => ⟨S1408x1024, .f32⟩
  | 72 => ⟨S12288x2816, .f32⟩
  | 73 => ⟨S12288x1408, .f32⟩
  | 74 => ⟨S12288x1408, .f32⟩
  | 75 => ⟨S12288x1408, .f32⟩
  | 76 => ⟨S12288x1408, .f32⟩
  | 77 => ⟨S_, .f32⟩
  | 78 => ⟨S12288x1408, .f32⟩
  | 79 => ⟨S12288x1408, .f32⟩
  | 80 => ⟨S_, .f32⟩
  | 81 => ⟨S12288x1408, .f32⟩
  | 82 => ⟨S12288x1408, .f32⟩
  | 83 => ⟨S12288x1408, .f32⟩
  | 84 => ⟨S12288x1408, .f32⟩
  | 85 => ⟨S12288x1024, .f32⟩
  | 86 => ⟨S12288x1024, .f32⟩
  | 87 => ⟨S12288x1024, .f32⟩
  | 88 => ⟨S12288x1024, .f32⟩
  | 89 => ⟨S12288x1, .f32⟩
  | 90 => ⟨S1x1024x2816, .f32⟩
  | 91 => ⟨S1024x2816, .f32⟩
  | 92 => ⟨S1x1408x1024, .f32⟩
  | 93 => ⟨S1408x1024, .f32⟩
  | 94 => ⟨S12288x2816, .f32⟩
  | 95 => ⟨S12288x1408, .f32⟩
  | 96 => ⟨S12288x1408, .f32⟩
  | 97 => ⟨S12288x1408, .f32⟩
  | 98 => ⟨S12288x1408, .f32⟩
  | 99 => ⟨S_, .f32⟩
  | 100 => ⟨S12288x1408, .f32⟩
  | 101 => ⟨S12288x1408, .f32⟩
  | 102 => ⟨S_, .f32⟩
  | 103 => ⟨S12288x1408, .f32⟩
  | 104 => ⟨S12288x1408, .f32⟩
  | 105 => ⟨S12288x1408, .f32⟩
  | 106 => ⟨S12288x1408, .f32⟩
  | 107 => ⟨S12288x1024, .f32⟩
  | 108 => ⟨S12288x1024, .f32⟩
  | 109 => ⟨S12288x1024, .f32⟩
  | 110 => ⟨S12288x1024, .f32⟩
  | 111 => ⟨S12288x1, .f32⟩
  | 112 => ⟨S1x1024x2816, .f32⟩
  | 113 => ⟨S1024x2816, .f32⟩
  | 114 => ⟨S1x1408x1024, .f32⟩
  | 115 => ⟨S1408x1024, .f32⟩
  | 116 => ⟨S12288x2816, .f32⟩
  | 117 => ⟨S12288x1408, .f32⟩
  | 118 => ⟨S12288x1408, .f32⟩
  | 119 => ⟨S12288x1408, .f32⟩
  | 120 => ⟨S12288x1408, .f32⟩
  | 121 => ⟨S_, .f32⟩
  | 122 => ⟨S12288x1408, .f32⟩
  | 123 => ⟨S12288x1408, .f32⟩
  | 124 => ⟨S_, .f32⟩
  | 125 => ⟨S12288x1408, .f32⟩
  | 126 => ⟨S12288x1408, .f32⟩
  | 127 => ⟨S12288x1408, .f32⟩
  | _ => ⟨S12288x1024, .f32⟩

abbrev hbmTy0_2 (i : Nat) : BufTy := match i % 128 with
  | 0 => ⟨S12288x1408, .f32⟩
  | 1 => ⟨S12288x1024, .f32⟩
  | 2 => ⟨S12288x1024, .f32⟩
  | 3 => ⟨S12288x1024, .f32⟩
  | 4 => ⟨S12288x1024, .f32⟩
  | 5 => ⟨S12288x1024, .f32⟩
  | 6 => ⟨S_, .f32⟩
  | 7 => ⟨S12288, .f32⟩
  | 8 => ⟨S12288x1, .f32⟩
  | 9 => ⟨S_, .f32⟩
  | 10 => ⟨S12288x1, .f32⟩
  | 11 => ⟨S12288x1, .f32⟩
  | 12 => ⟨S_, .f32⟩
  | 13 => ⟨S12288x1, .f32⟩
  | 14 => ⟨S12288x1, .f32⟩
  | 15 => ⟨S12288x1, .f32⟩
  | 16 => ⟨S12288x1024, .f32⟩
  | 17 => ⟨S12288x1024, .f32⟩
  | 18 => ⟨S1x1024, .f32⟩
  | 19 => ⟨S12288x1024, .f32⟩
  | 20 => ⟨S12288x1024, .f32⟩
  | 21 => ⟨S12288x1024, .f32⟩
  | 22 => ⟨S12288x1024, .f32⟩
  | _ => ⟨S12288x1024, .f32⟩

abbrev hbmTy (i : Nat) : BufTy := match i / 128 with
  | 0 => hbmTy0_0 i
  | 1 => hbmTy0_1 i
  | 2 => hbmTy0_2 i
  | _ => ⟨S12288x1024, .f32⟩

abbrev bufTy : (tb : Table) → Fin (tcTables nBuf tb) → BufTy
  | .hbm, ⟨i, _⟩ => hbmTy i
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst : Ref sig .tc := ⟨.hbm, 36, rfl⟩
abbrev main_v28 : Ref sig .tc := ⟨.hbm, 37, rfl⟩
abbrev main_v29 : Ref sig .tc := ⟨.hbm, 38, rfl⟩
abbrev main_cst_0 : Ref sig .tc := ⟨.hbm, 39, rfl⟩
abbrev main_v30 : Ref sig .tc := ⟨.hbm, 40, rfl⟩
abbrev main_v31 : Ref sig .tc := ⟨.hbm, 41, rfl⟩
abbrev main_cst_1 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_2 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_values : Ref sig .tc := ⟨.hbm, 60, rfl⟩
abbrev main_indices : Ref sig .tc := ⟨.hbm, 61, rfl⟩
abbrev main_cst_3 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_5 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_v59 : Ref sig .tc := ⟨.hbm, 81, rfl⟩
abbrev main_v60 : Ref sig .tc := ⟨.hbm, 82, rfl⟩
abbrev main_cst_6 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_call1_v0 : Ref sig .tc := ⟨.hbm, 93, rfl⟩
abbrev main_call1_v1 : Ref sig .tc := ⟨.hbm, 94, rfl⟩
abbrev main_call1_cst : Ref sig .tc := ⟨.hbm, 95, rfl⟩
abbrev main_call1_v2 : Ref sig .tc := ⟨.hbm, 96, rfl⟩
abbrev main_call1_v3 : Ref sig .tc := ⟨.hbm, 97, rfl⟩
abbrev main_call1_cst_0 : Ref sig .tc := ⟨.hbm, 98, rfl⟩
abbrev main_call1_v4 : Ref sig .tc := ⟨.hbm, 99, rfl⟩
abbrev main_call1_v5 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_call2_v0 : Ref sig .tc := ⟨.hbm, 115, rfl⟩
abbrev main_call2_v1 : Ref sig .tc := ⟨.hbm, 116, rfl⟩
abbrev main_call2_cst : Ref sig .tc := ⟨.hbm, 117, rfl⟩
abbrev main_call2_v2 : Ref sig .tc := ⟨.hbm, 118, rfl⟩
abbrev main_call2_v3 : Ref sig .tc := ⟨.hbm, 119, rfl⟩
abbrev main_call2_cst_0 : Ref sig .tc := ⟨.hbm, 120, rfl⟩
abbrev main_call2_v4 : Ref sig .tc := ⟨.hbm, 121, rfl⟩
abbrev main_call2_v5 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_call3_v0 : Ref sig .tc := ⟨.hbm, 137, rfl⟩
abbrev main_call3_v1 : Ref sig .tc := ⟨.hbm, 138, rfl⟩
abbrev main_call3_cst : Ref sig .tc := ⟨.hbm, 139, rfl⟩
abbrev main_call3_v2 : Ref sig .tc := ⟨.hbm, 140, rfl⟩
abbrev main_call3_v3 : Ref sig .tc := ⟨.hbm, 141, rfl⟩
abbrev main_call3_cst_0 : Ref sig .tc := ⟨.hbm, 142, rfl⟩
abbrev main_call3_v4 : Ref sig .tc := ⟨.hbm, 143, rfl⟩
abbrev main_call3_v5 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_call4_v0 : Ref sig .tc := ⟨.hbm, 159, rfl⟩
abbrev main_call4_v1 : Ref sig .tc := ⟨.hbm, 160, rfl⟩
abbrev main_call4_cst : Ref sig .tc := ⟨.hbm, 161, rfl⟩
abbrev main_call4_v2 : Ref sig .tc := ⟨.hbm, 162, rfl⟩
abbrev main_call4_v3 : Ref sig .tc := ⟨.hbm, 163, rfl⟩
abbrev main_call4_cst_0 : Ref sig .tc := ⟨.hbm, 164, rfl⟩
abbrev main_call4_v4 : Ref sig .tc := ⟨.hbm, 165, rfl⟩
abbrev main_call4_v5 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_call5_v0 : Ref sig .tc := ⟨.hbm, 181, rfl⟩
abbrev main_call5_v1 : Ref sig .tc := ⟨.hbm, 182, rfl⟩
abbrev main_call5_cst : Ref sig .tc := ⟨.hbm, 183, rfl⟩
abbrev main_call5_v2 : Ref sig .tc := ⟨.hbm, 184, rfl⟩
abbrev main_call5_v3 : Ref sig .tc := ⟨.hbm, 185, rfl⟩
abbrev main_call5_cst_0 : Ref sig .tc := ⟨.hbm, 186, rfl⟩
abbrev main_call5_v4 : Ref sig .tc := ⟨.hbm, 187, rfl⟩
abbrev main_call5_v5 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_call6_v0 : Ref sig .tc := ⟨.hbm, 203, rfl⟩
abbrev main_call6_v1 : Ref sig .tc := ⟨.hbm, 204, rfl⟩
abbrev main_call6_cst : Ref sig .tc := ⟨.hbm, 205, rfl⟩
abbrev main_call6_v2 : Ref sig .tc := ⟨.hbm, 206, rfl⟩
abbrev main_call6_v3 : Ref sig .tc := ⟨.hbm, 207, rfl⟩
abbrev main_call6_cst_0 : Ref sig .tc := ⟨.hbm, 208, rfl⟩
abbrev main_call6_v4 : Ref sig .tc := ⟨.hbm, 209, rfl⟩
abbrev main_call6_v5 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_call7_v0 : Ref sig .tc := ⟨.hbm, 225, rfl⟩
abbrev main_call7_v1 : Ref sig .tc := ⟨.hbm, 226, rfl⟩
abbrev main_call7_cst : Ref sig .tc := ⟨.hbm, 227, rfl⟩
abbrev main_call7_v2 : Ref sig .tc := ⟨.hbm, 228, rfl⟩
abbrev main_call7_v3 : Ref sig .tc := ⟨.hbm, 229, rfl⟩
abbrev main_call7_cst_0 : Ref sig .tc := ⟨.hbm, 230, rfl⟩
abbrev main_call7_v4 : Ref sig .tc := ⟨.hbm, 231, rfl⟩
abbrev main_call7_v5 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_call8_v0 : Ref sig .tc := ⟨.hbm, 247, rfl⟩
abbrev main_call8_v1 : Ref sig .tc := ⟨.hbm, 248, rfl⟩
abbrev main_call8_cst : Ref sig .tc := ⟨.hbm, 249, rfl⟩
abbrev main_call8_v2 : Ref sig .tc := ⟨.hbm, 250, rfl⟩
abbrev main_call8_v3 : Ref sig .tc := ⟨.hbm, 251, rfl⟩
abbrev main_call8_cst_0 : Ref sig .tc := ⟨.hbm, 252, rfl⟩
abbrev main_call8_v4 : Ref sig .tc := ⟨.hbm, 253, rfl⟩
abbrev main_call8_v5 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩
abbrev main_v173 : Ref sig .tc := ⟨.hbm, 260, rfl⟩
abbrev main_v174 : Ref sig .tc := ⟨.hbm, 261, rfl⟩
abbrev main_cst_7 : Ref sig .tc := ⟨.hbm, 262, rfl⟩
abbrev main_v175 : Ref sig .tc := ⟨.hbm, 263, rfl⟩
abbrev main_v176 : Ref sig .tc := ⟨.hbm, 264, rfl⟩
abbrev main_cst_8 : Ref sig .tc := ⟨.hbm, 265, rfl⟩
abbrev main_v177 : Ref sig .tc := ⟨.hbm, 266, rfl⟩
abbrev main_v178 : Ref sig .tc := ⟨.hbm, 267, rfl⟩
abbrev main_cst_9 : Ref sig .tc := ⟨.hbm, 268, rfl⟩
abbrev main_v179 : Ref sig .tc := ⟨.hbm, 269, rfl⟩
abbrev main_v180 : Ref sig .tc := ⟨.hbm, 270, rfl⟩
abbrev main_v181 : Ref sig .tc := ⟨.hbm, 271, rfl⟩
abbrev main_v182 : Ref sig .tc := ⟨.hbm, 272, rfl⟩
abbrev main_v183 : Ref sig .tc := ⟨.hbm, 273, rfl⟩
abbrev main_v184 : Ref sig .tc := ⟨.hbm, 274, rfl⟩
abbrev main_v185 : Ref sig .tc := ⟨.hbm, 275, rfl⟩
abbrev main_v186 : Ref sig .tc := ⟨.hbm, 276, rfl⟩
abbrev main_v187 : Ref sig .tc := ⟨.hbm, 277, rfl⟩
abbrev main_v188 : Ref sig .tc := ⟨.hbm, 278, rfl⟩

abbrev nD : Nat := 1
abbrev τ : Topo := Topo.v7x

variable {F : FTy → Type} [FloatOps F]
-- ==== Ffn.lean ====
abbrev S12288x1024 : Shape := ⟨2, ![12288, 1024]⟩
abbrev S8x6x1024 : Shape := ⟨3, ![8, 6, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S256x1024 : Shape := ⟨2, ![256, 1024]⟩
abbrev S1x6x1024 : Shape := ⟨3, ![1, 6, 1024]⟩
abbrev S256 : Shape := ⟨1, ![256]⟩
abbrev S256x1 : Shape := ⟨2, ![256, 1]⟩
abbrev S1x1x1024 : Shape := ⟨3, ![1, 1, 1024]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 11
  | .vmem => 10
  | .smem => 0
  | _ => 0

abbrev bufTy : (tb : Table) → Fin (tcTables nBuf tb) → BufTy
  | .hbm, ⟨0, _⟩ => ⟨S12288x1024, .f32⟩
  | .hbm, ⟨1, _⟩ => ⟨S8x6x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1x1024, .f32⟩
  | .hbm, ⟨7, _⟩ => ⟨S1x1024, .f32⟩
  | .hbm, ⟨8, _⟩ => ⟨S1024x5632, .bf16⟩
  | .hbm, ⟨9, _⟩ => ⟨S2816x1024, .bf16⟩
  | .hbm, ⟨10, _⟩ => ⟨S12288x1024, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S256x1024, .f32⟩
  | .local _ .vmem, ⟨9, _⟩ => ⟨S256x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S12288x1024 : Shape := ⟨2, ![12288, 1024]⟩
abbrev S8x6x1024 : Shape := ⟨3, ![8, 6, 1024]⟩
abbrev S1024 : Shape := ⟨1, ![1024]⟩
abbrev S1024x5632 : Shape := ⟨2, ![1024, 5632]⟩
abbrev S2816x1024 : Shape := ⟨2, ![2816, 1024]⟩
abbrev S1x1x1024 : Shape := ⟨3, ![1, 1, 1024]⟩
abbrev S1x1024 : Shape := ⟨2, ![1, 1024]⟩
abbrev S4096x1024 : Shape := ⟨2, ![4096, 1024]⟩
abbrev S4x1x1024 : Shape := ⟨3, ![4, 1, 1024]⟩
abbrev S4x1024 : Shape := ⟨2, ![4, 1024]⟩
abbrev S4x2048x1024 : Shape := ⟨3, ![4, 2048, 1024]⟩
abbrev S8192x1024 : Shape := ⟨2, ![8192, 1024]⟩
abbrev S_ : Shape := ⟨0, ![]⟩
abbrev S12288 : Shape := ⟨1, ![12288]⟩
abbrev S12288x1 : Shape := ⟨2, ![12288, 1]⟩
abbrev S12288x5632 : Shape := ⟨2, ![12288, 5632]⟩
abbrev S12288x2816 : Shape := ⟨2, ![12288, 2816]⟩

abbrev nBuf : Space → Nat
  | .hbm => 86
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S8x6x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1x1x1024, .f32⟩
  | .hbm, ⟨7, _⟩ => ⟨S1x1024, .f32⟩
  | .hbm, ⟨8, _⟩ => ⟨S4096x1024, .f32⟩
  | .hbm, ⟨9, _⟩ => ⟨S4x1x1024, .f32⟩
  | .hbm, ⟨10, _⟩ => ⟨S4x1024, .f32⟩
  | .hbm, ⟨11, _⟩ => ⟨S4x1x1024, .f32⟩
  | .hbm, ⟨12, _⟩ => ⟨S4x2048x1024, .f32⟩
  | .hbm, ⟨13, _⟩ => ⟨S8192x1024, .f32⟩
  | .hbm, ⟨14, _⟩ => ⟨S12288x1024, .f32⟩
  | .hbm, ⟨15, _⟩ => ⟨S1x1x1024, .f32⟩
  | .hbm, ⟨16, _⟩ => ⟨S1x1024, .f32⟩
  | .hbm, ⟨17, _⟩ => ⟨S4096x1024, .f32⟩
  | .hbm, ⟨18, _⟩ => ⟨S4x1x1024, .f32⟩
  | .hbm, ⟨19, _⟩ => ⟨S4x1024, .f32⟩
  | .hbm, ⟨20, _⟩ => ⟨S4x1x1024, .f32⟩
  | .hbm, ⟨21, _⟩ => ⟨S4x2048x1024, .f32⟩
  | .hbm, ⟨22, _⟩ => ⟨S8192x1024, .f32⟩
  | .hbm, ⟨23, _⟩ => ⟨S12288x1024, .f32⟩
  | .hbm, ⟨24, _⟩ => ⟨S1x1x1024, .f32⟩
  | .hbm, ⟨25, _⟩ => ⟨S1x1024, .f32⟩
  | .hbm, ⟨26, _⟩ => ⟨S4096x1024, .f32⟩
  | .hbm, ⟨27, _⟩ => ⟨S4x1x1024, .f32⟩
  | .hbm, ⟨28, _⟩ => ⟨S4x1024, .f32⟩
  | .hbm, ⟨29, _⟩ => ⟨S4x1x1024, .f32⟩
  | .hbm, ⟨30, _⟩ => ⟨S4x2048x1024, .f32⟩
  | .hbm, ⟨31, _⟩ => ⟨S8192x1024, .f32⟩
  | .hbm, ⟨32, _⟩ => ⟨S12288x1024, .f32⟩
  | .hbm, ⟨33, _⟩ => ⟨S12288x1024, .f32⟩
  | .hbm, ⟨34, _⟩ => ⟨S_, .f32⟩
  | .hbm, ⟨35, _⟩ => ⟨S12288, .f32⟩
  | .hbm, ⟨36, _⟩ => ⟨S12288x1, .f32⟩
  | .hbm, ⟨37, _⟩ => ⟨S_, .f32⟩
  | .hbm, ⟨38, _⟩ => ⟨S12288x1, .f32⟩
  | .hbm, ⟨39, _⟩ => ⟨S12288x1, .f32⟩
  | .hbm, ⟨40, _⟩ => ⟨S_, .f32⟩
  | .hbm, ⟨41, _⟩ => ⟨S12288x1, .f32⟩
  | .hbm, ⟨42, _⟩ => ⟨S12288x1, .f32⟩
  | .hbm, ⟨43, _⟩ => ⟨S12288x1, .f32⟩
  | .hbm, ⟨44, _⟩ => ⟨S12288x1024, .f32⟩
  | .hbm, ⟨45, _⟩ => ⟨S12288x1024, .f32⟩
  | .hbm, ⟨46, _⟩ => ⟨S1x1024, .f32⟩
  | .hbm, ⟨47, _⟩ => ⟨S12288x1024, .f32⟩
  | .hbm, ⟨48, _⟩ => ⟨S12288x1024, .f32⟩
  | .hbm, ⟨49, _⟩ => ⟨S_, .f32⟩
  | .hbm, ⟨50, _⟩ => ⟨S12288x1024, .f32⟩
  | .hbm, ⟨51, _⟩ => ⟨S12288x1024, .f32⟩
  | .hbm, ⟨52, _⟩ => ⟨S12288x1024, .f32⟩
  | .hbm, ⟨53, _⟩ => ⟨S12288x1024, .f32⟩
  | .hbm, ⟨54, _⟩ => ⟨S12288x5632, .f32⟩
  | .hbm, ⟨55, _⟩ => ⟨S12288x2816, .f32⟩
  | .hbm, ⟨56, _⟩ => ⟨S12288x2816, .f32⟩
  | .hbm, ⟨57, _⟩ => ⟨S12288x2816, .f32⟩
  | .hbm, ⟨58, _⟩ => ⟨S12288x2816, .f32⟩
  | .hbm, ⟨59, _⟩ => ⟨S_, .f32⟩
  | .hbm, ⟨60, _⟩ => ⟨S12288x2816, .f32⟩
  | .hbm, ⟨61, _⟩ => ⟨S12288x2816, .f32⟩
  | .hbm, ⟨62, _⟩ => ⟨S_, .f32⟩
  | .hbm, ⟨63, _⟩ => ⟨S12288x2816, .f32⟩
  | .hbm, ⟨64, _⟩ => ⟨S12288x2816, .f32⟩
  | .hbm, ⟨65, _⟩ => ⟨S12288x2816, .f32⟩
  | .hbm, ⟨66, _⟩ => ⟨S12288x2816, .f32⟩
  | .hbm, ⟨67, _⟩ => ⟨S12288x1024, .f32⟩
  | .hbm, ⟨68, _⟩ => ⟨S12288x1024, .f32⟩
  | .hbm, ⟨69, _⟩ => ⟨S_, .f32⟩
  | .hbm, ⟨70, _⟩ => ⟨S12288, .f32⟩
  | .hbm, ⟨71, _⟩ => ⟨S12288x1, .f32⟩
  | .hbm, ⟨72, _⟩ => ⟨S_, .f32⟩
  | .hbm, ⟨73, _⟩ => ⟨S12288x1, .f32⟩
  | .hbm, ⟨74, _⟩ => ⟨S12288x1, .f32⟩
  | .hbm, ⟨75, _⟩ => ⟨S_, .f32⟩
  | .hbm, ⟨76, _⟩ => ⟨S12288x1, .f32⟩
  | .hbm, ⟨77, _⟩ => ⟨S12288x1, .f32⟩
  | .hbm, ⟨78, _⟩ => ⟨S12288x1, .f32⟩
  | .hbm, ⟨79, _⟩ => ⟨S12288x1024, .f32⟩
  | .hbm, ⟨80, _⟩ => ⟨S12288x1024, .f32⟩
  | .hbm, ⟨81, _⟩ => ⟨S1x1024, .f32⟩
  | .hbm, ⟨82, _⟩ => ⟨S12288x1024, .f32⟩
  | .hbm, ⟨83, _⟩ => ⟨S12288x1024, .f32⟩
  | .hbm, ⟨84, _⟩ => ⟨S12288x1024, .f32⟩
  | .hbm, ⟨85, _⟩ => ⟨S12288x1024, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_v28 : Ref sig .tc := ⟨.hbm, 35, rfl⟩
abbrev main_v29 : Ref sig .tc := ⟨.hbm, 36, rfl⟩
abbrev main_cst_0 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_2 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_3 : Ref sig .tc := ⟨.hbm, 69, rfl⟩
abbrev main_v51 : Ref sig .tc := ⟨.hbm, 70, rfl⟩
abbrev main_v52 : Ref sig .tc := ⟨.hbm, 71, rfl⟩
abbrev main_cst_4 : Ref sig .tc := ⟨.hbm, 72, rfl⟩
abbrev main_v53 : Ref sig .tc := ⟨.hbm, 73, rfl⟩
abbrev main_v54 : Ref sig .tc := ⟨.hbm, 74, rfl⟩
abbrev main_cst_5 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]
-- ==== Inproj.lean ====
abbrev S12288x1024 : Shape := ⟨2, ![12288, 1024]⟩
abbrev S8x6x1024 : Shape := ⟨3, ![8, 6, 1024]⟩
abbrev S1024 : Shape := ⟨1, ![1024]⟩
abbrev S1024x5920 : Shape := ⟨2, ![1024, 5920]⟩
abbrev S1x1024 : Shape := ⟨2, ![1, 1024]⟩
abbrev S1024x3072 : Shape := ⟨2, ![1024, 3072]⟩
abbrev S1024x256 : Shape := ⟨2, ![1024, 256]⟩
abbrev S1024x512 : Shape := ⟨2, ![1024, 512]⟩
abbrev S1024x128 : Shape := ⟨2, ![1024, 128]⟩
abbrev S1024x32 : Shape := ⟨2, ![1024, 32]⟩
abbrev S_ : Shape := ⟨0, ![]⟩
abbrev S1024x6144 : Shape := ⟨2, ![1024, 6144]⟩
abbrev S12288x6144 : Shape := ⟨2, ![12288, 6144]⟩
abbrev S256x1024 : Shape := ⟨2, ![256, 1024]⟩
abbrev S1x6x1024 : Shape := ⟨3, ![1, 6, 1024]⟩
abbrev S256x6144 : Shape := ⟨2, ![256, 6144]⟩
abbrev S256 : Shape := ⟨1, ![256]⟩
abbrev S256x1 : Shape := ⟨2, ![256, 1]⟩
abbrev S1x1x1024 : Shape := ⟨3, ![1, 1, 1024]⟩
abbrev S1024x1024 : Shape := ⟨2, ![1024, 1024]⟩

abbrev nBuf : Space → Nat
  | .hbm => 21
  | .vmem => 8
  | .smem => 0
  | _ => 0

abbrev bufTy : (tb : Table) → Fin (tcTables nBuf tb) → BufTy
  | .hbm, ⟨0, _⟩ => ⟨S12288x1024, .f32⟩
  | .hbm, ⟨1, _⟩ => ⟨S8x6x1024, .f32⟩
  | .hbm, ⟨2, _⟩ => ⟨S1024, .f32⟩
  | .hbm, ⟨3, _⟩ => ⟨S1024x5920, .f32⟩
  | .hbm, ⟨4, _⟩ => ⟨S1x1024, .f32⟩
  | .hbm, ⟨5, _⟩ => ⟨S1024x3072, .f32⟩
  | .hbm, ⟨6, _⟩ => ⟨S1024x256, .f32⟩
  | .hbm, ⟨7, _⟩ => ⟨S1024x256, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x128, .f32⟩
  | .hbm, ⟨13, _⟩ => ⟨S1024x128, .f32⟩
  | .hbm, ⟨14, _⟩ => ⟨S1024x32, .f32⟩
  | .hbm, ⟨15, _⟩ => ⟨S1024x5920, .f32⟩
  | .hbm, ⟨16, _⟩ => ⟨S_, .i32⟩
  | .hbm, ⟨17, _⟩ => ⟨S_, .f32⟩
  | .hbm, ⟨18, _⟩ => ⟨S1024x6144, .f32⟩
  | .hbm, ⟨19, _⟩ => ⟨S1024x6144, .bf16⟩
  | .hbm, ⟨20, _⟩ => ⟨S12288x6144, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x6144, .bf16⟩
  | .local _ .vmem, ⟨6, _⟩ => ⟨S256x6144, .f32⟩
  | .local _ .vmem, ⟨7, _⟩ => ⟨S256x6144, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InprojRefIdeal.lean ====
abbrev S12288x1024 : Shape := ⟨2, ![12288, 1024]⟩
abbrev S8x6x1024 : Shape := ⟨3, ![8, 6, 1024]⟩
abbrev S1024 : Shape := ⟨1, ![1024]⟩
abbrev S1024x5920 : Shape := ⟨2, ![1024, 5920]⟩
abbrev S_ : Shape := ⟨0, ![]⟩
abbrev S12288 : Shape := ⟨1, ![12288]⟩
abbrev S12288x1 : Shape := ⟨2, ![12288, 1]⟩
abbrev S1x1024 : Shape := ⟨2, ![1, 1024]⟩
abbrev S1x1x1024 : Shape := ⟨3, ![1, 1, 1024]⟩
abbrev S4096x1024 : Shape := ⟨2, ![4096, 1024]⟩
abbrev S4x1x1024 : Shape := ⟨3, ![4, 1, 1024]⟩
abbrev S4x1024 : Shape := ⟨2, ![4, 1024]⟩
abbrev S4x2048x1024 : Shape := ⟨3, ![4, 2048, 1024]⟩
abbrev S8192x1024 : Shape := ⟨2, ![8192, 1024]⟩
abbrev S12288x5920 : Shape := ⟨2, ![12288, 5920]⟩
abbrev S12288x256 : Shape := ⟨2, ![12288, 256]⟩
abbrev S12288x512 : Shape := ⟨2, ![12288, 512]⟩
abbrev S12288x32 : Shape := ⟨2, ![12288, 32]⟩
abbrev S12288x128 : Shape := ⟨2, ![12288, 128]⟩
abbrev S12288x3072 : Shape := ⟨2, ![12288, 3072]⟩
abbrev S12288x224 : Shape := ⟨2, ![12288, 224]⟩
abbrev S12288x6144 : Shape := ⟨2, ![12288, 6144]⟩

abbrev nBuf : Space → Nat
  | .hbm => 57
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S8x6x1024, .f32⟩
  | .hbm, ⟨2, _⟩ => ⟨S1024, .f32⟩
  | .hbm, ⟨3, _⟩ => ⟨S1024x5920, .f32⟩
  | .hbm, ⟨4, _⟩ => ⟨S12288x1024, .f32⟩
  | .hbm, ⟨5, _⟩ => ⟨S_, .f32⟩
  | .hbm, ⟨6, _⟩ => ⟨S12288, .f32⟩
  | .hbm, ⟨7, _⟩ => ⟨S12288x1, .f32⟩
  | .hbm, ⟨8, _⟩ => ⟨S_, .f32⟩
  | .hbm, ⟨9, _⟩ => ⟨S12288x1, .f32⟩
  | .hbm, ⟨10, _⟩ => ⟨S12288x1, .f32⟩
  | .hbm, ⟨11, _⟩ => ⟨S_, .f32⟩
  | .hbm, ⟨12, _⟩ => ⟨S12288x1, .f32⟩
  | .hbm, ⟨13, _⟩ => ⟨S12288x1, .f32⟩
  | .hbm, ⟨14, _⟩ => ⟨S12288x1, .f32⟩
  | .hbm, ⟨15, _⟩ => ⟨S12288x1024, .f32⟩
  | .hbm, ⟨16, _⟩ => ⟨S12288x1024, .f32⟩
  | .hbm, ⟨17, _⟩ => ⟨S1x1024, .f32⟩
  | .hbm, ⟨18, _⟩ => ⟨S12288x1024, .f32⟩
  | .hbm, ⟨19, _⟩ => ⟨S12288x1024, .f32⟩
  | .hbm, ⟨20, _⟩ => ⟨S1x1x1024, .f32⟩
  | .hbm, ⟨21, _⟩ => ⟨S1x1024, .f32⟩
  | .hbm, ⟨22, _⟩ => ⟨S4096x1024, .f32⟩
  | .hbm, ⟨23, _⟩ => ⟨S4x1x1024, .f32⟩
  | .hbm, ⟨24, _⟩ => ⟨S4x1024, .f32⟩
  | .hbm, ⟨25, _⟩ => ⟨S4x1x1024, .f32⟩
  | .hbm, ⟨26, _⟩ => ⟨S4x2048x1024, .f32⟩
  | .hbm, ⟨27, _⟩ => ⟨S8192x1024, .f32⟩
  | .hbm, ⟨28, _⟩ => ⟨S12288x1024, .f32⟩
  | .hbm, ⟨29, _⟩ => ⟨S_, .f32⟩
  | .hbm, ⟨30, _⟩ => ⟨S12288x1024, .f32⟩
  | .hbm, ⟨31, _⟩ => ⟨S12288x1024, .f32⟩
  | .hbm, ⟨32, _⟩ => ⟨S12288x1024, .f32⟩
  | .hbm, ⟨33, _⟩ => ⟨S1x1x1024, .f32⟩
  | .hbm, ⟨34, _⟩ => ⟨S1x1024, .f32⟩
  | .hbm, ⟨35, _⟩ => ⟨S4096x1024, .f32⟩
  | .hbm, ⟨36, _⟩ => ⟨S4x1x1024, .f32⟩
  | .hbm, ⟨37, _⟩ => ⟨S4x1024, .f32⟩
  | .hbm, ⟨38, _⟩ => ⟨S4x1x1024, .f32⟩
  | .hbm, ⟨39, _⟩ => ⟨S4x2048x1024, .f32⟩
  | .hbm, ⟨40, _⟩ => ⟨S8192x1024, .f32⟩
  | .hbm, ⟨41, _⟩ => ⟨S12288x1024, .f32⟩
  | .hbm, ⟨42, _⟩ => ⟨S12288x1024, .f32⟩
  | .hbm, ⟨43, _⟩ => ⟨S12288x5920, .f32⟩
  | .hbm, ⟨44, _⟩ => ⟨S12288x256, .f32⟩
  | .hbm, ⟨45, _⟩ => ⟨S12288x256, .f32⟩
  | .hbm, ⟨46, _⟩ => ⟨S12288x512, .f32⟩
  | .hbm, ⟨47, _⟩ => ⟨S12288x512, .f32⟩
  | .hbm, ⟨48, _⟩ => ⟨S12288x32, .f32⟩
  | .hbm, ⟨49, _⟩ => ⟨S12288x512, .f32⟩
  | .hbm, ⟨50, _⟩ => ⟨S12288x128, .f32⟩
  | .hbm, ⟨51, _⟩ => ⟨S12288x128, .f32⟩
  | .hbm, ⟨52, _⟩ => ⟨S12288x512, .f32⟩
  | .hbm, ⟨53, _⟩ => ⟨S12288x3072, .f32⟩
  | .hbm, ⟨54, _⟩ => ⟨S_, .f32⟩
  | .hbm, ⟨55, _⟩ => ⟨S12288x224, .f32⟩
  | .hbm, ⟨56, _⟩ => ⟨S12288x6144, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_3 : Ref sig .tc := ⟨.hbm, 54, rfl⟩
abbrev main_v46 : Ref sig .tc := ⟨.hbm, 55, rfl⟩
abbrev main_v47 : Ref sig .tc := ⟨.hbm, 56, rfl⟩

abbrev nD : Nat := 1
abbrev τ : Topo := Topo.v7x

variable {F : FTy → Type} [FloatOps F]
-- ==== AttnLat.lean ====
abbrev S4x2048x8x64 : Shape := ⟨4, ![4, 2048, 8, 64]⟩
abbrev S4x2048x2x64 : Shape := ⟨4, ![4, 2048, 2, 64]⟩
abbrev S12288x6144 : Shape := ⟨2, ![12288, 6144]⟩
abbrev S4x512x2x64 : Shape := ⟨4, ![4, 512, 2, 64]⟩
abbrev S_ : Shape := ⟨0, ![]⟩
abbrev S8192x512 : Shape := ⟨2, ![8192, 512]⟩
abbrev S8192x128 : Shape := ⟨2, ![8192, 128]⟩
abbrev S4x512x128 : Shape := ⟨3, ![4, 512, 128]⟩
abbrev S256x512 : Shape := ⟨2, ![256, 512]⟩
abbrev S1x512x128 : Shape := ⟨3, ![1, 512, 128]⟩
abbrev S2048x128 : Shape := ⟨2, ![2048, 128]⟩
abbrev S1x512x64 : Shape := ⟨3, ![1, 512, 64]⟩
abbrev S512x64 : Shape := ⟨2, ![512, 64]⟩
abbrev S2048x64 : Shape := ⟨2, ![2048, 64]⟩
abbrev S256x64 : Shape := ⟨2, ![256, 64]⟩
abbrev S256x2048 : Shape := ⟨2, ![256, 2048]⟩
abbrev S256 : Shape := ⟨1, ![256]⟩
abbrev S256x1 : Shape := ⟨2, ![256, 1]⟩

abbrev nBuf : Space → Nat
  | .hbm => 15
  | .vmem => 12
  | .smem => 0
  | _ => 0

abbrev bufTy : (tb : Table) → Fin (tcTables nBuf tb) → BufTy
  | .hbm, ⟨0, _⟩ => ⟨S4x2048x8x64, .f32⟩
  | .hbm, ⟨1, _⟩ => ⟨S4x2048x2x64, .f32⟩
  | .hbm, ⟨2, _⟩ => ⟨S12288x6144, .f32⟩
  | .hbm, ⟨3, _⟩ => ⟨S4x512x2x64, .f32⟩
  | .hbm, ⟨4, _⟩ => ⟨S4x512x2x64, .f32⟩
  | .hbm, ⟨5, _⟩ => ⟨S_, .f32⟩
  | .hbm, ⟨6, _⟩ => ⟨S4x2048x8x64, .f32⟩
  | .hbm, ⟨7, _⟩ => ⟨S4x2048x8x64, .f32⟩
  | .hbm, ⟨8, _⟩ => ⟨S8192x512, .f32⟩
  | .hbm, ⟨9, _⟩ => ⟨S8192x512, .bf16⟩
  | .hbm, ⟨10, _⟩ => ⟨S8192x128, .f32⟩
  | .hbm, ⟨11, _⟩ => ⟨S8192x128, .bf16⟩
  | .hbm, ⟨12, _⟩ => ⟨S4x512x128, .f32⟩
  | .hbm, ⟨13, _⟩ => ⟨S4x512x128, .f32⟩
  | .hbm, ⟨14, _⟩ => ⟨S8192x512, .bf16⟩
  | .local _ .vmem, ⟨0, _⟩ => ⟨S256x512, .bf16⟩
  | .local _ .vmem, ⟨1, _⟩ => ⟨S256x512, .bf16⟩
  | .local _ .vmem, ⟨2, _⟩ => ⟨S1x512x128, .f32⟩
  | .local _ .vmem, ⟨3, _⟩ => ⟨S1x512x128, .f32⟩
  | .local _ .vmem, ⟨4, _⟩ => ⟨S2048x128, .bf16⟩
  | .local _ .vmem, ⟨5, _⟩ => ⟨S2048x128, .bf16⟩
  | .local _ .vmem, ⟨6, _⟩ => ⟨S1x512x128, .f32⟩
  | .local _ .vmem, ⟨7, _⟩ => ⟨S1x512x128, .f32⟩
  | .local _ .vmem, ⟨8, _⟩ => ⟨S2048x128, .f32⟩
  | .local _ .vmem, ⟨9, _⟩ => ⟨S2048x128, .f32⟩
  | .local _ .vmem, ⟨10, _⟩ => ⟨S256x512, .bf16⟩
  | .local _ .vmem, ⟨11, _⟩ => ⟨S256x512, .bf16⟩
  | _, _ => ⟨S4x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c45_i32 : BitVec 32 := 45#32
  let c0_i32 : BitVec 32 := 0#32
  ![v0.toNat, c45_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnLatRefIdeal.lean ====
abbrev S4x2048x8x64 : Shape := ⟨4, ![4, 2048, 8, 64]⟩
abbrev S4x2048x2x64 : Shape := ⟨4, ![4, 2048, 2, 64]⟩
abbrev S12288x6144 : Shape := ⟨2, ![12288, 6144]⟩
abbrev S4x512x2x64 : Shape := ⟨4, ![4, 512, 2, 64]⟩
abbrev S8192x128 : Shape := ⟨2, ![8192, 128]⟩
abbrev S4x2560x2x64 : Shape := ⟨4, ![4, 2560, 2, 64]⟩
abbrev S4x2048x2x4x64 : Shape := ⟨5, ![4, 2048, 2, 4, 64]⟩
abbrev S4x2x2560x2048x4 : Shape := ⟨5, ![4, 2, 2560, 2048, 4]⟩
abbrev S4x2x4x2048x2560 : Shape := ⟨5, ![4, 2, 4, 2048, 2560]⟩
abbrev S_ : Shape := ⟨0, ![]⟩
abbrev S4x2x4x2048 : Shape := ⟨4, ![4, 2, 4, 2048]⟩
abbrev S4x2x4x2048x1 : Shape := ⟨5, ![4, 2, 4, 2048, 1]⟩
abbrev S4x2x64x4x2048 : Shape := ⟨5, ![4, 2, 64, 4, 2048]⟩
abbrev S8192x512 : Shape := ⟨2, ![8192, 512]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x8x64, .f32⟩
  | .hbm, ⟨1, _⟩ => ⟨S4x2048x2x64, .f32⟩
  | .hbm, ⟨2, _⟩ => ⟨S12288x6144, .f32⟩
  | .hbm, ⟨3, _⟩ => ⟨S4x512x2x64, .f32⟩
  | .hbm, ⟨4, _⟩ => ⟨S4x512x2x64, .f32⟩
  | .hbm, ⟨5, _⟩ => ⟨S8192x128, .f32⟩
  | .hbm, ⟨6, _⟩ => ⟨S4x2048x2x64, .f32⟩
  | .hbm, ⟨7, _⟩ => ⟨S4x2560x2x64, .f32⟩
  | .hbm, ⟨8, _⟩ => ⟨S4x2560x2x64, .f32⟩
  | .hbm, ⟨9, _⟩ => ⟨S4x2048x2x4x64, .f32⟩
  | .hbm, ⟨10, _⟩ => ⟨S4x2x2560x2048x4, .f32⟩
  | .hbm, ⟨11, _⟩ => ⟨S4x2x4x2048x2560, .f32⟩
  | .hbm, ⟨12, _⟩ => ⟨S_, .f32⟩
  | .hbm, ⟨13, _⟩ => ⟨S4x2x4x2048x2560, .f32⟩
  | .hbm, ⟨14, _⟩ => ⟨S4x2x4x2048x2560, .f32⟩
  | .hbm, ⟨15, _⟩ => ⟨S_, .f32⟩
  | .hbm, ⟨16, _⟩ => ⟨S4x2x4x2048, .f32⟩
  | .hbm, ⟨17, _⟩ => ⟨S_, .f32⟩
  | .hbm, ⟨18, _⟩ => ⟨S4x2x4x2048, .f32⟩
  | .hbm, ⟨19, _⟩ => ⟨S4x2x4x2048, .f32⟩
  | .hbm, ⟨20, _⟩ => ⟨S4x2x4x2048x1, .f32⟩
  | .hbm, ⟨21, _⟩ => ⟨S4x2x4x2048x2560, .f32⟩
  | .hbm, ⟨22, _⟩ => ⟨S4x2x4x2048x2560, .f32⟩
  | .hbm, ⟨23, _⟩ => ⟨S4x2x4x2048x2560, .f32⟩
  | .hbm, ⟨24, _⟩ => ⟨S_, .f32⟩
  | .hbm, ⟨25, _⟩ => ⟨S4x2x4x2048, .f32⟩
  | .hbm, ⟨26, _⟩ => ⟨S4x2x4x2048x1, .f32⟩
  | .hbm, ⟨27, _⟩ => ⟨S4x2x4x2048x2560, .f32⟩
  | .hbm, ⟨28, _⟩ => ⟨S4x2x4x2048x2560, .f32⟩
  | .hbm, ⟨29, _⟩ => ⟨S4x2x64x4x2048, .f32⟩
  | .hbm, ⟨30, _⟩ => ⟨S4x2048x2x4x64, .f32⟩
  | .hbm, ⟨31, _⟩ => ⟨S8192x512, .f32⟩
  | .hbm, ⟨32, _⟩ => ⟨S8192x512, .bf16⟩
  | _, _ => ⟨S4x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Merge.lean ====
abbrev S12288x1024 : Shape := ⟨2, ![12288, 1024]⟩
abbrev S8x6x1024 : Shape := ⟨3, ![8, 6, 1024]⟩
abbrev S12288x6144 : Shape := ⟨2, ![12288, 6144]⟩
abbrev S12288x512 : Shape := ⟨2, ![12288, 512]⟩
abbrev S128 : Shape := ⟨1, ![128]⟩
abbrev S512 : Shape := ⟨1, ![512]⟩
abbrev S512x512 : Shape := ⟨2, ![512, 512]⟩
abbrev S3x512x1024 : Shape := ⟨3, ![3, 512, 1024]⟩
abbrev S1024x1024 : Shape := ⟨2, ![1024, 1024]⟩
abbrev S1024 : Shape := ⟨1, ![1024]⟩
abbrev S1x128 : Shape := ⟨2, ![1, 128]⟩
abbrev S1x512 : Shape := ⟨2, ![1, 512]⟩
abbrev S1x1024 : Shape := ⟨2, ![1, 1024]⟩
abbrev S256x1024 : Shape := ⟨2, ![256, 1024]⟩
abbrev S1x6x1024 : Shape := ⟨3, ![1, 6, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1x512x1024 : Shape := ⟨3, ![1, 512, 1024]⟩
abbrev S512x1024 : Shape := ⟨2, ![512, 1024]⟩
abbrev S1x1x1024 : Shape := ⟨3, ![1, 1, 1024]⟩

abbrev nBuf : Space → Nat
  | .hbm => 22
  | .vmem => 29
  | .smem => 0
  | _ => 0

abbrev bufTy : (tb : Table) → Fin (tcTables nBuf tb) → BufTy
  | .hbm, ⟨0, _⟩ => ⟨S12288x1024, .f32⟩
  | .hbm, ⟨1, _⟩ => ⟨S8x6x1024, .f32⟩
  | .hbm, ⟨2, _⟩ => ⟨S12288x6144, .f32⟩
  | .hbm, ⟨3, _⟩ => ⟨S12288x512, .f32⟩
  | .hbm, ⟨4, _⟩ => ⟨S12288x512, .f32⟩
  | .hbm, ⟨5, _⟩ => ⟨S12288x512, .f32⟩
  | .hbm, ⟨6, _⟩ => ⟨S128, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S3x512x1024, .f32⟩
  | .hbm, ⟨11, _⟩ => ⟨S1024x1024, .f32⟩
  | .hbm, ⟨12, _⟩ => ⟨S1024, .f32⟩
  | .hbm, ⟨13, _⟩ => ⟨S12288x512, .bf16⟩
  | .hbm, ⟨14, _⟩ => ⟨S1x128, .f32⟩
  | .hbm, ⟨15, _⟩ => ⟨S1x512, .f32⟩
  | .hbm, ⟨16, _⟩ => ⟨S512x512, .bf16⟩
  | .hbm, ⟨17, _⟩ => ⟨S1x512, .f32⟩
  | .hbm, ⟨18, _⟩ => ⟨S3x512x1024, .bf16⟩
  | .hbm, ⟨19, _⟩ => ⟨S1024x1024, .bf16⟩
  | .hbm, ⟨20, _⟩ => ⟨S1x1024, .f32⟩
  | .hbm, ⟨21, _⟩ => ⟨S12288x1024, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .bf16⟩
  | .local _ .vmem, ⟨15, _⟩ => ⟨S256x512, .bf16⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S1x128, .f32⟩
  | .local _ .vmem, ⟨21, _⟩ => ⟨S1x512, .f32⟩
  | .local _ .vmem, ⟨22, _⟩ => ⟨S512x512, .bf16⟩
  | .local _ .vmem, ⟨23, _⟩ => ⟨S1x512, .f32⟩
  | .local _ .vmem, ⟨24, _⟩ => ⟨S3x512x1024, .bf16⟩
  | .local _ .vmem, ⟨25, _⟩ => ⟨S1024x1024, .bf16⟩
  | .local _ .vmem, ⟨26, _⟩ => ⟨S1x1024, .f32⟩
  | .local _ .vmem, ⟨27, _⟩ => ⟨S256x1024, .f32⟩
  | .local _ .vmem, ⟨28, _⟩ => ⟨S256x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MergeRefIdeal.lean ====
abbrev S12288x1024 : Shape := ⟨2, ![12288, 1024]⟩
abbrev S8x6x1024 : Shape := ⟨3, ![8, 6, 1024]⟩
abbrev S12288x6144 : Shape := ⟨2, ![12288, 6144]⟩
abbrev S12288x512 : Shape := ⟨2, ![12288, 512]⟩
abbrev S128 : Shape := ⟨1, ![128]⟩
abbrev S512 : Shape := ⟨1, ![512]⟩
abbrev S512x512 : Shape := ⟨2, ![512, 512]⟩
abbrev S3x512x1024 : Shape := ⟨3, ![3, 512, 1024]⟩
abbrev S1024x1024 : Shape := ⟨2, ![1024, 1024]⟩
abbrev S1024 : Shape := ⟨1, ![1024]⟩
abbrev S12288x3072 : Shape := ⟨2, ![12288, 3072]⟩
abbrev S12288x4x128 : Shape := ⟨3, ![12288, 4, 128]⟩
abbrev S_ : Shape := ⟨0, ![]⟩
abbrev S12288x4 : Shape := ⟨2, ![12288, 4]⟩
abbrev S12288x4x1 : Shape := ⟨3, ![12288, 4, 1]⟩
abbrev S1x1x128 : Shape := ⟨3, ![1, 1, 128]⟩
abbrev S1x512 : Shape := ⟨2, ![1, 512]⟩
abbrev S12288x1x512 : Shape := ⟨3, ![12288, 1, 512]⟩
abbrev S12288x3x512 : Shape := ⟨3, ![12288, 3, 512]⟩
abbrev S3x1024x12288 : Shape := ⟨3, ![3, 1024, 12288]⟩
abbrev S12288x3x1024 : Shape := ⟨3, ![12288, 3, 1024]⟩
abbrev S1x1x1024 : Shape := ⟨3, ![1, 1, 1024]⟩
abbrev S1x1024 : Shape := ⟨2, ![1, 1024]⟩
abbrev S4096x1024 : Shape := ⟨2, ![4096, 1024]⟩
abbrev S4x1x1024 : Shape := ⟨3, ![4, 1, 1024]⟩
abbrev S4x1024 : Shape := ⟨2, ![4, 1024]⟩
abbrev S4x2048x1024 : Shape := ⟨3, ![4, 2048, 1024]⟩
abbrev S8192x1024 : Shape := ⟨2, ![8192, 1024]⟩
abbrev S12288 : Shape := ⟨1, ![12288]⟩
abbrev S12288x1 : Shape := ⟨2, ![12288, 1]⟩

abbrev nBuf : Space → Nat
  | .hbm => 125
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S8x6x1024, .f32⟩
  | .hbm, ⟨2, _⟩ => ⟨S12288x6144, .f32⟩
  | .hbm, ⟨3, _⟩ => ⟨S12288x512, .f32⟩
  | .hbm, ⟨4, _⟩ => ⟨S12288x512, .f32⟩
  | .hbm, ⟨5, _⟩ => ⟨S12288x512, .f32⟩
  | .hbm, ⟨6, _⟩ => ⟨S128, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S3x512x1024, .f32⟩
  | .hbm, ⟨11, _⟩ => ⟨S1024x1024, .f32⟩
  | .hbm, ⟨12, _⟩ => ⟨S1024, .f32⟩
  | .hbm, ⟨13, _⟩ => ⟨S12288x3072, .f32⟩
  | .hbm, ⟨14, _⟩ => ⟨S12288x512, .f32⟩
  | .hbm, ⟨15, _⟩ => ⟨S12288x512, .f32⟩
  | .hbm, ⟨16, _⟩ => ⟨S12288x4x128, .f32⟩
  | .hbm, ⟨17, _⟩ => ⟨S12288x4x128, .f32⟩
  | .hbm, ⟨18, _⟩ => ⟨S_, .f32⟩
  | .hbm, ⟨19, _⟩ => ⟨S12288x4, .f32⟩
  | .hbm, ⟨20, _⟩ => ⟨S12288x4x1, .f32⟩
  | .hbm, ⟨21, _⟩ => ⟨S_, .f32⟩
  | .hbm, ⟨22, _⟩ => ⟨S12288x4x1, .f32⟩
  | .hbm, ⟨23, _⟩ => ⟨S12288x4x1, .f32⟩
  | .hbm, ⟨24, _⟩ => ⟨S_, .f32⟩
  | .hbm, ⟨25, _⟩ => ⟨S12288x4x1, .f32⟩
  | .hbm, ⟨26, _⟩ => ⟨S12288x4x1, .f32⟩
  | .hbm, ⟨27, _⟩ => ⟨S12288x4x1, .f32⟩
  | .hbm, ⟨28, _⟩ => ⟨S12288x4x128, .f32⟩
  | .hbm, ⟨29, _⟩ => ⟨S12288x4x128, .f32⟩
  | .hbm, ⟨30, _⟩ => ⟨S1x1x128, .f32⟩
  | .hbm, ⟨31, _⟩ => ⟨S12288x4x128, .f32⟩
  | .hbm, ⟨32, _⟩ => ⟨S12288x4x128, .f32⟩
  | .hbm, ⟨33, _⟩ => ⟨S12288x4x128, .f32⟩
  | .hbm, ⟨34, _⟩ => ⟨S12288x4x128, .f32⟩
  | .hbm, ⟨35, _⟩ => ⟨S12288x4x128, .f32⟩
  | .hbm, ⟨36, _⟩ => ⟨S_, .f32⟩
  | .hbm, ⟨37, _⟩ => ⟨S12288x4x128, .f32⟩
  | .hbm, ⟨38, _⟩ => ⟨S12288x4x128, .f32⟩
  | .hbm, ⟨39, _⟩ => ⟨S_, .f32⟩
  | .hbm, ⟨40, _⟩ => ⟨S12288x4x128, .f32⟩
  | .hbm, ⟨41, _⟩ => ⟨S12288x4x128, .f32⟩
  | .hbm, ⟨42, _⟩ => ⟨S12288x4x128, .f32⟩
  | .hbm, ⟨43, _⟩ => ⟨S12288x4x128, .f32⟩
  | .hbm, ⟨44, _⟩ => ⟨S1x512, .f32⟩
  | .hbm, ⟨45, _⟩ => ⟨S12288x512, .f32⟩
  | .hbm, ⟨46, _⟩ => ⟨S12288x512, .f32⟩
  | .hbm, ⟨47, _⟩ => ⟨S12288x512, .f32⟩
  | .hbm, ⟨48, _⟩ => ⟨S12288x512, .f32⟩
  | .hbm, ⟨49, _⟩ => ⟨S12288x512, .f32⟩
  | .hbm, ⟨50, _⟩ => ⟨S_, .f32⟩
  | .hbm, ⟨51, _⟩ => ⟨S12288x512, .f32⟩
  | .hbm, ⟨52, _⟩ => ⟨S12288x512, .f32⟩
  | .hbm, ⟨53, _⟩ => ⟨S12288x512, .f32⟩
  | .hbm, ⟨54, _⟩ => ⟨S_, .f32⟩
  | .hbm, ⟨55, _⟩ => ⟨S12288x512, .f32⟩
  | .hbm, ⟨56, _⟩ => ⟨S12288x512, .f32⟩
  | .hbm, ⟨57, _⟩ => ⟨S12288x512, .f32⟩
  | .hbm, ⟨58, _⟩ => ⟨S_, .f32⟩
  | .hbm, ⟨59, _⟩ => ⟨S12288x512, .f32⟩
  | .hbm, ⟨60, _⟩ => ⟨S12288x512, .f32⟩
  | .hbm, ⟨61, _⟩ => ⟨S_, .f32⟩
  | .hbm, ⟨62, _⟩ => ⟨S12288x512, .f32⟩
  | .hbm, ⟨63, _⟩ => ⟨S12288x512, .f32⟩
  | .hbm, ⟨64, _⟩ => ⟨S12288x512, .f32⟩
  | .hbm, ⟨65, _⟩ => ⟨S12288x512, .f32⟩
  | .hbm, ⟨66, _⟩ => ⟨S1x512, .f32⟩
  | .hbm, ⟨67, _⟩ => ⟨S12288x512, .f32⟩
  | .hbm, ⟨68, _⟩ => ⟨S12288x512, .f32⟩
  | .hbm, ⟨69, _⟩ => ⟨S12288x512, .f32⟩
  | .hbm, ⟨70, _⟩ => ⟨S12288x512, .f32⟩
  | .hbm, ⟨71, _⟩ => ⟨S_, .f32⟩
  | .hbm, ⟨72, _⟩ => ⟨S12288x512, .f32⟩
  | .hbm, ⟨73, _⟩ => ⟨S12288x512, .f32⟩
  | .hbm, ⟨74, _⟩ => ⟨S_, .f32⟩
  | .hbm, ⟨75, _⟩ => ⟨S12288x512, .f32⟩
  | .hbm, ⟨76, _⟩ => ⟨S12288x512, .f32⟩
  | .hbm, ⟨77, _⟩ => ⟨S12288x512, .f32⟩
  | .hbm, ⟨78, _⟩ => ⟨S12288x512, .f32⟩
  | .hbm, ⟨79, _⟩ => ⟨S12288x1x512, .f32⟩
  | .hbm, ⟨80, _⟩ => ⟨S12288x1x512, .f32⟩
  | .hbm, ⟨81, _⟩ => ⟨S12288x1x512, .f32⟩
  | .hbm, ⟨82, _⟩ => ⟨S12288x3x512, .f32⟩
  | .hbm, ⟨83, _⟩ => ⟨S3x1024x12288, .f32⟩
  | .hbm, ⟨84, _⟩ => ⟨S12288x3x1024, .f32⟩
  | .hbm, ⟨85, _⟩ => ⟨S12288x3x1024, .f32⟩
  | .hbm, ⟨86, _⟩ => ⟨S12288x3x1024, .f32⟩
  | .hbm, ⟨87, _⟩ => ⟨S12288x3x1024, .f32⟩
  | .hbm, ⟨88, _⟩ => ⟨S_, .f32⟩
  | .hbm, ⟨89, _⟩ => ⟨S12288x3x1024, .f32⟩
  | .hbm, ⟨90, _⟩ => ⟨S12288x3x1024, .f32⟩
  | .hbm, ⟨91, _⟩ => ⟨S_, .f32⟩
  | .hbm, ⟨92, _⟩ => ⟨S12288x3x1024, .f32⟩
  | .hbm, ⟨93, _⟩ => ⟨S12288x3x1024, .f32⟩
  | .hbm, ⟨94, _⟩ => ⟨S12288x3x1024, .f32⟩
  | .hbm, ⟨95, _⟩ => ⟨S_, .f32⟩
  | .hbm, ⟨96, _⟩ => ⟨S12288x1024, .f32⟩
  | .hbm, ⟨97, _⟩ => ⟨S1x1x1024, .f32⟩
  | .hbm, ⟨98, _⟩ => ⟨S1x1024, .f32⟩
  | .hbm, ⟨99, _⟩ => ⟨S4096x1024, .f32⟩
  | .hbm, ⟨100, _⟩ => ⟨S4x1x1024, .f32⟩
  | .hbm, ⟨101, _⟩ => ⟨S4x1024, .f32⟩
  | .hbm, ⟨102, _⟩ => ⟨S4x1x1024, .f32⟩
  | .hbm, ⟨103, _⟩ => ⟨S4x2048x1024, .f32⟩
  | .hbm, ⟨104, _⟩ => ⟨S8192x1024, .f32⟩
  | .hbm, ⟨105, _⟩ => ⟨S12288x1024, .f32⟩
  | .hbm, ⟨106, _⟩ => ⟨S12288x1024, .f32⟩
  | .hbm, ⟨107, _⟩ => ⟨S12288x1024, .f32⟩
  | .hbm, ⟨108, _⟩ => ⟨S_, .f32⟩
  | .hbm, ⟨109, _⟩ => ⟨S12288, .f32⟩
  | .hbm, ⟨110, _⟩ => ⟨S12288x1, .f32⟩
  | .hbm, ⟨111, _⟩ => ⟨S_, .f32⟩
  | .hbm, ⟨112, _⟩ => ⟨S12288x1, .f32⟩
  | .hbm, ⟨113, _⟩ => ⟨S12288x1, .f32⟩
  | .hbm, ⟨114, _⟩ => ⟨S_, .f32⟩
  | .hbm, ⟨115, _⟩ => ⟨S12288x1, .f32⟩
  | .hbm, ⟨116, _⟩ => ⟨S12288x1, .f32⟩
  | .hbm, ⟨117, _⟩ => ⟨S12288x1, .f32⟩
  | .hbm, ⟨118, _⟩ => ⟨S12288x1024, .f32⟩
  | .hbm, ⟨119, _⟩ => ⟨S12288x1024, .f32⟩
  | .hbm, ⟨120, _⟩ => ⟨S1x1024, .f32⟩
  | .hbm, ⟨121, _⟩ => ⟨S12288x1024, .f32⟩
  | .hbm, ⟨122, _⟩ => ⟨S12288x1024, .f32⟩
  | .hbm, ⟨123, _⟩ => ⟨S12288x1024, .f32⟩
  | .hbm, ⟨124, _⟩ => ⟨S12288x1024, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_4 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_cst_7 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_8 : Ref sig .tc := ⟨.hbm, 88, rfl⟩
abbrev main_v58 : Ref sig .tc := ⟨.hbm, 89, rfl⟩
abbrev main_v59 : Ref sig .tc := ⟨.hbm, 90, rfl⟩
abbrev main_cst_9 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_10 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_11 : Ref sig .tc := ⟨.hbm, 108, rfl⟩
abbrev main_v75 : Ref sig .tc := ⟨.hbm, 109, rfl⟩
abbrev main_v76 : Ref sig .tc := ⟨.hbm, 110, rfl⟩
abbrev main_cst_12 : Ref sig .tc := ⟨.hbm, 111, rfl⟩
abbrev main_v77 : Ref sig .tc := ⟨.hbm, 112, rfl⟩
abbrev main_v78 : Ref sig .tc := ⟨.hbm, 113, rfl⟩
abbrev main_cst_13 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩

abbrev nD : Nat := 1
abbrev τ : Topo := Topo.v7x

variable {F : FTy → Type} [FloatOps F]
-- ==== QkCtx.lean ====
abbrev S12288x6144 : Shape := ⟨2, ![12288, 6144]⟩
abbrev S2x64 : Shape := ⟨2, ![2, 64]⟩
abbrev S1x64 : Shape := ⟨2, ![1, 64]⟩
abbrev S64 : Shape := ⟨1, ![64]⟩
abbrev S8x64 : Shape := ⟨2, ![8, 64]⟩
abbrev S512 : Shape := ⟨1, ![512]⟩
abbrev S1x512 : Shape := ⟨2, ![1, 512]⟩
abbrev S128 : Shape := ⟨1, ![128]⟩
abbrev S1x128 : Shape := ⟨2, ![1, 128]⟩
abbrev S_ : Shape := ⟨0, ![]⟩
abbrev S512x1 : Shape := ⟨2, ![512, 1]⟩
abbrev S512x512 : Shape := ⟨2, ![512, 512]⟩
abbrev S4096x512 : Shape := ⟨2, ![4096, 512]⟩
abbrev S4096x128 : Shape := ⟨2, ![4096, 128]⟩
abbrev S256x512 : Shape := ⟨2, ![256, 512]⟩
abbrev S256x128 : Shape := ⟨2, ![256, 128]⟩
abbrev S128x128 : Shape := ⟨2, ![128, 128]⟩

abbrev nBuf : Space → Nat
  | .hbm => 27
  | .vmem => 13
  | .smem => 0
  | _ => 0

abbrev bufTy : (tb : Table) → Fin (tcTables nBuf tb) → BufTy
  | .hbm, ⟨0, _⟩ => ⟨S12288x6144, .f32⟩
  | .hbm, ⟨1, _⟩ => ⟨S2x64, .f32⟩
  | .hbm, ⟨2, _⟩ => ⟨S1x64, .f32⟩
  | .hbm, ⟨3, _⟩ => ⟨S64, .f32⟩
  | .hbm, ⟨4, _⟩ => ⟨S1x64, .f32⟩
  | .hbm, ⟨5, _⟩ => ⟨S8x64, .f32⟩
  | .hbm, ⟨6, _⟩ => ⟨S512, .f32⟩
  | .hbm, ⟨7, _⟩ => ⟨S1x512, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S2x64, .f32⟩
  | .hbm, ⟨12, _⟩ => ⟨S128, .f32⟩
  | .hbm, ⟨13, _⟩ => ⟨S1x128, .f32⟩
  | .hbm, ⟨14, _⟩ => ⟨S512, .i32⟩
  | .hbm, ⟨15, _⟩ => ⟨S_, .i32⟩
  | .hbm, ⟨16, _⟩ => ⟨S512, .i32⟩
  | .hbm, ⟨17, _⟩ => ⟨S512, .i32⟩
  | .hbm, ⟨18, _⟩ => ⟨S512x1, .i32⟩
  | .hbm, ⟨19, _⟩ => ⟨S1x512, .i32⟩
  | .hbm, ⟨20, _⟩ => ⟨S512x512, .i32⟩
  | .hbm, ⟨21, _⟩ => ⟨S512x512, .i32⟩
  | .hbm, ⟨22, _⟩ => ⟨S512x512, .i1⟩
  | .hbm, ⟨23, _⟩ => ⟨S512x512, .bf16⟩
  | .hbm, ⟨24, _⟩ => ⟨S4096x512, .bf16⟩
  | .hbm, ⟨25, _⟩ => ⟨S4096x128, .bf16⟩
  | .hbm, ⟨26, _⟩ => ⟨S4096x128, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S1x512, .f32⟩
  | .local _ .vmem, ⟨5, _⟩ => ⟨S1x128, .f32⟩
  | .local _ .vmem, ⟨6, _⟩ => ⟨S512x512, .bf16⟩
  | .local _ .vmem, ⟨7, _⟩ => ⟨S256x512, .bf16⟩
  | .local _ .vmem, ⟨8, _⟩ => ⟨S256x512, .bf16⟩
  | .local _ .vmem, ⟨9, _⟩ => ⟨S256x128, .bf16⟩
  | .local _ .vmem, ⟨10, _⟩ => ⟨S256x128, .bf16⟩
  | .local _ .vmem, ⟨11, _⟩ => ⟨S256x128, .f32⟩
  | .local _ .vmem, ⟨12, _⟩ => ⟨S256x128, .f32⟩
  | _, _ => ⟨S12288x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21_0 : Ref sig .tc := ⟨.hbm, 24, rfl⟩
abbrev main_v21_1 : Ref sig .tc := ⟨.hbm, 25, rfl⟩
abbrev main_v21_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c9_i32 : BitVec 32 := 9#32
  let c0_i32_0 : BitVec 32 := 0#32
  ![v0.toNat, c9_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c44_i32 : BitVec 32 := 44#32
  let c0_i32_0 : BitVec 32 := 0#32
  ![v0.toNat, c44_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QkCtxRefIdeal.lean ====
abbrev S12288x6144 : Shape := ⟨2, ![12288, 6144]⟩
abbrev S2x64 : Shape := ⟨2, ![2, 64]⟩
abbrev S4096x512 : Shape := ⟨2, ![4096, 512]⟩
abbrev S4096x8x64 : Shape := ⟨3, ![4096, 8, 64]⟩
abbrev S1x64 : Shape := ⟨2, ![1, 64]⟩
abbrev S64 : Shape := ⟨1, ![64]⟩
abbrev S_ : Shape := ⟨0, ![]⟩
abbrev S4096x8 : Shape := ⟨2, ![4096, 8]⟩
abbrev S4096x8x1 : Shape := ⟨3, ![4096, 8, 1]⟩
abbrev S1x1x64 : Shape := ⟨3, ![1, 1, 64]⟩
abbrev S4096x128 : Shape := ⟨2, ![4096, 128]⟩
abbrev S4096x2x64 : Shape := ⟨3, ![4096, 2, 64]⟩
abbrev S4096x2 : Shape := ⟨2, ![4096, 2]⟩
abbrev S4096x2x1 : Shape := ⟨3, ![4096, 2, 1]⟩

abbrev nBuf : Space → Nat
  | .hbm => 50
  | .vmem => 0
  | .smem => 0
  | _ => 0

abbrev bufTy : (tb : Table) → Fin (tcTables nBuf tb) → BufTy
  | .hbm, ⟨0, _⟩ => ⟨S12288x6144, .f32⟩
  | .hbm, ⟨1, _⟩ => ⟨S2x64, .f32⟩
  | .hbm, ⟨2, _⟩ => ⟨S4096x512, .f32⟩
  | .hbm, ⟨3, _⟩ => ⟨S4096x8x64, .f32⟩
  | .hbm, ⟨4, _⟩ => ⟨S1x64, .f32⟩
  | .hbm, ⟨5, _⟩ => ⟨S64, .f32⟩
  | .hbm, ⟨6, _⟩ => ⟨S4096x8x64, .f32⟩
  | .hbm, ⟨7, _⟩ => ⟨S_, .f32⟩
  | .hbm, ⟨8, _⟩ => ⟨S4096x8, .f32⟩
  | .hbm, ⟨9, _⟩ => ⟨S4096x8x1, .f32⟩
  | .hbm, ⟨10, _⟩ => ⟨S_, .f32⟩
  | .hbm, ⟨11, _⟩ => ⟨S4096x8x1, .f32⟩
  | .hbm, ⟨12, _⟩ => ⟨S4096x8x1, .f32⟩
  | .hbm, ⟨13, _⟩ => ⟨S_, .f32⟩
  | .hbm, ⟨14, _⟩ => ⟨S4096x8x1, .f32⟩
  | .hbm, ⟨15, _⟩ => ⟨S4096x8x1, .f32⟩
  | .hbm, ⟨16, _⟩ => ⟨S4096x8x1, .f32⟩
  | .hbm, ⟨17, _⟩ => ⟨S4096x8x64, .f32⟩
  | .hbm, ⟨18, _⟩ => ⟨S4096x8x64, .f32⟩
  | .hbm, ⟨19, _⟩ => ⟨S1x1x64, .f32⟩
  | .hbm, ⟨20, _⟩ => ⟨S4096x8x64, .f32⟩
  | .hbm, ⟨21, _⟩ => ⟨S4096x8x64, .f32⟩
  | .hbm, ⟨22, _⟩ => ⟨S_, .f32⟩
  | .hbm, ⟨23, _⟩ => ⟨S4096x8x64, .f32⟩
  | .hbm, ⟨24, _⟩ => ⟨S4096x8x64, .f32⟩
  | .hbm, ⟨25, _⟩ => ⟨S4096x128, .f32⟩
  | .hbm, ⟨26, _⟩ => ⟨S4096x2x64, .f32⟩
  | .hbm, ⟨27, _⟩ => ⟨S1x64, .f32⟩
  | .hbm, ⟨28, _⟩ => ⟨S64, .f32⟩
  | .hbm, ⟨29, _⟩ => ⟨S4096x2x64, .f32⟩
  | .hbm, ⟨30, _⟩ => ⟨S_, .f32⟩
  | .hbm, ⟨31, _⟩ => ⟨S4096x2, .f32⟩
  | .hbm, ⟨32, _⟩ => ⟨S4096x2x1, .f32⟩
  | .hbm, ⟨33, _⟩ => ⟨S_, .f32⟩
  | .hbm, ⟨34, _⟩ => ⟨S4096x2x1, .f32⟩
  | .hbm, ⟨35, _⟩ => ⟨S4096x2x1, .f32⟩
  | .hbm, ⟨36, _⟩ => ⟨S_, .f32⟩
  | .hbm, ⟨37, _⟩ => ⟨S4096x2x1, .f32⟩
  | .hbm, ⟨38, _⟩ => ⟨S4096x2x1, .f32⟩
  | .hbm, ⟨39, _⟩ => ⟨S4096x2x1, .f32⟩
  | .hbm, ⟨40, _⟩ => ⟨S4096x2x64, .f32⟩
  | .hbm, ⟨41, _⟩ => ⟨S4096x2x64, .f32⟩
  | .hbm, ⟨42, _⟩ => ⟨S1x1x64, .f32⟩
  | .hbm, ⟨43, _⟩ => ⟨S4096x2x64, .f32⟩
  | .hbm, ⟨44, _⟩ => ⟨S4096x2x64, .f32⟩
  | .hbm, ⟨45, _⟩ => ⟨S4096x512, .f32⟩
  | .hbm, ⟨46, _⟩ => ⟨S4096x512, .bf16⟩
  | .hbm, ⟨47, _⟩ => ⟨S4096x128, .f32⟩
  | .hbm, ⟨48, _⟩ => ⟨S4096x128, .bf16⟩
  | .hbm, ⟨49, _⟩ => ⟨S4096x128, .f32⟩
  | _, _ => ⟨S12288x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== Proof.Math.Layer.lean ====
module

public import Idealize.ShloMosaic.Lib.Pointwise

@[expose] public section

/-! # Norm, modulation and SiLU over the extended reals

The row functions that the dense layer and the input projection share, as both the kernels and the
references compute them. -/

noncomputable section

namespace Cert.Math

open Idealize.ShloMosaic

/-- The RMS norm of a row of 1024, at one column. -/
def rms (x g : Fin 1024 → EReal) (k : Fin 1024) : EReal :=
  x k * Ideal.rsqrt (Ideal.div (∑ j, x j * x j) (Ideal.ofBits .f32 0x44800000#32) + Ideal.ofBits .f32 0x358637BD#32) * g k

/-- The norm, scaled by one plus `s` and shifted by `b`. -/
def modulated (x g s b : Fin 1024 → EReal) (k : Fin 1024) : EReal := rms x g k * (1 + s k) + b k

/-- The product of a row with a column. -/
def dot {n : ℕ} (x w : Fin n → EReal) : EReal := ∑ j, x j * w j

/-- SiLU. -/
def silu (x : EReal) : EReal := x * Ideal.logistic x

/-- SwiGLU of a row `h`: the gate columns `wg`, the other columns `wu`, then one column of the last matrix. -/
def swiglu {n : ℕ} (h : Fin 1024 → EReal) (wg wu : Fin n → Fin 1024 → EReal) (wd : Fin n → EReal) : EReal :=
  ∑ f, silu (dot h (wg f)) * dot h (wu f) * wd f

/-- SwiGLU over a hidden width in two parts. -/
theorem swiglu_add {n k : ℕ} (h : Fin 1024 → EReal) (wg wu : Fin (n + k) → Fin 1024 → EReal) (wd : Fin (n + k) → EReal) :
    swiglu h wg wu wd = swiglu h (fun f => wg (Fin.castAdd k f)) (fun f => wu (Fin.castAdd k f)) (fun f => wd (Fin.castAdd k f)) +
      swiglu h (fun f => wg (Fin.natAdd n f)) (fun f => wu (Fin.natAdd n f)) (fun f => wd (Fin.natAdd n f)) :=
  Fin.sum_univ_add _

/-- The row of the modulation that a token reads: row 0 for the 4096 context tokens, then one row for each 2048 latents. -/
def seq (r : Fin 12288) : Fin 8 := if h : r.val < 4096 then 0 else ⟨1 + (r.val - 4096) / 2048, by omega⟩

end Cert.Math

end
-- ==== Proof.Math.Softmax.lean ====
module

public import Idealize.ShloMosaic.Lib.Pipeline.ValueKit
public import Idealize.ShloMosaic.Lib.IdealHost

@[expose] public section

/-! # The attention row over the extended reals

One row of scores, finite, and any values. The kernel adds the weighted values first and divides
the sum by the sum of the weights; the reference divides each weight first. The two agree whatever
real numbers are subtracted inside the exponentials. -/

noncomputable section

namespace Cert.Math

open Idealize.ShloMosaic

/-- Multiplying by a nonnegative real goes through a finite sum of extended reals. -/
theorem sum_mul_coe {ι : Type*} (s : Finset ι) (f : ι → EReal) {c : ℝ} (hc : 0 ≤ c) :
    (∑ i ∈ s, f i) * (c : EReal) = ∑ i ∈ s, f i * c := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- A finite sum of reals, read in the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many (at least one) reals, folded from −∞, is a real. -/
theorem exists_fold_max {ι : Type*} [Fintype ι] [Nonempty ι] (f : ι → ℝ) :
    ∃ M : ℝ, Finset.fold max (⊥ : EReal) (fun i => (f i : EReal)) Finset.univ = M := by
  obtain ⟨i, -, hi⟩ := Finset.exists_mem_eq_sup (Finset.univ : Finset ι) Finset.univ_nonempty
    (fun i => (f i : EReal))
  exact ⟨f i, hi⟩

theorem max_coe (a b : ℝ) : max (a : EReal) (b : EReal) = ((max a b : ℝ) : EReal) := by
  rcases le_total a b with h | h
  · rw [max_eq_right h, max_eq_right (by exact_mod_cast h)]
  · rw [max_eq_left h, max_eq_left (by exact_mod_cast h)]

section
variable {ι : Type*} [Fintype ι] [Nonempty ι] (s : ι → ℝ) (v : ι → EReal) (M M' : ℝ)

theorem weights_pos : 0 < ∑ i, Real.exp (s i - M) :=
  Finset.sum_pos (fun i _ => Real.exp_pos _) Finset.univ_nonempty

/-- A real weight over the sum of the weights does not depend on the shift. -/
theorem weight_shift (i : ι) :
    Real.exp (s i - M) * (1 / ∑ j, Real.exp (s j - M)) =
      Real.exp (s i - M') * (1 / ∑ j, Real.exp (s j - M')) := by
  have h : ∀ j, Real.exp (s j - M) = Real.exp (M' - M) * Real.exp (s j - M') := fun j => by
    rw [← Real.exp_add]; congr 1; ring
  have h' := (weights_pos s M').ne'
  simp only [h, ← Finset.mul_sum]
  field_simp

/-- The quotient of the sums is the sum of the values against the quotients. -/
theorem softmax_eq :
    Ideal.div (∑ i, Ideal.exp ((s i : EReal) - M) * v i) (∑ i, Ideal.exp ((s i : EReal) - M)) =
      ∑ i, v i * Ideal.div (Ideal.exp ((s i : EReal) - M')) (∑ j, Ideal.exp ((s j : EReal) - M')) := by
  simp only [← EReal.coe_sub, Ideal.exp_coe, ← coe_sum]
  rw [Ideal.div_coe (weights_pos s M).ne', sum_mul_coe _ _ (by have := weights_pos s M; positivity)]
  refine Finset.sum_congr rfl fun i _ => ?_
  rw [Ideal.div_coe (weights_pos s M').ne', ← EReal.coe_mul, ← weight_shift s M M' i, EReal.coe_mul]
  ac_rfl
end

/-- One source of keys, in the kernel's and the reference's spelling. -/
theorem one_source {n : ℕ} [NeZero n] (a s : Fin n → EReal) (va v o : Fin n → EReal)
    (hs : ∀ i, ∃ r : ℝ, s i = r) (ha : ∀ i, a i = s i) (hv : ∀ i, va i = v i) (ho : ∀ i, o i = 1) :
    Ideal.div (∑ i, Ideal.exp (a i - Finset.fold max ⊥ a Finset.univ) * va i)
        (∑ i, Ideal.exp (a i - Finset.fold max ⊥ a Finset.univ) * o i) =
      ∑ i, v i * Ideal.div (Ideal.exp (s i - max ⊥ (Finset.fold max ⊥ s Finset.univ)))
        (∑ j, Ideal.exp (s j - max ⊥ (Finset.fold max ⊥ s Finset.univ))) := by
  obtain rfl : a = s := funext ha
  obtain rfl : va = v := funext hv
  choose r hr using hs
  obtain rfl : a = fun i => (r i : EReal) := funext hr
  obtain ⟨M, hM⟩ := exists_fold_max r
  simp only [hM, ho, mul_one, max_bot_left]
  exact softmax_eq r va M M

/-- Two sources of keys, one after the other in the reference's row. -/
theorem two_sources (n m : ℕ) [NeZero n] [NeZero m] (a va : Fin n → EReal) (b vb : Fin m → EReal)
    (s v : Fin (n + m) → EReal) (hs : ∀ i, ∃ r : ℝ, s i = r)
    (ha : ∀ i, a i = s (Fin.castAdd m i)) (hb : ∀ i, b i = s (Fin.natAdd n i))
    (hva : ∀ i, va i = v (Fin.castAdd m i)) (hvb : ∀ i, vb i = v (Fin.natAdd n i)) :
    Ideal.div
        (∑ i, Ideal.exp (a i - max (Finset.fold max ⊥ a Finset.univ) (Finset.fold max ⊥ b Finset.univ)) * va i +
          ∑ i, Ideal.exp (b i - max (Finset.fold max ⊥ a Finset.univ) (Finset.fold max ⊥ b Finset.univ)) * vb i)
        (∑ i, Ideal.exp (a i - max (Finset.fold max ⊥ a Finset.univ) (Finset.fold max ⊥ b Finset.univ)) +
          ∑ i, Ideal.exp (b i - max (Finset.fold max ⊥ a Finset.univ) (Finset.fold max ⊥ b Finset.univ))) =
      ∑ i, v i * Ideal.div (Ideal.exp (s i - max ⊥ (Finset.fold max ⊥ s Finset.univ)))
        (∑ j, Ideal.exp (s j - max ⊥ (Finset.fold max ⊥ s Finset.univ))) := by
  choose r hr using hs
  obtain rfl : s = fun i => (r i : EReal) := funext hr
  obtain rfl : a = fun i => (r (Fin.castAdd m i) : EReal) := funext ha
  obtain rfl : b = fun i => (r (Fin.natAdd n i) : EReal) := funext hb
  haveI : NeZero (n + m) := ⟨by have := NeZero.ne n; omega⟩
  obtain ⟨A, hA⟩ := exists_fold_max fun i : Fin n => r (Fin.castAdd m i)
  obtain ⟨B, hB⟩ := exists_fold_max fun i : Fin m => r (Fin.natAdd n i)
  obtain ⟨M, hM⟩ := exists_fold_max r
  simp only [hA, hB, hM, hva, hvb, max_bot_left, max_coe]
  rw [← softmax_eq r v (max A B) M, Fin.sum_univ_add, Fin.sum_univ_add]

/-- A product of finite vectors is finite. -/
theorem dot_finite {n : ℕ} (f g : Fin n → EReal) (hf : ∀ i, ∃ r : ℝ, f i = r) (hg : ∀ i, ∃ r : ℝ, g i = r) :
    ∃ r : ℝ, ∑ i, f i * g i = r := by
  choose p hp using hf
  choose q hq using hg
  exact ⟨∑ i, p i * q i, by simp only [hp, hq, ← EReal.coe_mul, coe_sum]⟩

/-- The f32 pattern of one eighth. -/
theorem ofBits_eighth : Ideal.ofBits .f32 0x3E000000#32 = (((1 : ℝ) / 8 : ℝ) : EReal) := by
  simp [Ideal.ofBits, Ideal.ieee, -EReal.coe_mul]; norm_num

/-- The f32 pattern of −∞. -/
theorem ofBits_neg_inf : Ideal.ofBits .f32 0xFF800000#32 = ⊥ := by
  simp [Ideal.ofBits, Ideal.ieee]

/-- The f32 pattern of +∞. -/
theorem ofBits_inf : Ideal.ofBits .f32 0x7F800000#32 = ⊤ := by
  simp [Ideal.ofBits, Ideal.ieee]

/-- What lies strictly below +∞ in absolute value is a real. -/
theorem real_of_abs_lt (x : EReal) (h : max x (-x) < ⊤) : ∃ r : ℝ, x = r := by
  have h1 : x ≠ ⊤ := fun h' => by subst h'; simp at h
  have h2 : x ≠ ⊥ := fun h' => by subst h'; simp at h
  exact ⟨x.toReal, (EReal.coe_toReal h1 h2).symm⟩

end Cert.Math

end
-- ==== Proof.Math.TopTwo.lean ====
module

public import Idealize.ShloMosaic.Lib.SortFacts
public import Idealize.ShloMosaic.Lib.Pointwise
public import proofs.«01_k».proof.Proof.Math.Softmax

@[expose] public section

/-! # The two greatest entries of a row

The two greatest entries, equal ones in the order of their positions, as a stable sort finds them, and the
weights that a softmax over the two gives each position. -/

noncomputable section

namespace Cert.Math

open Idealize.ShloMosaic

/-- Position `a` comes before position `b`: its entry is greater, or equal and earlier. -/
def Ahead {n : ℕ} (x : Fin n → EReal) (a b : Fin n) : Prop := x b < x a ∨ x b = x a ∧ a < b

/-- `a` and `b` are the first two positions of `x` in that order. -/
structure TopTwo {n : ℕ} (x : Fin n → EReal) (a b : Fin n) : Prop where
  ne : a ≠ b
  fst : ∀ k, k ≠ a → Ahead x a k
  snd : ∀ k, k ≠ a → k ≠ b → Ahead x b k

section Stable

variable {n : ℕ} (x : Fin n → EReal)

open Classical in
/-- The order as a test. -/
def aheadB (a b : Fin n) : Bool := decide (Ahead x a b)

variable (R : Fin n → Fin n → Bool) (hR : ∀ a b, R a b = decide (x b < x a))

theorem ahead_trans_neg (a b c : Fin n) (hab : ¬ Ahead x a b) (hbc : ¬ Ahead x b c) : ¬ Ahead x a c := by
  unfold Ahead at *
  rintro (h | ⟨h, h'⟩)
  · rcases lt_trichotomy (x a) (x b) with q | q | q
    · exact hbc (.inl (h.trans q))
    · exact hbc (.inl (q ▸ h))
    · exact hab (.inl q)
  · rcases lt_trichotomy (x a) (x b) with q | q | q
    · exact hbc (.inl (h ▸ q))
    · rcases lt_or_ge a b with r | r
      · exact hab (.inr ⟨q.symm, r⟩)
      · exact hbc (.inr ⟨h.trans q, lt_of_le_of_lt r h'⟩)
    · exact hab (.inl q)

theorem ahead_or (a b : Fin n) (h : a ≠ b) : Ahead x a b ∨ Ahead x b a := by
  unfold Ahead
  rcases lt_trichotomy (x a) (x b) with q | q | q
  · exact .inr (.inl q)
  · rcases lt_or_gt_of_ne h with r | r
    · exact .inl (.inr ⟨q.symm, r⟩)
    · exact .inr (.inr ⟨q, r⟩)
  · exact .inl (.inl q)

theorem not_both (a b : Fin n) (h : Ahead x a b) : ¬ Ahead x b a := by
  unfold Ahead at *
  rintro (q | ⟨q, q'⟩) <;> rcases h with h | ⟨h, h'⟩
  · exact lt_asymm h q
  · exact lt_irrefl _ (h ▸ q)
  · exact lt_irrefl _ (q ▸ h)
  · exact lt_asymm h' q'

include hR in
/-- A stable sort by "greater" is a sort by the order with the positions. -/
theorem stableSort_eq (l : List (Fin n)) (hl : l.Pairwise (· < ·)) : stableSort R l = stableSort (aheadB x) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    rw [hR]
    unfold aheadB
    congr 1
    unfold Ahead
    exact propext ⟨Or.inl, fun h => h.resolve_right fun h' => lt_asymm hab h'.2⟩

include hR in
theorem sortedFrom_eq : sortedFrom R = sortedFrom (aheadB x) := by
  funext k
  unfold sortedFrom
  have h : sortPositions n R = sortPositions n (aheadB x) :=
    stableSort_eq x R hR _ (List.pairwise_lt_finRange n)
  rw [List.get_of_eq h]
  rfl

include hR in
/-- The sorted positions come in the order. -/
theorem sorted_ahead (i j : Fin n) (hij : i < j) : Ahead x (sortedFrom R i) (sortedFrom R j) := by
  have hne : sortedFrom R i ≠ sortedFrom R j := fun h => hij.ne (sortedFrom_injective R h)
  refine (ahead_or x _ _ hne).resolve_right ?_
  rw [sortedFrom_eq x R hR]
  have := sortedFrom_noInversion (aheadB x) (aheadB x)
    (fun a b h => by simp only [aheadB, decide_eq_true_eq, decide_eq_false_iff_not] at *; exact not_both x a b h) (fun _ _ h => h)
    (fun a b c h h' => by simp only [aheadB, decide_eq_false_iff_not] at *; exact ahead_trans_neg x a b c h h') i j hij
  simpa only [aheadB, decide_eq_false_iff_not] using this

end Stable

/-- The first two sorted positions are the two greatest. -/
theorem topTwo_sorted {n : ℕ} (x : Fin (n + 2) → EReal) (R : Fin (n + 2) → Fin (n + 2) → Bool)
    (hR : ∀ a b, R a b = decide (x b < x a)) : TopTwo x (sortedFrom R 0) (sortedFrom R 1) where
  ne := fun h => by have := sortedFrom_injective R h; simp at this
  fst := fun k hk => by
    obtain ⟨i, rfl⟩ := sortedFrom_surjective R k
    refine sorted_ahead x R hR 0 i (Fin.pos_iff_ne_zero.mpr fun h => hk (h ▸ rfl))
  snd := fun k hk hk' => by
    obtain ⟨i, rfl⟩ := sortedFrom_surjective R k
    refine sorted_ahead x R hR 1 i ?_
    have h0 : i ≠ 0 := fun h => hk (h ▸ rfl)
    have h1 : i ≠ 1 := fun h => hk' (h ▸ rfl)
    rw [Fin.lt_def]
    have a0 : i.val ≠ 0 := fun h => h0 (Fin.ext h)
    have a1 : i.val ≠ 1 := fun h => h1 (Fin.ext (by simpa using h))
    have : (1 : Fin (n + 2)).val = 1 := by simp
    omega

/-- The weight of a position: its share in the softmax over the entries at `a` and `b`. -/
def topGate {n : ℕ} (x : Fin n → EReal) (a b e : Fin n) : EReal :=
  (if e = a then Ideal.div 1 (1 + Ideal.exp (x b - x a)) else 0) +
    if e = b then Ideal.exp (x b - x a) * Ideal.div 1 (1 + Ideal.exp (x b - x a)) else 0

theorem exp_nonneg (x : EReal) : 0 ≤ Ideal.exp x := by
  induction x using EReal.rec with
  | bot => exact le_refl _
  | coe r => exact EReal.coe_nonneg.mpr (Real.exp_pos r).le
  | top => exact le_top

/-- A quotient as a product with the reciprocal, of a sum that is not zero. -/
theorem div_one_add (u v : EReal) (hv : 0 ≤ v) : Ideal.div u (1 + v) = u * Ideal.div 1 (1 + v) := by
  have h : (1 + v) ≠ 0 := by
    have : (0 : EReal) < 1 + v := lt_of_lt_of_le zero_lt_one (le_add_of_nonneg_right hv)
    exact this.ne'
  unfold Ideal.div
  rw [if_neg h, if_neg h, one_mul]

end Cert.Math

end
-- ==== Proof.Math.Lanes.lean ====
module

public import proofs.«01_k».proof.Proof.Math.TopTwo

@[expose] public section

/-! # The two greatest entries found in a row of 128 lanes

The row holds eight entries and −∞ after them. Its maximum is the greatest entry and the least lane that
equals it is that entry's position; the same with that lane set to −∞ gives the second. -/

noncomputable section

namespace Cert.Math

open Idealize.ShloMosaic

theorem word_inj (a b : ℕ) (ha : a < 2 ^ 32) (hb : b < 2 ^ 32) : BitVec.ofNat 32 a = BitVec.ofNat 32 b ↔ a = b := by
  rw [← BitVec.toNat_inj, BitVec.toNat_ofNat, BitVec.toNat_ofNat, Nat.mod_eq_of_lt ha, Nat.mod_eq_of_lt hb]

theorem select_eq {α : Type} (a b : BitVec 32) (u v : α) :
    Scalar.select (IntOp.cmpi .eq a b) u v = if a = b then u else v := by
  unfold Scalar.select IntOp.cmpi
  by_cases h : a = b
  · subst h; simp
  · have hb : (a == b) = false := by simpa using h
    rw [if_neg h]
    simp only [hb]
    exact if_neg (by decide)

theorem select_lane {α : Type} (a b : ℕ) (ha : a < 2 ^ 32) (hb : b < 2 ^ 32) (u v : α) :
    Scalar.select (IntOp.cmpi .eq (BitVec.ofNat 32 a) (BitVec.ofNat 32 b)) u v = if a = b then u else v := by
  rw [select_eq]
  simp only [word_inj a b ha hb]

theorem select_decide {α : Type} (p : Prop) [Decidable p] (u v : α) :
    Scalar.select (BitVec.ofBool (decide p)) u v = if p then u else v := by
  by_cases h : p <;> simp [Scalar.select, h]

/-- The greatest entry of a row, folded from −∞. -/
theorem fold_max_eq {n : ℕ} (L : Fin n → EReal) (i : Fin n) (h : ∀ l, L l ≤ L i) : Finset.fold max ⊥ L Finset.univ = L i :=
  le_antisymm (Finset.sup_le fun l _ => h l) (Finset.le_sup (f := L) (Finset.mem_univ i))

theorem minsi_cases (x y : BitVec 32) : (x.toInt < y.toInt ∧ IntOp.minsi x y = x) ∨ (y.toInt ≤ x.toInt ∧ IntOp.minsi x y = y) := by
  unfold IntOp.minsi
  by_cases h : x.toInt < y.toInt
  · exact .inl ⟨h, by simp [BitVec.slt, h]⟩
  · exact .inr ⟨not_lt.mp h, by simp [BitVec.slt, h]⟩

/-- The least word of a row, folded from a word that is not less. -/
theorem fold_min_eq {n : ℕ} (f : Fin n → BitVec 32) (b : BitVec 32) (i : Fin n) (hb : (f i).toInt ≤ b.toInt)
    (h : ∀ l, (f i).toInt ≤ (f l).toInt) : Finset.fold IntOp.minsi b f Finset.univ = f i := by
  have key : ∀ s : Finset (Fin n), (f i).toInt ≤ (Finset.fold IntOp.minsi b f s).toInt ∧
      (i ∈ s → Finset.fold IntOp.minsi b f s = f i) := by
    intro s
    induction s using Finset.induction_on with
    | empty => exact ⟨hb, fun h => absurd h (Finset.notMem_empty _)⟩
    | insert a s ha ih =>
      rw [Finset.fold_insert ha]
      have hal := h a
      rcases minsi_cases (f a) (Finset.fold IntOp.minsi b f s) with ⟨q, e⟩ | ⟨q, e⟩
      · rw [e]
        refine ⟨hal, fun hi => ?_⟩
        rcases Finset.mem_insert.mp hi with rfl | hi
        · rfl
        · rw [ih.2 hi] at q; omega
      · rw [e]
        refine ⟨ih.1, fun hi => ?_⟩
        rcases Finset.mem_insert.mp hi with rfl | hi
        · exact BitVec.eq_of_toInt_eq (by have := ih.1; omega)
        · exact ih.2 hi
  exact (key Finset.univ).2 (Finset.mem_univ i)

theorem toInt_lane (l : ℕ) (h : l ≤ 128) : (BitVec.ofNat 32 l).toInt = l := by
  rw [BitVec.toInt_eq_toNat_cond, BitVec.toNat_ofNat, Nat.mod_eq_of_lt (by omega), if_pos (by omega)]

/-- The least lane with a property, found as the least word. -/
theorem least_lane (p : Fin 128 → Prop) [DecidablePred p] (i : Fin 128) (hi : p i) (h : ∀ l, p l → i ≤ l) :
    Finset.fold IntOp.minsi 2147483647#32 (fun l : Fin 128 => if p l then BitVec.ofNat 32 l.val else 128#32) Finset.univ =
      BitVec.ofNat 32 i.val := by
  have e : (if p i then BitVec.ofNat 32 i.val else 128#32) = BitVec.ofNat 32 i.val := if_pos hi
  refine (fold_min_eq (fun l : Fin 128 => if p l then BitVec.ofNat 32 l.val else 128#32) _ i ?_ fun l => ?_).trans e
  · rw [e, toInt_lane _ (by omega)]
    have : (2147483647#32).toInt = 2147483647 := by decide
    rw [this]
    omega
  · rw [e, toInt_lane _ (by omega)]
    split_ifs with q
    · have := h l q
      rw [toInt_lane _ (by omega)]
      exact_mod_cast this
    · rw [show (128#32).toInt = 128 from by decide]
      omega

/-- Eight entries in 128 lanes. -/
def lanes (x : Fin 8 → EReal) (l : Fin 128) : EReal := if h : l.val < 8 then x ⟨l.val, h⟩ else ⊥

/-- The lane of an entry. -/
def lane (a : Fin 8) : Fin 128 := ⟨a.val, by omega⟩

theorem lanes_lane (x : Fin 8 → EReal) (a : Fin 8) : lanes x (lane a) = x a := by
  unfold lanes lane
  rw [dif_pos a.isLt]

section TwoRounds

variable (x : Fin 8 → EReal) (a b : Fin 8) (h : TopTwo x a b) (hx : ∀ k, ⊥ < x k)

include h in
theorem lanes_le (l : Fin 128) : lanes x l ≤ x a := by
  unfold lanes
  split_ifs with q
  · by_cases e : (⟨l.val, q⟩ : Fin 8) = a
    · rw [e]
    · rcases h.fst _ e with r | r
      · exact r.le
      · exact r.1.le
  · exact bot_le

include h in
theorem max_lanes : Finset.fold max ⊥ (lanes x) Finset.univ = x a := by
  rw [fold_max_eq (lanes x) (lane a) fun l => (lanes_le x a b h l).trans (lanes_lane x a).ge, lanes_lane]

include h hx in
theorem arg_lanes : Finset.fold IntOp.minsi 2147483647#32
    (fun l : Fin 128 => if lanes x l = x a then BitVec.ofNat 32 l.val else 128#32) Finset.univ = BitVec.ofNat 32 a.val := by
  refine least_lane (fun l => lanes x l = x a) (lane a) (lanes_lane x a) fun l hl => ?_
  unfold lanes at hl
  split_ifs at hl with q
  · by_cases e : (⟨l.val, q⟩ : Fin 8) = a
    · exact (congrArg Fin.val e).ge
    · rcases h.fst _ e with r | r
      · exact absurd hl r.ne
      · exact (show a.val < l.val from r.2).le
  · exact absurd hl.symm (hx a).ne'

/-- The row with the lane of `a` set to −∞. -/
def rest (l : Fin 128) : EReal := if l.val = a.val then ⊥ else lanes x l

include h in
theorem rest_lane : rest x a (lane b) = x b := by
  unfold rest
  rw [if_neg fun e => h.ne (Fin.ext e.symm), lanes_lane]

include h in
theorem rest_le (l : Fin 128) : rest x a l ≤ x b := by
  unfold rest lanes
  split_ifs with q q'
  · exact bot_le
  · by_cases e : (⟨l.val, q'⟩ : Fin 8) = b
    · rw [e]
    · rcases h.snd _ (fun e' => q (congrArg Fin.val e')) e with r | r
      · exact r.le
      · exact r.1.le
  · exact bot_le

include h in
theorem max_rest : Finset.fold max ⊥ (rest x a) Finset.univ = x b := by
  rw [fold_max_eq (rest x a) (lane b) fun l => (rest_le x a b h l).trans (rest_lane x a b h).ge, rest_lane x a b h]

include h hx in
theorem arg_rest : Finset.fold IntOp.minsi 2147483647#32
    (fun l : Fin 128 => if rest x a l = x b then BitVec.ofNat 32 l.val else 128#32) Finset.univ = BitVec.ofNat 32 b.val := by
  refine least_lane (fun l => rest x a l = x b) (lane b) (rest_lane x a b h) fun l hl => ?_
  unfold rest lanes at hl
  split_ifs at hl with q q'
  · exact absurd hl.symm (hx b).ne'
  · by_cases e : (⟨l.val, q'⟩ : Fin 8) = b
    · exact (congrArg Fin.val e).ge
    · rcases h.snd _ (fun e' => q (congrArg Fin.val e')) e with r | r
      · exact absurd hl r.ne
      · exact (show b.val < l.val from r.2).le
  · exact absurd hl.symm (hx b).ne'

end TwoRounds

/-- A sum over the lanes that keeps one of them. -/
theorem sum_lane (f : Fin 128 → EReal) (e : Fin 8) :
    ∑ l : Fin 128, Scalar.select (IntOp.cmpi .eq (BitVec.ofNat 32 l.val) (BitVec.ofNat 32 e.val)) (f l) 0 = f (lane e) := by
  rw [Finset.sum_eq_single (lane e)]
  · rw [select_lane _ _ (by omega) (by omega)]
    exact if_pos rfl
  · intro l _ hl
    rw [select_lane _ _ (by omega) (by omega), if_neg (show ¬ l.val = e.val from fun q => hl (Fin.ext q))]
  · exact fun q => absurd (Finset.mem_univ _) q

end Cert.Math

end
-- ==== Proof.Moe.Gate.lean ====
module

public import proofs.«01_k».proof.Proof.Gen.MoeIdeal.Skeleton
public import proofs.«01_k».proof.Proof.Math.Layer
public import proofs.«01_k».proof.Proof.Math.Softmax
public import proofs.«01_k».proof.Proof.Math.Lanes
public import Idealize.ShloMosaic.Lib.Pipeline.ValueKit

@[expose] public section

set_option maxRecDepth 16384

/-! # The gate weights of a block

The logits of a row in 128 lanes, its two greatest entries found by two rounds of maximum and least lane, and
the softmax of the two written back at their lanes. -/

noncomputable section

namespace Cert.MoeIdeal.Gate

open Cert.MoeIdeal Cert.MoeIdeal.Gen Idealize.ShloMosaic Idealize.ShloMosaic.TcCoe Idealize.SL.Sem

variable (h1 h2 h3 : FVec Ideal S512x1024 .bf16) (w1 : FVec Ideal S1024x128 .bf16) (w2 w3 : Vec Ideal S1x1024x128 .bf16)
  (rb : Vec Ideal S1x128 .f32) (v0 : IVec S512x128 32) (r : Fin 512)

theorem lane_lt : ∀ l : Fin 128, IntOp.cmpi .slt (BitVec.ofNat 32 l.val) 8#32 = BitVec.ofBool (decide (l.val < 8)) := by
  decide +kernel

theorem logits_apply (l : Fin 128) : k0_pay10 v0 h1 h2 h3 w1 w2 w3 rb (ix2 r l) =
    Scalar.select (IntOp.cmpi .slt (v0 (ix2 r l)) 8#32)
      (Cert.Math.dot (fun x => h2 (ix2 r x)) (fun x => w2 (ix3 0 x l)) + Cert.Math.dot (fun x => h1 (ix2 r x)) (fun x => w3 (ix3 0 x l)) +
        Cert.Math.dot (fun x => h3 (ix2 r x)) (fun x => w1 (ix2 x l)) +
        (Cert.Math.dot (fun x => h1 (ix2 r x)) (fun x => w2 (ix3 0 x l)) + Cert.Math.dot (fun x => h2 (ix2 r x)) (fun x => w1 (ix2 x l))) +
        Cert.Math.dot (fun x => h1 (ix2 r x)) (fun x => w1 (ix2 x l)) + rb (ix2 0 l)) ⊥ := by
  pointwise [k0_pay10, Cert.Math.dot]
  rw [Cert.Math.ofBits_neg_inf]

theorem max_apply : k0_pay11 v0 h1 h2 h3 w1 w2 w3 rb (ix2 r 0) =
    Finset.fold max ⊥ (fun l => k0_pay10 v0 h1 h2 h3 w1 w2 w3 rb (ix2 r l)) Finset.univ := by
  pointwise [k0_pay11]
  rw [Cert.Math.ofBits_neg_inf]

theorem arg_apply : k0_pay12 v0 h1 h2 h3 w1 w2 w3 rb (ix2 r 0) =
    Finset.fold IntOp.minsi 2147483647#32 (fun l : Fin 128 =>
      if k0_pay10 v0 h1 h2 h3 w1 w2 w3 rb (ix2 r l) = k0_pay11 v0 h1 h2 h3 w1 w2 w3 rb (ix2 r 0) then v0 (ix2 r l) else 128#32)
      Finset.univ := by
  pointwise [k0_pay12]

theorem rest_apply (l : Fin 128) : k0_pay13 v0 h1 h2 h3 w1 w2 w3 rb (ix2 r l) =
    Scalar.select (IntOp.cmpi .eq (v0 (ix2 r l)) (k0_pay12 v0 h1 h2 h3 w1 w2 w3 rb (ix2 r 0))) ⊥
      (k0_pay10 v0 h1 h2 h3 w1 w2 w3 rb (ix2 r l)) := by
  pointwise [k0_pay13]
  rw [Cert.Math.ofBits_neg_inf]

theorem max2_apply : k0_pay14 v0 h1 h2 h3 w1 w2 w3 rb (ix2 r 0) =
    Finset.fold max ⊥ (fun l => k0_pay13 v0 h1 h2 h3 w1 w2 w3 rb (ix2 r l)) Finset.univ := by
  pointwise [k0_pay14]
  rw [Cert.Math.ofBits_neg_inf]

theorem at2_apply (l : Fin 128) : k0_pay15 v0 h1 h2 h3 w1 w2 w3 rb (ix2 r l) =
    BitVec.ofBool (decide (k0_pay13 v0 h1 h2 h3 w1 w2 w3 rb (ix2 r l) = k0_pay14 v0 h1 h2 h3 w1 w2 w3 rb (ix2 r 0))) := by
  pointwise [k0_pay15]

theorem gate_apply (m1 : FVec Ideal S512x1 .f32) (i1 : IVec S512x1 32) (m2 : FVec Ideal S512x1 .f32) (p : IVec S512x128 1)
    (l : Fin 128) : k0_pay17 m1 i1 m2 p k0_pay16 (ix2 r l) =
      Scalar.select (IntOp.cmpi .eq (BitVec.ofNat 32 l.val) (i1 (ix2 r 0)))
        (Ideal.div 1 (1 + Ideal.exp (m2 (ix2 r 0) - m1 (ix2 r 0)))) 0 +
      Scalar.select (IntOp.cmpi .eq (BitVec.ofNat 32 l.val) (Finset.fold IntOp.minsi 2147483647#32
          (fun l : Fin 128 => Scalar.select (p (ix2 r l)) (BitVec.ofNat 32 l.val) 128#32) Finset.univ))
        (Ideal.exp (m2 (ix2 r 0) - m1 (ix2 r 0)) * Ideal.div 1 (1 + Ideal.exp (m2 (ix2 r 0) - m1 (ix2 r 0)))) 0 := by
  pointwise [k0_pay17, k0_pay16]

theorem pick_apply (i : grid0.Coords) (v : Vec Ideal S512x128 .f32) (e : Fin 8) (he : (i 1).val = e.val) :
    k0_pay20 i v (ix2 r 0) = v (ix2 r (Cert.Math.lane e)) := by
  refine Eq.trans ?_ (Cert.Math.sum_lane (fun l => v (ix2 r l)) e)
  pointwise [k0_pay20]
  rw [he]

section Row

variable (hv : ∀ l, v0 (ix2 r l) = BitVec.ofNat 32 l.val) (x : Fin 8 → EReal) (a b : Fin 8) (ht : Cert.Math.TopTwo x a b)
  (hx : ∀ k, ⊥ < x k) (hL : ∀ l, k0_pay10 v0 h1 h2 h3 w1 w2 w3 rb (ix2 r l) = Cert.Math.lanes x l)

include ht hL in
theorem max_row : k0_pay11 v0 h1 h2 h3 w1 w2 w3 rb (ix2 r 0) = x a := by
  rw [max_apply, funext hL, Cert.Math.max_lanes x a b ht]

include hv ht hx hL in
theorem arg_row : k0_pay12 v0 h1 h2 h3 w1 w2 w3 rb (ix2 r 0) = BitVec.ofNat 32 a.val := by
  rw [arg_apply, max_row h1 h2 h3 w1 w2 w3 rb v0 r x a b ht hL]
  simp only [hL, hv]
  exact Cert.Math.arg_lanes x a b ht hx

include hv ht hx hL in
theorem rest_row (l : Fin 128) : k0_pay13 v0 h1 h2 h3 w1 w2 w3 rb (ix2 r l) = Cert.Math.rest x a l := by
  rw [rest_apply, arg_row h1 h2 h3 w1 w2 w3 rb v0 r hv x a b ht hx hL, hv, hL, Cert.Math.select_lane _ _ (by omega) (by omega)]
  rfl

include hv ht hx hL in
theorem max2_row : k0_pay14 v0 h1 h2 h3 w1 w2 w3 rb (ix2 r 0) = x b := by
  rw [max2_apply, funext (rest_row h1 h2 h3 w1 w2 w3 rb v0 r hv x a b ht hx hL), Cert.Math.max_rest x a b ht]

include hv ht hx hL in
theorem arg2_row : Finset.fold IntOp.minsi 2147483647#32 (fun l : Fin 128 =>
    Scalar.select (k0_pay15 v0 h1 h2 h3 w1 w2 w3 rb (ix2 r l)) (BitVec.ofNat 32 l.val) 128#32) Finset.univ = BitVec.ofNat 32 b.val := by
  simp only [at2_apply, Cert.Math.select_decide, max2_row h1 h2 h3 w1 w2 w3 rb v0 r hv x a b ht hx hL,
    rest_row h1 h2 h3 w1 w2 w3 rb v0 r hv x a b ht hx hL]
  exact Cert.Math.arg_rest x a b ht hx

include hv ht hx hL in
/-- The gate weight of an expert. -/
theorem gate_row (e : Fin 8) : k0_pay17 (k0_pay11 v0 h1 h2 h3 w1 w2 w3 rb) (k0_pay12 v0 h1 h2 h3 w1 w2 w3 rb)
    (k0_pay14 v0 h1 h2 h3 w1 w2 w3 rb) (k0_pay15 v0 h1 h2 h3 w1 w2 w3 rb) k0_pay16 (ix2 r (Cert.Math.lane e)) =
      Cert.Math.topGate x a b e := by
  rw [gate_apply, arg2_row h1 h2 h3 w1 w2 w3 rb v0 r hv x a b ht hx hL, arg_row h1 h2 h3 w1 w2 w3 rb v0 r hv x a b ht hx hL,
    max_row h1 h2 h3 w1 w2 w3 rb v0 r x a b ht hL, max2_row h1 h2 h3 w1 w2 w3 rb v0 r hv x a b ht hx hL,
    Cert.Math.select_lane _ _ (by omega) (by omega), Cert.Math.select_lane _ _ (by omega) (by omega)]
  unfold Cert.Math.topGate Cert.Math.lane
  simp only [Fin.ext_iff]

end Row

section Logits

variable (x0 : Vec Ideal S512x1024 .f32) (g : Vec Ideal S1x1024 .f32) (s b : Vec Ideal S1x1x1024 .f32)

/-- The normed and modulated row of a block. -/
def hrow (k : Fin 1024) : EReal :=
  Cert.Math.modulated (fun j => x0 (ix2 r j)) (fun j => g (ix2 0 j)) (fun j => s (ix3 0 0 j)) (fun j => b (ix3 0 0 j)) k

theorem h_apply (k : Fin 1024) : k0_pay4 x0 g s b (ix2 r k) = hrow r x0 g s b k := by
  pointwise [k0_pay4, k0_pay3, hrow, Cert.Math.modulated, Cert.Math.rms]

theorem h1_apply (k : Fin 1024) : k0_pay5 x0 g s b (ix2 r k) = hrow r x0 g s b k := by
  pointwise [k0_pay5, k0_pay3, hrow, Cert.Math.modulated, Cert.Math.rms]

theorem diff_apply (k : Fin 1024) : k0_pay6 x0 g s b (ix2 r k) = hrow r x0 g s b k - hrow r x0 g s b k := by
  rw [← h1_apply]
  pointwise [k0_pay6, k0_pay5]

theorem h2_apply (k : Fin 1024) : k0_pay7 x0 g s b (ix2 r k) = hrow r x0 g s b k - hrow r x0 g s b k := by
  rw [← diff_apply]
  pointwise [k0_pay7]

theorem h3_apply (k : Fin 1024) : k0_pay8 x0 g s b (ix2 r k) =
    (hrow r x0 g s b k - hrow r x0 g s b k) - (hrow r x0 g s b k - hrow r x0 g s b k) := by
  rw [← diff_apply]
  pointwise [k0_pay8, k0_pay7]

theorem w1_apply (w : Vec Ideal S1x1024x128 .bf16) (k : Fin 1024) (l : Fin 128) : k0_pay9 w (ix2 k l) = w (ix3 0 k l) := by
  pointwise [k0_pay9]

theorem iota_apply (l : Fin 128) : iota .tc S512x128 32 [1] iota_S512x128_d1_w32 (ix2 r l) = BitVec.ofNat 32 l.val := by
  pointwise []

end Logits

end Cert.MoeIdeal.Gate

end
-- ==== Proof.Moe.Operand.lean ====
module

public import proofs.«01_k».proof.Proof.Gen.MoeIdeal.Frame
public import proofs.«01_k».proof.Proof.Math.Layer
public import Idealize.ShloMosaic.Lib.Pipeline.ValueKit

@[expose] public section

set_option maxRecDepth 16384

/-! # The operands of the call

What the host passes to the call, and each block read off the arguments. -/

noncomputable section

namespace Cert.MoeIdeal.Operand

open Cert.MoeIdeal Cert.MoeIdeal.Gen Idealize.ShloMosaic Idealize.ShloMosaic.TcCoe Idealize.SL.Sem

/-- The router's weight in 128 columns. -/
def padded (w : FVec Ideal S1024x8 .f32) : FVec Ideal S1024x128 .f32 :=
  pad S1024x128 ![0, 0] ![0, 120] ![0, 0] w (sitofp (F := Ideal) .f32 (constantI S_ 32 0#32)) pads_S1024x8_S1024x128_000_01200 h_S_

/-- What a rounding leaves. -/
def remainder (p : FVec Ideal S1024x128 .f32) : FVec Ideal S1024x128 .f32 :=
  subf p (extf (F := Ideal) .f32 (truncf (F := Ideal) .bf16 p bitsLt_bf16_f32) bitsLt_bf16_f32)

/-- The three parts of the router's weight. -/
def parts (p : FVec Ideal S1024x128 .f32) : FVec Ideal S3x1024x128 .bf16 :=
  concatenate S3x1024x128 0
    [⟨S1x1024x128, broadcastInDim S1x1024x128 ![1, 2] bcast_S1024x128_S1x1024x128_1_2 (truncf (F := Ideal) .bf16 p bitsLt_bf16_f32)⟩,
     ⟨S1x1024x128, broadcastInDim S1x1024x128 ![1, 2] bcast_S1024x128_S1x1024x128_1_2 (truncf (F := Ideal) .bf16 (remainder p) bitsLt_bf16_f32)⟩,
     ⟨S1x1024x128, broadcastInDim S1x1024x128 ![1, 2] bcast_S1024x128_S1x1024x128_1_2 (truncf (F := Ideal) .bf16 (remainder (remainder p)) bitsLt_bf16_f32)⟩]
    concatenates_S1x1024x128_S1x1024x128_S1x1024x128_S3x1024x128_d0

/-- The router's bias in 128 columns. -/
def bias (w : FVec Ideal S8 .f32) : FVec Ideal S1x128 .f32 :=
  shapeCast S1x128 (pad S128 ![0] ![120] ![0] w (sitofp (F := Ideal) .f32 (constantI S_ 32 0#32)) pads_S8_S128_01200 h_S_ : FVec Ideal S128 .f32) shapeCasts_S128_S1x128

theorem sitofp_zero : FloatOps.sitofp (F := Ideal) FTy.f32 (0#32) = 0 := by simp [FloatOps.sitofp]

theorem padded_apply (w : FVec Ideal S1024x8 .f32) (j : Fin 1024) (l : Fin 128) :
    padded w (ix2 j l) = if h : l.val < 8 then w (ix2 j ⟨l.val, h⟩) else 0 := by
  pointwise [padded]
  rw [sitofp_zero]

theorem bias_apply (w : FVec Ideal S8 .f32) (l : Fin 128) :
    bias w (ix2 0 l) = if h : l.val < 8 then w (ix1 ⟨l.val, h⟩) else 0 := by
  pointwise [bias]
  rw [sitofp_zero]

theorem parts0 (p : FVec Ideal S1024x128 .f32) (j : Fin 1024) (l : Fin 128) : parts p (ix3 0 j l) = p (ix2 j l) := by
  pointwise [parts]

theorem remainder_apply (p : FVec Ideal S1024x128 .f32) (j : Fin 1024) (l : Fin 128) :
    remainder p (ix2 j l) = p (ix2 j l) - p (ix2 j l) := by
  pointwise [remainder]

theorem parts1 (p : FVec Ideal S1024x128 .f32) (j : Fin 1024) (l : Fin 128) : parts p (ix3 1 j l) = remainder p (ix2 j l) := by
  pointwise [parts]

theorem parts2 (p : FVec Ideal S1024x128 .f32) (j : Fin 1024) (l : Fin 128) :
    parts p (ix3 2 j l) = remainder (remainder p) (ix2 j l) := by
  pointwise [parts]

variable (m : (ℓ : Loc nD τ sig) → Buf (Elt Ideal) ℓ) (c : Dev nD)

theorem after_append (l₁ l₂ : List (HloOp τ sig (Elt Ideal))) (σ) :
    StableHlo.after (l₁ ++ l₂) σ = StableHlo.after l₂ (StableHlo.after l₁ σ) := by
  induction l₁ generalizing σ with
  | nil => rfl
  | cons a l ih => exact ih _

theorem entry_router : V m c main_v11 = parts (padded (m ((c : Thread nD τ).loc main_arg4))) := by
  unfold V
  simp only [List.flatten_cons, List.flatten_nil, List.append_nil, after_append]
  rfl

theorem entry_bias : V m c main_v13 = bias (m ((c : Thread nD τ).loc main_arg5)) := by
  unfold V
  simp only [List.flatten_cons, List.flatten_nil, List.append_nil, after_append]
  rfl

theorem entry_g2 : V m c main_v14 = (shapeCast S1x1024 (m ((c : Thread nD τ).loc main_arg2) : FVec Ideal S1024 .f32) shapeCasts_S1024_S1x1024 : FVec Ideal S1x1024 .f32) := by
  unfold V
  simp only [List.flatten_cons, List.flatten_nil, List.append_nil, after_append]
  rfl

theorem entry_g3 : V m c main_v15 = (shapeCast S1x1024 (m ((c : Thread nD τ).loc main_arg3) : FVec Ideal S1024 .f32) shapeCasts_S1024_S1x1024 : FVec Ideal S1x1024 .f32) := by
  unfold V
  simp only [List.flatten_cons, List.flatten_nil, List.append_nil, after_append]
  rfl

theorem entry_wgu : V m c main_v16 = (truncf (F := Ideal) .bf16 (m ((c : Thread nD τ).loc main_arg6) : FVec Ideal S8x1024x2816 .f32) bitsLt_bf16_f32 : FVec Ideal S8x1024x2816 .bf16) := by
  unfold V
  simp only [List.flatten_cons, List.flatten_nil, List.append_nil, after_append]
  rfl

theorem entry_wd : V m c main_v17 = (truncf (F := Ideal) .bf16 (m ((c : Thread nD τ).loc main_arg7) : FVec Ideal S8x1408x1024 .f32) bitsLt_bf16_f32 : FVec Ideal S8x1408x1024 .bf16) := by
  unfold V
  simp only [List.flatten_cons, List.flatten_nil, List.append_nil, after_append]
  rfl

theorem row_cast (w : FVec Ideal S1024 .f32) (k : Fin 1024) :
    (shapeCast S1x1024 w shapeCasts_S1024_S1x1024 : FVec Ideal S1x1024 .f32) (ix2 0 k) = w (ix1 k) := by
  pointwise []

theorem idx : ∀ t : Fin cfg0.N, win0_0.index t = ![t.val / 8, 0] ∧
    win0_1.index t = ![if t.val / 8 < 8 then 0 else 1 + (t.val / 8 - 8) / 4, 0, 0]
    ∧ win0_2.index t = ![0, 0] ∧ win0_3.index t = ![0, 0] ∧ win0_4.index t = ![0, 0, 0] ∧ win0_5.index t = ![0, 0]
    ∧ win0_6.index t = ![t.val % 8, 0, 0] ∧ win0_7.index t = ![t.val % 8, 0, 0] ∧ win0_8.index t = ![t.val / 8, 0] :=
  (by decide +kernel : ∀ t : Fin grid0.N, _)

theorem coord : ∀ t : Fin cfg0.N, (grid0.coords t 1).val = t.val % 8 := (by decide +kernel : ∀ t : Fin grid0.N, _)

variable (t : Fin cfg0.N)

section Row

variable (r : Fin 512) (R : Fin 12288) (hR : R.val = t.val / 8 * 512 + r.val)
include hR

theorem x_read (k : Fin 1024) : iblk m c 0 t (ix2 r k) = m ((c : Thread nD τ).loc main_arg0) (ix2 R k) := by
  blk_simp [iblk, idx t]
  rw [V_main_arg0 m c]
  have e : (((View.whole main_arg0).slice (win0_0.rect t)).emb (ix2 r k)) = ix2 R k := by blk_ext [idx t]
  rw [e]

theorem mod_read (i : Fin 6) (k : Fin 1024) :
    iblk m c 1 t (ix3 0 i k) = m ((c : Thread nD τ).loc main_arg1) (ix3 (Cert.Math.seq R) i k) := by
  have hs : (Cert.Math.seq R).val = if t.val / 8 < 8 then 0 else 1 + (t.val / 8 - 8) / 4 := by
    unfold Cert.Math.seq
    split_ifs <;> simp <;> omega
  blk_simp [iblk, idx t]
  rw [V_main_arg1 m c]
  have e : (((View.whole main_arg1).slice (win0_1.rect t)).emb (ix3 0 i k)) = ix3 (Cert.Math.seq R) i k := by blk_ext [idx t]
  rw [e]

end Row

theorem g2_read (k : Fin 1024) : iblk m c 2 t (ix2 0 k) = m ((c : Thread nD τ).loc main_arg2) (ix1 k) := by
  blk_simp [iblk, idx t]
  rw [entry_g2]
  have e : (((View.whole main_v14).slice (win0_2.rect t)).emb (ix2 0 k)) = ix2 0 k := by blk_ext [idx t]
  rw [e]
  exact row_cast _ k

theorem g3_read (k : Fin 1024) : iblk m c 3 t (ix2 0 k) = m ((c : Thread nD τ).loc main_arg3) (ix1 k) := by
  blk_simp [iblk, idx t]
  rw [entry_g3]
  have e : (((View.whole main_v15).slice (win0_3.rect t)).emb (ix2 0 k)) = ix2 0 k := by blk_ext [idx t]
  rw [e]
  exact row_cast _ k

theorem router_read (i : Fin 3) (j : Fin 1024) (l : Fin 128) :
    iblk m c 4 t (ix3 i j l) = parts (padded (m ((c : Thread nD τ).loc main_arg4))) (ix3 i j l) := by
  blk_simp [iblk, idx t]
  rw [entry_router]
  have e : (((View.whole main_v11).slice (win0_4.rect t)).emb (ix3 i j l)) = ix3 i j l := by blk_ext [idx t]
  rw [e]

theorem bias_read (l : Fin 128) : iblk m c 5 t (ix2 0 l) = bias (m ((c : Thread nD τ).loc main_arg5)) (ix2 0 l) := by
  blk_simp [iblk, idx t]
  rw [entry_bias]
  have e : (((View.whole main_v13).slice (win0_5.rect t)).emb (ix2 0 l)) = ix2 0 l := by blk_ext [idx t]
  rw [e]

variable (E : Fin 8) (hE : E.val = t.val % 8)
include hE

theorem wgu_read (j : Fin 1024) (f : Fin 2816) :
    iblk m c 6 t (ix3 0 j f) = m ((c : Thread nD τ).loc main_arg6) (ix3 E j f) := by
  blk_simp [iblk, idx t]
  rw [entry_wgu]
  have e : (((View.whole main_v16).slice (win0_6.rect t)).emb (ix3 0 j f)) = ix3 E j f := by blk_ext [idx t]
  rw [e]
  rfl

theorem wd_read (f : Fin 1408) (n : Fin 1024) :
    iblk m c 7 t (ix3 0 f n) = m ((c : Thread nD τ).loc main_arg7) (ix3 E f n) := by
  blk_simp [iblk, idx t]
  rw [entry_wd]
  have e : (((View.whole main_v17).slice (win0_7.rect t)).emb (ix3 0 f n)) = ix3 E f n := by blk_ext [idx t]
  rw [e]
  rfl

end Cert.MoeIdeal.Operand

end
-- ==== Proof.Math.Experts.lean ====
module

public import proofs.«01_k».proof.Proof.Math.Layer

@[expose] public section

/-! # A sum over eight experts, one after another -/

noncomputable section

namespace Cert.Math

open Idealize.ShloMosaic

/-- The first `n` of eight terms, added in order from zero. -/
def upTo (f : Fin 8 → EReal) : ℕ → EReal
  | 0 => 0
  | n + 1 => upTo f n + f ⟨n % 8, Nat.mod_lt _ (by norm_num)⟩

/-- One expert's part of a token: its gate weight times its SwiGLU. -/
def expert (h : Fin 1024 → EReal) (gate : Fin 8 → EReal) (wgu : Fin 8 → Fin 1024 → Fin 2816 → EReal)
    (wd : Fin 8 → Fin 1408 → Fin 1024 → EReal) (n : Fin 1024) (e : Fin 8) : EReal :=
  gate e * swiglu (n := 1408) h (fun f j => wgu e j ⟨f.val, by omega⟩) (fun f j => wgu e j ⟨1408 + f.val, by omega⟩) (fun f => wd e f n)

end Cert.Math

end
-- ==== Proof.Moe.Block.lean ====
module

public import proofs.«01_k».proof.Proof.Moe.Gate
public import proofs.«01_k».proof.Proof.Moe.Operand
public import proofs.«01_k».proof.Proof.Math.Experts
public import Idealize.ShloMosaic.Lib.Pipeline.ReadBack

@[expose] public section

set_option maxRecDepth 16384

/-! # The experts' block

What each grid point leaves in the output block and in the three scratch blocks. -/

noncomputable section

namespace Cert.MoeIdeal.Block

open Cert.MoeIdeal Cert.MoeIdeal.Gen Idealize.ShloMosaic Idealize.ShloMosaic.TcCoe Idealize.SL.Sem

/-- One expert added to the sum. -/
theorem add_apply (f : FVec Ideal S512x1024 .f32) (g : FVec Ideal S512x1 .f32) (acc : Vec Ideal S512x1024 .f32) (r : Fin 512)
    (n : Fin 1024) : k0_pay1 f g acc (ix2 r n) = acc (ix2 r n) + g (ix2 r 0) * f (ix2 r n) := by
  pointwise [k0_pay1]

theorem zero_apply (r : Fin 512) (n : Fin 1024) : k0_pay18 (F := Ideal) (ix2 r n) = 0 := by
  pointwise [k0_pay18]

/-- The residual with the gated norm of the sum. -/
theorem out_apply (x acc : Vec Ideal S512x1024 .f32) (gate : Vec Ideal S1x1x1024 .f32) (g : Vec Ideal S1x1024 .f32) (r : Fin 512)
    (n : Fin 1024) : k0_pay2 x gate acc g (ix2 r n) =
      x (ix2 r n) + gate (ix3 0 0 n) * Cert.Math.rms (fun j => acc (ix2 r j)) (fun j => g (ix2 0 j)) n := by
  pointwise [k0_pay2, Cert.Math.rms]

/-- The SwiGLU of one expert. -/
theorem swiglu_apply (h : Vec Ideal S512x1024 .bf16) (wg wu : Vec Ideal S1x1024x1408 .bf16) (wd : Vec Ideal S1x1408x1024 .bf16)
    (r : Fin 512) (n : Fin 1024) : k0_pay19 h wg wu wd (ix2 r n) =
      Cert.Math.swiglu (fun j => h (ix2 r j)) (fun f j => wg (ix3 0 j f)) (fun f j => wu (ix3 0 j f)) (fun f => wd (ix3 0 f n)) := by
  pointwise [k0_pay19, Cert.Math.swiglu, Cert.Math.silu, Cert.Math.dot, Ideal.logistic]
  simp only [zero_sub]

section Loads

variable (x1 : Vec Ideal S1x6x1024 .f32) (x4 : Vec Ideal S3x1024x128 .bf16) (x6 : Vec Ideal S1x1024x2816 .bf16)

theorem ld_shift (k : Fin 1024) : View.ld x1 (Rect.unit ![0, 3, 0] ![1, 1, 1024] inb_S1x6x1024_S1x1x1024_0_3_0) (ix3 0 0 k) = x1 (ix3 0 3 k) := by
  pointwise []
theorem ld_scale (k : Fin 1024) : View.ld x1 (Rect.unit ![0, 4, 0] ![1, 1, 1024] inb_S1x6x1024_S1x1x1024_0_4_0) (ix3 0 0 k) = x1 (ix3 0 4 k) := by
  pointwise []
theorem ld_gate (k : Fin 1024) : View.ld x1 (Rect.unit ![0, 5, 0] ![1, 1, 1024] inb_S1x6x1024_S1x1x1024_0_5_0) (ix3 0 0 k) = x1 (ix3 0 5 k) := by
  pointwise []
theorem ld_w1 (j : Fin 1024) (l : Fin 128) : View.ld x4 (Rect.unit ![0, 0, 0] ![1, 1024, 128] inb_S3x1024x128_S1x1024x128_0_0_0) (ix3 0 j l) = x4 (ix3 0 j l) := by
  pointwise []
theorem ld_w2 (j : Fin 1024) (l : Fin 128) : View.ld x4 (Rect.unit ![1, 0, 0] ![1, 1024, 128] inb_S3x1024x128_S1x1024x128_1_0_0) (ix3 0 j l) = x4 (ix3 1 j l) := by
  pointwise []
theorem ld_w3 (j : Fin 1024) (l : Fin 128) : View.ld x4 (Rect.unit ![2, 0, 0] ![1, 1024, 128] inb_S3x1024x128_S1x1024x128_2_0_0) (ix3 0 j l) = x4 (ix3 2 j l) := by
  pointwise []
theorem ld_wg (j : Fin 1024) (f : Fin 1408) : View.ld x6 (Rect.unit ![0, 0, 0] ![1, 1024, 1408] inb_S1x1024x2816_S1x1024x1408_0_0_0) (ix3 0 j f) = x6 (ix3 0 j ⟨f.val, by omega⟩) := by
  pointwise []
theorem ld_wu (j : Fin 1024) (f : Fin 1408) : View.ld x6 (Rect.unit ![0, 0, 1408] ![1, 1024, 1408] inb_S1x1024x2816_S1x1024x1408_0_0_1408) (ix3 0 j f) = x6 (ix3 0 j ⟨1408 + f.val, by omega⟩) := by
  pointwise []

end Loads

variable (m : (ℓ : Loc nD τ sig) → Buf (Elt Ideal) ℓ) (c : Dev nD) (t : Fin cfg0.N)

/-! The blocks that a point computes from what it reads. -/

abbrev scale := View.ld (iblk m c 1 t) (Rect.unit ![0, 4, 0] ![1, 1, 1024] inb_S1x6x1024_S1x1x1024_0_4_0)
abbrev shift := View.ld (iblk m c 1 t) (Rect.unit ![0, 3, 0] ![1, 1, 1024] inb_S1x6x1024_S1x1x1024_0_3_0)
abbrev h1 := k0_pay5 (iblk m c 0 t) (iblk m c 2 t) (scale m c t) (shift m c t)
abbrev h2 := k0_pay7 (iblk m c 0 t) (iblk m c 2 t) (scale m c t) (shift m c t)
abbrev h3 := k0_pay8 (iblk m c 0 t) (iblk m c 2 t) (scale m c t) (shift m c t)
abbrev w1 := k0_pay9 (View.ld (iblk m c 4 t) (Rect.unit ![0, 0, 0] ![1, 1024, 128] inb_S3x1024x128_S1x1024x128_0_0_0))
abbrev w2 := View.ld (iblk m c 4 t) (Rect.unit ![1, 0, 0] ![1, 1024, 128] inb_S3x1024x128_S1x1024x128_1_0_0)
abbrev w3 := View.ld (iblk m c 4 t) (Rect.unit ![2, 0, 0] ![1, 1024, 128] inb_S3x1024x128_S1x1024x128_2_0_0)
abbrev laneWords : IVec S512x128 32 := iota .tc S512x128 32 [1] iota_S512x128_d1_w32

/-- The modulated block. -/
abbrev hBlock : FVec Ideal S512x1024 .bf16 := k0_pay4 (iblk m c 0 t) (iblk m c 2 t) (scale m c t) (shift m c t)

/-- The gate weights. -/
abbrev gateBlock : FVec Ideal S512x128 .f32 :=
  k0_pay17 (k0_pay11 laneWords (h1 m c t) (h2 m c t) (h3 m c t) (w1 m c t) (w2 m c t) (w3 m c t) (iblk m c 5 t))
    (k0_pay12 laneWords (h1 m c t) (h2 m c t) (h3 m c t) (w1 m c t) (w2 m c t) (w3 m c t) (iblk m c 5 t))
    (k0_pay14 laneWords (h1 m c t) (h2 m c t) (h3 m c t) (w1 m c t) (w2 m c t) (w3 m c t) (iblk m c 5 t))
    (k0_pay15 laneWords (h1 m c t) (h2 m c t) (h3 m c t) (w1 m c t) (w2 m c t) (w3 m c t) (iblk m c 5 t)) k0_pay16

/-- One expert of a block `h` with gate weights `g`, added to `acc`. -/
abbrev accBlock (h : Vec Ideal S512x1024 .bf16) (g : Vec Ideal S512x128 .f32) (acc : Vec Ideal S512x1024 .f32) : FVec Ideal S512x1024 .f32 :=
  k0_pay1 (k0_pay19 h (View.ld (iblk m c 6 t) (Rect.unit ![0, 0, 0] ![1, 1024, 1408] inb_S1x1024x2816_S1x1024x1408_0_0_0))
    (View.ld (iblk m c 6 t) (Rect.unit ![0, 0, 1408] ![1, 1024, 1408] inb_S1x1024x2816_S1x1024x1408_0_0_1408)) (iblk m c 7 t))
    (k0_pay20 (grid0.coords t) g) acc

/-! At the first expert. -/

theorem first_h (h0 : t.val % 8 = 0) (h1 : ¬t.val % 8 = 7) (j : S512x1024.Idx) :
    (outsAt0 m c t.val t.isLt).2.1 j = hBlock m c t j := by
  rw [outsAt0_A m c t h0 h1]
  frame_out
  rfl

theorem first_gate (h0 : t.val % 8 = 0) (h1 : ¬t.val % 8 = 7) (j : S512x128.Idx) :
    (outsAt0 m c t.val t.isLt).2.2.1 j = gateBlock m c t j := by
  rw [outsAt0_A m c t h0 h1]
  frame_out
  rfl

theorem first_acc (h0 : t.val % 8 = 0) (h1 : ¬t.val % 8 = 7) (j : S512x1024.Idx) :
    (outsAt0 m c t.val t.isLt).2.2.2 j = accBlock m c t (hBlock m c t) (gateBlock m c t) (k0_pay18 (F := Ideal)) j := by
  rw [outsAt0_A m c t h0 h1]
  frame_out
  rfl

/-! At the others. -/

section Others

variable (h0 : ¬t.val % 8 = 0)

/-- What the point before left. -/
abbrev prev := outsAt0 m c (t.val - 1) (Nat.lt_of_le_of_lt (Nat.sub_le _ _) t.isLt)

include h0 in
theorem next_h (j : S512x1024.Idx) : (outsAt0 m c t.val t.isLt).2.1 j = (prev m c t).2.1 j := by
  by_cases h1 : t.val % 8 = 7
  · rw [outsAt0_C m c t h0 h1]
    unfold sout0_C_0
    first | rfl | (frame_out; rfl)
  · rw [outsAt0_B m c t h0 h1]
    unfold sout0_B_0
    first | rfl | (frame_out; rfl)

include h0 in
theorem next_gate (j : S512x128.Idx) : (outsAt0 m c t.val t.isLt).2.2.1 j = (prev m c t).2.2.1 j := by
  by_cases h1 : t.val % 8 = 7
  · rw [outsAt0_C m c t h0 h1]
    unfold sout0_C_1
    first | rfl | (frame_out; rfl)
  · rw [outsAt0_B m c t h0 h1]
    unfold sout0_B_1
    first | rfl | (frame_out; rfl)

include h0 in
theorem next_acc (j : S512x1024.Idx) : (outsAt0 m c t.val t.isLt).2.2.2 j =
    accBlock m c t (prev m c t).2.1 (prev m c t).2.2.1 (prev m c t).2.2.2 j := by
  by_cases h1 : t.val % 8 = 7
  · rw [outsAt0_C m c t h0 h1]
    frame_out
    simp only [read_unread_whole]
    rfl
  · rw [outsAt0_B m c t h0 h1]
    frame_out
    simp only [read_unread_whole]
    rfl

include h0 in
theorem last_out (h1 : t.val % 8 = 7) (j : S512x1024.Idx) : (outsAt0 m c t.val t.isLt).1 j =
    k0_pay2 (iblk m c 0 t) (View.ld (iblk m c 1 t) (Rect.unit ![0, 5, 0] ![1, 1, 1024] inb_S1x6x1024_S1x1x1024_0_5_0))
      (accBlock m c t (prev m c t).2.1 (prev m c t).2.2.1 (prev m c t).2.2.2) (iblk m c 3 t) j := by
  rw [outsAt0_C m c t h0 h1]
  frame_out
  simp only [read_unread_whole]
  rfl

end Others

end Cert.MoeIdeal.Block

end
-- ==== Proof.Moe.Rows.lean ====
module

public import proofs.«01_k».proof.Proof.Moe.Block

@[expose] public section

set_option maxRecDepth 16384

/-! # The experts' sum, row by row

The scratch blocks after every grid point: the modulated row, its gate weights and the experts so far. -/

noncomputable section

namespace Cert.MoeIdeal.Rows

open Cert.MoeIdeal Cert.MoeIdeal.Gen Idealize.ShloMosaic Idealize.ShloMosaic.TcCoe Idealize.SL.Sem

variable (m : (ℓ : Loc nD τ sig) → Buf (Elt Ideal) ℓ) (c : Dev nD)

abbrev xAt (R : Fin 12288) (k : Fin 1024) : EReal := m ((c : Thread nD τ).loc main_arg0) (ix2 R k)
abbrev modAt (R : Fin 12288) (i : Fin 6) (k : Fin 1024) : EReal := m ((c : Thread nD τ).loc main_arg1) (ix3 (Cert.Math.seq R) i k)
abbrev routerAt (j : Fin 1024) (e : Fin 8) : EReal := m ((c : Thread nD τ).loc main_arg4) (ix2 j e)

/-- A token's normed and modulated row. -/
def hRow (R : Fin 12288) : Fin 1024 → EReal :=
  Cert.Math.modulated (fun j => m ((c : Thread nD τ).loc main_arg0) (ix2 R j)) (fun j => m ((c : Thread nD τ).loc main_arg2) (ix1 j))
    (fun j => m ((c : Thread nD τ).loc main_arg1) (ix3 (Cert.Math.seq R) 4 j))
    (fun j => m ((c : Thread nD τ).loc main_arg1) (ix3 (Cert.Math.seq R) 3 j))

/-- Its logits. -/
def logits (R : Fin 12288) (e : Fin 8) : EReal :=
  Cert.Math.dot (hRow m c R) (fun j => m ((c : Thread nD τ).loc main_arg4) (ix2 j e)) + m ((c : Thread nD τ).loc main_arg5) (ix1 e)

/-- The part of one expert, with the gate weights of the entries `a` and `b`. -/
def part (R : Fin 12288) (a b : Fin 8) (n : Fin 1024) (e : Fin 8) : EReal :=
  Cert.Math.expert (hRow m c R) (Cert.Math.topGate (logits m c R) a b) (fun e j f => m ((c : Thread nD τ).loc main_arg6) (ix3 e j f))
    (fun e f n => m ((c : Thread nD τ).loc main_arg7) (ix3 e f n)) n e

/-- What the statement assumes of the arguments, as far as the sum over the experts needs it. -/
structure Finite : Prop where
  row : ∀ R k, ∃ y : ℝ, hRow m c R k = (y : EReal)
  router : ∀ j e, ∃ y : ℝ, m ((c : Thread nD τ).loc main_arg4) (ix2 j e) = (y : EReal)
  logit : ∀ R e, ∃ y : ℝ, logits m c R e = (y : EReal)

theorem sub_self_of_real {x : EReal} (h : ∃ y : ℝ, x = (y : EReal)) : x - x = 0 := by
  obtain ⟨y, rfl⟩ := h
  rw [← EReal.coe_sub, sub_self, EReal.coe_zero]

variable (hf : Finite m c) (t : Fin cfg0.N) (r : Fin 512) (R : Fin 12288) (hR : R.val = t.val / 8 * 512 + r.val)

include hR in
theorem hrow_eq (k : Fin 1024) : Gate.hrow r (iblk m c 0 t) (iblk m c 2 t) (Block.scale m c t) (Block.shift m c t) k = hRow m c R k := by
  unfold Gate.hrow hRow
  rw [funext (Operand.x_read m c t r R hR), funext (Operand.g2_read m c t),
    funext fun j => (Block.ld_scale (iblk m c 1 t) j).trans (Operand.mod_read m c t r R hR 4 j),
    funext fun j => (Block.ld_shift (iblk m c 1 t) j).trans (Operand.mod_read m c t r R hR 3 j)]

theorem w1_row (j : Fin 1024) (l : Fin 128) : Block.w1 m c t (ix2 j l) =
    (if h : l.val < 8 then routerAt m c j ⟨l.val, h⟩ else 0 : EReal) := by
  refine (Gate.w1_apply _ j l).trans ((Block.ld_w1 (iblk m c 4 t) j l).trans ?_)
  exact (Operand.router_read m c t 0 j l).trans ((Operand.parts0 _ j l).trans (Operand.padded_apply _ j l))

include hf in
theorem padded_real (j : Fin 1024) (l : Fin 128) :
    ∃ y : ℝ, Operand.padded (m ((c : Thread nD τ).loc main_arg4)) (ix2 j l) = (y : EReal) := by
  rw [Operand.padded_apply]
  split_ifs with h
  · exact hf.router j _
  · exact ⟨0, rfl⟩

include hf in
theorem w2_row (j : Fin 1024) (l : Fin 128) : Block.w2 m c t (ix3 0 j l) = (0 : EReal) := by
  refine (Block.ld_w2 (iblk m c 4 t) j l).trans ((Operand.router_read m c t 1 j l).trans ((Operand.parts1 _ j l).trans ?_))
  rw [Operand.remainder_apply]
  exact sub_self_of_real (padded_real m c hf j l)

include hf in
theorem w3_row (j : Fin 1024) (l : Fin 128) : Block.w3 m c t (ix3 0 j l) = (0 : EReal) := by
  refine (Block.ld_w3 (iblk m c 4 t) j l).trans ((Operand.router_read m c t 2 j l).trans ((Operand.parts2 _ j l).trans ?_))
  rw [Operand.remainder_apply, Operand.remainder_apply]
  have e := sub_self_of_real (padded_real m c hf j l)
  rw [e]
  exact sub_self_of_real ⟨0, rfl⟩

include hR in
theorem h1_row (k : Fin 1024) : Block.h1 m c t (ix2 r k) = hRow m c R k :=
  (Gate.h1_apply r _ _ _ _ k).trans (hrow_eq m c t r R hR k)

include hf hR in
theorem h2_row (k : Fin 1024) : Block.h2 m c t (ix2 r k) = 0 := by
  refine (Gate.h2_apply r _ _ _ _ k).trans ?_
  rw [hrow_eq m c t r R hR k]
  exact sub_self_of_real (hf.row R k)

include hf hR in
theorem h3_row (k : Fin 1024) : Block.h3 m c t (ix2 r k) = 0 := by
  refine (Gate.h3_apply r _ _ _ _ k).trans ?_
  rw [hrow_eq m c t r R hR k, sub_self_of_real (hf.row R k)]
  exact sub_self_of_real ⟨0, rfl⟩

theorem dot_zero_left (w : Fin 1024 → EReal) : Cert.Math.dot (fun _ => 0) w = 0 := by
  simp [Cert.Math.dot]

theorem dot_zero_right (w : Fin 1024 → EReal) : Cert.Math.dot w (fun _ => 0) = 0 := by
  simp [Cert.Math.dot]

include hf hR in
/-- The 128 lanes of a row's logits. -/
theorem logits_row (l : Fin 128) :
    k0_pay10 Block.laneWords (Block.h1 m c t) (Block.h2 m c t) (Block.h3 m c t) (Block.w1 m c t) (Block.w2 m c t) (Block.w3 m c t)
      (iblk m c 5 t) (ix2 r l) = Cert.Math.lanes (logits m c R) l := by
  refine (Gate.logits_apply _ _ _ _ _ _ _ _ r l).trans ?_
  rw [show Block.laneWords (ix2 r l) = BitVec.ofNat 32 l.val from Gate.iota_apply r l, Gate.lane_lt, Cert.Math.select_decide]
  rw [funext (h1_row m c t r R hR), funext (h2_row m c hf t r R hR), funext (h3_row m c hf t r R hR),
    funext fun j => w1_row m c t j l, funext fun j => w2_row m c hf t j l, funext fun j => w3_row m c hf t j l,
    Operand.bias_read, Operand.bias_apply]
  simp only [dot_zero_left, dot_zero_right, add_zero, zero_add]
  unfold Cert.Math.lanes logits
  by_cases h : l.val < 8
  · simp only [h, dif_pos, if_true]
  · rw [if_neg h, dif_neg h]

variable (a b : Fin 8) (ht : Cert.Math.TopTwo (logits m c R) a b)

include hf hR ht in
/-- A row of the gate weights. -/
theorem gate_row (e : Fin 8) : Block.gateBlock m c t (ix2 r (Cert.Math.lane e)) = Cert.Math.topGate (logits m c R) a b e :=
  Gate.gate_row _ _ _ _ _ _ _ _ r (fun l => Gate.iota_apply r l) (logits m c R) a b ht
    (fun e => by obtain ⟨y, hy⟩ := hf.logit R e; rw [hy]; exact EReal.bot_lt_coe y)
    (logits_row m c hf t r R hR) e

/-- One expert added to a row of the sum. -/
theorem acc_row (h : Vec Ideal S512x1024 .bf16) (g : Vec Ideal S512x128 .f32) (acc : Vec Ideal S512x1024 .f32)
    (hh : ∀ k, h (ix2 r k) = hRow m c R k) (hg : ∀ e, g (ix2 r (Cert.Math.lane e)) = Cert.Math.topGate (logits m c R) a b e)
    (n : Fin 1024) (E : Fin 8) (hE : E.val = t.val % 8) :
    Block.accBlock m c t h g acc (ix2 r n) = acc (ix2 r n) + part m c R a b n E := by
  refine (Block.add_apply _ _ _ r n).trans ?_
  rw [Gate.pick_apply r (grid0.coords t) g E ((Operand.coord t).trans hE.symm), hg E, Block.swiglu_apply]
  unfold part Cert.Math.expert
  rw [funext hh, funext fun f => funext fun j => (Block.ld_wg (iblk m c 6 t) j f).trans (Operand.wgu_read m c t E hE j _),
    funext fun f => funext fun j => (Block.ld_wu (iblk m c 6 t) j f).trans (Operand.wgu_read m c t E hE j _),
    funext fun f => Operand.wd_read m c t E hE f n]

/-- What the scratch blocks hold of a row after a point. -/
structure Holds (t : Fin cfg0.N) (r : Fin 512) (R : Fin 12288) (a b : Fin 8) : Prop where
  h : ∀ k, (outsAt0 m c t.val t.isLt).2.1 (ix2 r k) = hRow m c R k
  gate : ∀ e, (outsAt0 m c t.val t.isLt).2.2.1 (ix2 r (Cert.Math.lane e)) = Cert.Math.topGate (logits m c R) a b e
  acc : ∀ n, (outsAt0 m c t.val t.isLt).2.2.2 (ix2 r n) = Cert.Math.upTo (part m c R a b n) (t.val % 8 + 1)

include hf hR ht in
theorem first (h0 : t.val % 8 = 0) : Holds m c t r R a b where
  h := fun k => (Block.first_h m c t h0 (by omega) _).trans ((Gate.h_apply r _ _ _ _ k).trans (hrow_eq m c t r R hR k))
  gate := fun e => (Block.first_gate m c t h0 (by omega) _).trans (gate_row m c hf t r R hR a b ht e)
  acc := fun n => by
    refine (Block.first_acc m c t h0 (by omega) _).trans ?_
    refine (acc_row m c t r R a b _ _ _ (fun k => (Gate.h_apply r _ _ _ _ k).trans (hrow_eq m c t r R hR k))
      (gate_row m c hf t r R hR a b ht) n 0 h0.symm).trans ?_
    rw [Block.zero_apply, h0]
    rfl

include hf hR ht in
theorem holds : Holds m c t r R a b := by
  obtain ⟨t, hlt⟩ := t
  induction t with
  | zero => exact first m c hf _ r R hR a b ht rfl
  | succ n ih =>
    by_cases h0 : (n + 1) % 8 = 0
    · exact first m c hf _ r R hR a b ht h0
    · have hp := ih (by omega) (by simp only at hR ⊢; omega)
      have hE : (⟨(n + 1) % 8, Nat.mod_lt _ (by norm_num)⟩ : Fin 8).val = (n + 1) % 8 := rfl
      refine ⟨fun k => (Block.next_h m c ⟨n + 1, hlt⟩ h0 _).trans (hp.h k), fun e => (Block.next_gate m c ⟨n + 1, hlt⟩ h0 _).trans (hp.gate e),
        fun q => ?_⟩
      refine (Block.next_acc m c ⟨n + 1, hlt⟩ h0 _).trans ?_
      refine (acc_row m c ⟨n + 1, hlt⟩ r R a b _ _ _ hp.h hp.gate q _ hE).trans ?_
      have ha : n % 8 + 1 = (n + 1) % 8 := by omega
      refine (congrArg (· + _) (hp.acc q)).trans ?_
      simp only [ha]
      show _ = Cert.Math.upTo (part m c R a b q) ((n + 1) % 8) + part m c R a b q ⟨(n + 1) % 8 % 8, _⟩
      congr 2
      exact Fin.ext (Nat.mod_mod _ _).symm

include hf hR ht in
/-- A row of the output block at the last expert. -/
theorem out_row (h7 : t.val % 8 = 7) (n : Fin 1024) : (outsAt0 m c t.val t.isLt).1 (ix2 r n) =
    xAt m c R n + modAt m c R 5 n *
      Cert.Math.rms (fun j => Cert.Math.upTo (part m c R a b j) 8) (fun j => m ((c : Thread nD τ).loc main_arg3) (ix1 j)) n := by
  have hh := holds m c hf t r R hR a b ht
  have h0 : ¬ t.val % 8 = 0 := by omega
  refine (Block.last_out m c t h0 h7 _).trans ((Block.out_apply _ _ _ _ r n).trans ?_)
  rw [Operand.x_read m c t r R hR n, funext (Operand.g3_read m c t),
    (Block.ld_gate (iblk m c 1 t) n).trans (Operand.mod_read m c t r R hR 5 n)]
  have e : ∀ j, Block.accBlock m c t (Block.prev m c t).2.1 (Block.prev m c t).2.2.1 (Block.prev m c t).2.2.2 (ix2 r j) =
      Cert.Math.upTo (part m c R a b j) 8 := fun j =>
    ((Block.next_acc m c t h0 _).symm.trans (hh.acc j)).trans (by rw [h7])
  rw [funext e]

end Cert.MoeIdeal.Rows

end
-- ==== Proof.Moe.Top.lean ====
module

public import proofs.«01_k».proof.Proof.Gen.MoeRefIdeal.Read
public import proofs.«01_k».proof.Proof.Math.Layer
public import proofs.«01_k».proof.Proof.Math.Lanes
public import Idealize.ShloMosaic.Lib.Pointwise

@[expose] public section

set_option maxRecDepth 16384

/-! # The two greatest logits of a token in the reference -/

noncomputable section

namespace Cert.MoeRefIdeal.Top

open Cert.MoeRefIdeal Cert.MoeRefIdeal.Gen Cert.MoeRefIdeal.Read Idealize.ShloMosaic Idealize.ShloMosaic.TcCoe Idealize.SL.Sem

variable (x : FVec Ideal S12288x8 .f32) (r : Fin 12288)

/-- The comparison of two entries of a row. -/
def greater (k k' : Fin 8) : Bool :=
  FloatOps.cmpfTotal (F := Ideal) (φ := .f32) .gt (x (ix2 r k)) (x (ix2 r k')) == 1#1

theorem greater_eq (a b : Fin 8) : greater x r a b = decide (x (ix2 r b) < x (ix2 r a)) := by
  unfold greater
  by_cases h : x (ix2 r b) < x (ix2 r a) <;>
    simp [Ideal.cmpfTotal_def, Ideal.cmp, CmpDirection.ordered, h]

theorem along_eq (j k : Fin 8) : (ix2 r j : S12288x8.Idx).along 1 k = ix2 r k := by
  funext a
  fin_cases a <;> rfl

/-- The entry at a place of the sorted row. -/
theorem values_apply (k : Fin 2) :
    (Host.topK S12288x2 1 (FloatOps.cmpfTotal (F := Ideal) (φ := .f32) .gt) x sliceFits_S12288x8_S12288x2).1 (ix2 r k) =
      x (ix2 r (sortedFrom (greater x r) ⟨k.val, by omega⟩)) := by
  unfold Host.topK Host.sort2
  pointwise []
  simp only [along_eq]
  rfl

/-- Its position. -/
theorem indices_apply (k : Fin 2) :
    (Host.topK S12288x2 1 (FloatOps.cmpfTotal (F := Ideal) (φ := .f32) .gt) x sliceFits_S12288x8_S12288x2).2 (ix2 r k) =
      BitVec.ofNat 32 (sortedFrom (greater x r) ⟨k.val, by omega⟩).val := by
  unfold Host.topK Host.sort2
  pointwise []
  simp only [along_eq]
  rfl

/-- The positions of the two greatest entries of a row. -/
def first : Fin 8 := sortedFrom (greater x r) 0
def second : Fin 8 := sortedFrom (greater x r) 1

theorem topTwo : Cert.Math.TopTwo (fun e => x (ix2 r e)) (first x r) (second x r) :=
  Cert.Math.topTwo_sorted (n := 6) (fun e => x (ix2 r e)) (greater x r) (greater_eq x r)

end Cert.MoeRefIdeal.Top

end
-- ==== Proof.Moe.Ref.lean ====
module

public import proofs.«01_k».proof.Proof.Moe.Top
public import proofs.«01_k».proof.Proof.Math.Experts
public import proofs.«01_k».proof.Proof.Math.Softmax

@[expose] public section

set_option maxRecDepth 16384

/-! # The rows of the reference

The reference's modulated row, its gate weights and its sum over the experts. -/

noncomputable section

namespace Cert.MoeRefIdeal.Rows

open Cert.MoeRefIdeal Cert.MoeRefIdeal.Gen Cert.MoeRefIdeal.Read Idealize.ShloMosaic Idealize.ShloMosaic.TcCoe Idealize.SL.Sem

variable (x0 : (⟨S12288x1024, .f32⟩ : BufTy).Contents (Elt Ideal)) (x1 : (⟨S8x6x1024, .f32⟩ : BufTy).Contents (Elt Ideal))
  (x2 x3 : (⟨S1024, .f32⟩ : BufTy).Contents (Elt Ideal)) (x4 : (⟨S1024x8, .f32⟩ : BufTy).Contents (Elt Ideal))
  (x5 : (⟨S8, .f32⟩ : BufTy).Contents (Elt Ideal)) (x6 : (⟨S8x1024x2816, .f32⟩ : BufTy).Contents (Elt Ideal))
  (x7 : (⟨S8x1408x1024, .f32⟩ : BufTy).Contents (Elt Ideal)) (r : Fin 12288)

/-- The shift of a token's row. -/
theorem shift_apply (k : Fin 1024) : val_main_v8 (F := Ideal) x1 (ix2 r k) = x1 (ix3 (Cert.Math.seq r) 3 k) := by
  by_cases h : r.val < 4096
  · rw [Cert.Math.seq, dif_pos h]
    pointwise [val_main_v8, val_main_v7, val_main_v6, val_main_v5, val_main_v4, val_main_v3, val_main_v2, val_main_v1, val_main_v0]
    rw [dif_pos h]
  · rw [Cert.Math.seq, dif_neg h]
    pointwise [val_main_v8, val_main_v7, val_main_v6, val_main_v5, val_main_v4, val_main_v3, val_main_v2, val_main_v1, val_main_v0]
    rw [dif_neg h]

/-- Its scale. -/
theorem scale_apply (k : Fin 1024) : val_main_v17 (F := Ideal) x1 (ix2 r k) = x1 (ix3 (Cert.Math.seq r) 4 k) := by
  by_cases h : r.val < 4096
  · rw [Cert.Math.seq, dif_pos h]
    pointwise [val_main_v17, val_main_v16, val_main_v15, val_main_v14, val_main_v13, val_main_v12, val_main_v11, val_main_v10, val_main_v9]
    rw [dif_pos h]
  · rw [Cert.Math.seq, dif_neg h]
    pointwise [val_main_v17, val_main_v16, val_main_v15, val_main_v14, val_main_v13, val_main_v12, val_main_v11, val_main_v10, val_main_v9]
    rw [dif_neg h]

/-- Its gate. -/
theorem gate_apply (k : Fin 1024) : val_main_v26 (F := Ideal) x1 (ix2 r k) = x1 (ix3 (Cert.Math.seq r) 5 k) := by
  by_cases h : r.val < 4096
  · rw [Cert.Math.seq, dif_pos h]
    pointwise [val_main_v26, val_main_v25, val_main_v24, val_main_v23, val_main_v22, val_main_v21, val_main_v20, val_main_v19, val_main_v18]
    rw [dif_pos h]
  · rw [Cert.Math.seq, dif_neg h]
    pointwise [val_main_v26, val_main_v25, val_main_v24, val_main_v23, val_main_v22, val_main_v21, val_main_v20, val_main_v19, val_main_v18]
    rw [dif_neg h]

/-- The modulated row. -/
theorem h_apply (k : Fin 1024) : val_main_v43 (F := Ideal) x0 x1 x2 (ix2 r k) =
    Cert.Math.modulated (fun j => x0 (ix2 r j)) (fun j => x2 (ix1 j)) (fun j => x1 (ix3 (Cert.Math.seq r) 4 j))
      (fun j => x1 (ix3 (Cert.Math.seq r) 3 j)) k := by
  rw [← funext (scale_apply x1 r), ← funext (shift_apply x1 r)]
  pointwise [val_main_v43, val_main_v42, val_main_v41, val_main_v40, val_main_cst_2, val_main_v39, val_main_v38, val_main_v37,
    val_main_v36, val_main_v35, val_main_v34, val_main_v33, val_main_v32, val_main_cst_1, val_main_v31, val_main_v30,
    val_main_cst_0, val_main_v29, val_main_v28, val_main_v27, val_main_cst, Cert.Math.modulated, Cert.Math.rms]

/-- The logits. -/
theorem logits_apply (e : Fin 8) : val_main_v47 (F := Ideal) x0 x1 x2 x4 x5 (ix2 r e) =
    Cert.Math.dot (fun j => val_main_v43 (F := Ideal) x0 x1 x2 (ix2 r j)) (fun j => x4 (ix2 j e)) + x5 (ix1 e) := by
  pointwise [val_main_v47, val_main_v46, val_main_v45, val_main_v44, Cert.Math.dot]

/-- The positions of the two greatest logits. -/
abbrev fst : Fin 8 := Top.first (val_main_v47 (F := Ideal) x0 x1 x2 x4 x5) r
abbrev snd : Fin 8 := Top.second (val_main_v47 (F := Ideal) x0 x1 x2 x4 x5) r

/-- The logits of a token. -/
abbrev logit (e : Fin 8) : EReal := val_main_v47 (F := Ideal) x0 x1 x2 x4 x5 (ix2 r e)

theorem value0 : val_main_values (F := Ideal) x0 x1 x2 x4 x5 (ix2 r 0) = logit x0 x1 x2 x4 x5 r (fst x0 x1 x2 x4 x5 r) :=
  Top.values_apply _ r 0
theorem value1 : val_main_values (F := Ideal) x0 x1 x2 x4 x5 (ix2 r 1) = logit x0 x1 x2 x4 x5 r (snd x0 x1 x2 x4 x5 r) :=
  Top.values_apply _ r 1
theorem index0 : val_main_indices (F := Ideal) x0 x1 x2 x4 x5 (ix2 r 0) = BitVec.ofNat 32 (fst x0 x1 x2 x4 x5 r).val :=
  Top.indices_apply _ r 0
theorem index1 : val_main_indices (F := Ideal) x0 x1 x2 x4 x5 (ix2 r 1) = BitVec.ofNat 32 (snd x0 x1 x2 x4 x5 r).val :=
  Top.indices_apply _ r 1

theorem topTwo : Cert.Math.TopTwo (logit x0 x1 x2 x4 x5 r) (fst x0 x1 x2 x4 x5 r) (snd x0 x1 x2 x4 x5 r) := Top.topTwo _ r

theorem max_apply : val_main_v50 (F := Ideal) x0 x1 x2 x4 x5 (ix1 r) =
    Finset.fold max ⊥ (fun k => val_main_values (F := Ideal) x0 x1 x2 x4 x5 (ix2 r k)) Finset.univ := by
  pointwise [val_main_v50, val_main_v49, val_main_cst_4, val_main_v48, val_main_cst_3]
  rw [Cert.Math.ofBits_neg_inf, max_eq_right bot_le]

theorem max_row : val_main_v50 (F := Ideal) x0 x1 x2 x4 x5 (ix1 r) = logit x0 x1 x2 x4 x5 r (fst x0 x1 x2 x4 x5 r) := by
  rw [max_apply, ← value0]
  refine Cert.Math.fold_max_eq (fun k => val_main_values (F := Ideal) x0 x1 x2 x4 x5 (ix2 r k)) 0 fun k => ?_
  have ht := topTwo x0 x1 x2 x4 x5 r
  fin_cases k
  · exact le_refl _
  · show val_main_values (F := Ideal) x0 x1 x2 x4 x5 (ix2 r 1) ≤ val_main_values (F := Ideal) x0 x1 x2 x4 x5 (ix2 r 0)
    rw [value0, value1]
    rcases ht.fst _ ht.ne.symm with h | h
    · exact h.le
    · exact h.1.le

/-- The softmax of the two. -/
theorem weight_apply (k : Fin 2) : val_main_v58 (F := Ideal) x0 x1 x2 x4 x5 (ix2 r k) =
    Ideal.div (Ideal.exp (val_main_values (F := Ideal) x0 x1 x2 x4 x5 (ix2 r k) - val_main_v50 (F := Ideal) x0 x1 x2 x4 x5 (ix1 r)))
      (Ideal.exp (val_main_values (F := Ideal) x0 x1 x2 x4 x5 (ix2 r 0) - val_main_v50 (F := Ideal) x0 x1 x2 x4 x5 (ix1 r)) +
        Ideal.exp (val_main_values (F := Ideal) x0 x1 x2 x4 x5 (ix2 r 1) - val_main_v50 (F := Ideal) x0 x1 x2 x4 x5 (ix1 r))) := by
  rw [← Fin.sum_univ_two (fun k => Ideal.exp (val_main_values (F := Ideal) x0 x1 x2 x4 x5 (ix2 r k) - val_main_v50 (F := Ideal) x0 x1 x2 x4 x5 (ix1 r)))]
  pointwise [val_main_v58, val_main_v57, val_main_v56, val_main_v55, val_main_cst_5, val_main_v54, val_main_v53, val_main_v52, val_main_v51]

/-- Whether a position is the one of an index. -/
theorem hot_apply (k : Fin 2) (e a : Fin 8) (h : val_main_indices (F := Ideal) x0 x1 x2 x4 x5 (ix2 r k) = BitVec.ofNat 32 a.val) :
    val_main_v59 (F := Ideal) x0 x1 x2 x4 x5 (ix3 r k e) = (if e = a then 1 else 0 : EReal) := by
  have hw : val_main_v59 (F := Ideal) x0 x1 x2 x4 x5 (ix3 r k e) = FloatOps.uitofp (F := Ideal) .f32
      (IntOp.cmpi .eq (val_main_indices (F := Ideal) x0 x1 x2 x4 x5 (ix2 r k)) (BitVec.ofNat 32 e.val)) := by
    pointwise [val_main_v59, val_main_call0_v4, val_main_call0_v3, val_main_call0_v2, val_main_call0_v1, val_main_call0_v0]
  rw [hw, h]
  unfold IntOp.cmpi
  by_cases q : e = a
  · subst q
    simp [FloatOps.uitofp]
  · have hn : (BitVec.ofNat 32 a.val == BitVec.ofNat 32 e.val) = false := by
      rw [beq_eq_false_iff_ne]
      intro w
      exact q (Fin.ext ((Cert.Math.word_inj _ _ (by omega) (by omega)).mp w).symm)
    rw [if_neg q]
    simp only [hn]
    simp [FloatOps.uitofp]

/-- The gate weight of an expert. -/
theorem gate_weight (hx : ∀ e, ∃ y : ℝ, logit x0 x1 x2 x4 x5 r e = (y : EReal)) (e : Fin 8) :
    val_main_v60 (F := Ideal) x0 x1 x2 x4 x5 (ix2 r e) =
      Cert.Math.topGate (logit x0 x1 x2 x4 x5 r) (fst x0 x1 x2 x4 x5 r) (snd x0 x1 x2 x4 x5 r) e := by
  have hs : val_main_v60 (F := Ideal) x0 x1 x2 x4 x5 (ix2 r e) =
      ∑ k : Fin 2, val_main_v58 (F := Ideal) x0 x1 x2 x4 x5 (ix2 r k) * val_main_v59 (F := Ideal) x0 x1 x2 x4 x5 (ix3 r k e) := by
    pointwise [val_main_v60]
  have h1 : Ideal.exp (logit x0 x1 x2 x4 x5 r (fst x0 x1 x2 x4 x5 r) - logit x0 x1 x2 x4 x5 r (fst x0 x1 x2 x4 x5 r)) = 1 := by
    obtain ⟨y, hy⟩ := hx (fst x0 x1 x2 x4 x5 r)
    rw [hy, ← EReal.coe_sub, sub_self, Ideal.exp_coe, Real.exp_zero, EReal.coe_one]
  rw [hs, Fin.sum_univ_two, weight_apply, weight_apply, hot_apply x0 x1 x2 x4 x5 r 0 e _ (index0 x0 x1 x2 x4 x5 r),
    hot_apply x0 x1 x2 x4 x5 r 1 e _ (index1 x0 x1 x2 x4 x5 r), max_row, value0, value1, h1,
    Cert.Math.div_one_add (Ideal.exp _) _ (Cert.Math.exp_nonneg _)]
  unfold Cert.Math.topGate
  simp only [mul_ite, mul_one, mul_zero]

section Expert

variable (g : FVec Ideal S12288x1 .f32) (h : FVec Ideal S12288x1024 .f32) (wgu : FVec Ideal S1024x2816 .f32) (wd : FVec Ideal S1408x1024 .f32)

/-- The hidden columns of one expert. -/
def hidden : FVec Ideal S12288x2816 .f32 :=
  Host.dotGeneral dot_S12288x1024_S1024x2816_S12288x2816_1_0_0_1_n_n none h wgu

theorem hidden_apply (f : Fin 2816) : hidden h wgu (ix2 r f) = Cert.Math.dot (fun j => h (ix2 r j)) (fun j => wgu (ix2 j f)) := by
  pointwise [hidden, Cert.Math.dot]

/-- The gated columns of a hidden array. -/
def act (z : FVec Ideal S12288x2816 .f32) : FVec Ideal S12288x1408 .f32 :=
  mulf (mulf (extractStridedSlice S12288x1408 ![0, 0] z slices_S12288x2816_S12288x1408_0_0)
      (Host.divf (broadcastInDim S12288x1408 ![] bcast_S_S12288x1408 (constant (F := Ideal) S_ .f32 0x3F800000#32))
        (addf (broadcastInDim S12288x1408 ![] bcast_S_S12288x1408 (constant (F := Ideal) S_ .f32 0x3F800000#32))
          (Host.exp (Host.negf (extractStridedSlice S12288x1408 ![0, 0] z slices_S12288x2816_S12288x1408_0_0))))))
    (extractStridedSlice S12288x1408 ![0, 1408] z slices_S12288x2816_S12288x1408_0_1408)

theorem act_apply (z : FVec Ideal S12288x2816 .f32) (f : Fin 1408) : act z (ix2 r f) =
    Cert.Math.silu (z (ix2 r ⟨f.val, by omega⟩)) * z (ix2 r ⟨1408 + f.val, by omega⟩) := by
  pointwise [act, Cert.Math.silu, Ideal.logistic]

/-- One expert's part of the sum. -/
def part : FVec Ideal S12288x1024 .f32 :=
  mulf (broadcastInDim S12288x1024 ![0, 1] bcast_S12288x1_S12288x1024_0_1 g)
    (Host.dotGeneral dot_S12288x1408_S1408x1024_S12288x1024_1_0_0_1_n_n none (act (hidden h wgu)) wd)

theorem part_apply (n : Fin 1024) : part g h wgu wd (ix2 r n) = g (ix2 r 0) *
    Cert.Math.swiglu (fun j => h (ix2 r j)) (fun f j => wgu (ix2 j ⟨f.val, by omega⟩)) (fun f j => wgu (ix2 j ⟨1408 + f.val, by omega⟩))
      (fun f => wd (ix2 f n)) := by
  have e : part g h wgu wd (ix2 r n) = g (ix2 r 0) * ∑ f : Fin 1408, act (hidden h wgu) (ix2 r f) * wd (ix2 f n) := by
    pointwise [part]
  rw [e, Cert.Math.swiglu]
  refine congrArg _ (Finset.sum_congr rfl fun f _ => ?_)
  rw [act_apply, hidden_apply, hidden_apply]

end Expert

/-- One expert's part of a token. -/
def token (n : Fin 1024) (e : Fin 8) : EReal :=
  Cert.Math.expert (fun j => val_main_v43 (F := Ideal) x0 x1 x2 (ix2 r j)) (fun e => val_main_v60 (F := Ideal) x0 x1 x2 x4 x5 (ix2 r e))
    (fun e j f => x6 (ix3 e j f)) (fun e f n => x7 (ix3 e f n)) n e

theorem zero_apply (n : Fin 1024) : val_main_v61 (F := Ideal) (ix2 r n) = 0 := by
  pointwise [val_main_v61, val_main_cst_6]

/-- One expert added to the sum. -/
theorem step (n : Fin 1024) (k : ℕ) (e : Fin 8) (he : e = ⟨k % 8, Nat.mod_lt _ (by norm_num)⟩) (acc acc' : FVec Ideal S12288x1024 .f32)
    (g : FVec Ideal S12288x1 .f32) (wgu : FVec Ideal S1024x2816 .f32) (wd : FVec Ideal S1408x1024 .f32)
    (ha : acc' = addf acc (part g (val_main_v43 (F := Ideal) x0 x1 x2) wgu wd))
    (h : acc (ix2 r n) = Cert.Math.upTo (token x0 x1 x2 x4 x5 x6 x7 r n) k)
    (hg : g (ix2 r 0) = val_main_v60 (F := Ideal) x0 x1 x2 x4 x5 (ix2 r e)) (hw : ∀ j f, wgu (ix2 j f) = x6 (ix3 e j f))
    (hd : ∀ f, wd (ix2 f n) = x7 (ix3 e f n)) :
    acc' (ix2 r n) = Cert.Math.upTo (token x0 x1 x2 x4 x5 x6 x7 r n) (k + 1) := by
  have hp : acc' (ix2 r n) = acc (ix2 r n) + part g (val_main_v43 (F := Ideal) x0 x1 x2) wgu wd (ix2 r n) := by rw [ha]; rfl
  rw [hp, h, part_apply, hg, Cert.Math.upTo, ← he]
  unfold token Cert.Math.expert
  simp only [hw, hd]

/-- The sum over the experts. -/
theorem sum_apply (n : Fin 1024) : val_main_v173 (F := Ideal) x0 x1 x2 x4 x5 x6 x7 (ix2 r n) =
    Cert.Math.upTo (token x0 x1 x2 x4 x5 x6 x7 r n) 8 := by
  have h0 := step x0 x1 x2 x4 x5 x6 x7 r n 0 0 rfl _ (val_main_v75 (F := Ideal) x0 x1 x2 x4 x5 x6 x7) (val_main_v62 (F := Ideal) x0 x1 x2 x4 x5)
    (val_main_v64 (F := Ideal) x6) (val_main_v66 (F := Ideal) x7) rfl (zero_apply r n) (by pointwise [val_main_v62])
    (fun j f => by pointwise [val_main_v64, val_main_v63]) (fun f => by pointwise [val_main_v66, val_main_v65])
  have h1 := step x0 x1 x2 x4 x5 x6 x7 r n 1 1 rfl _ (val_main_v89 (F := Ideal) x0 x1 x2 x4 x5 x6 x7) (val_main_v76 (F := Ideal) x0 x1 x2 x4 x5)
    (val_main_v78 (F := Ideal) x6) (val_main_v80 (F := Ideal) x7) rfl h0 (by pointwise [val_main_v76])
    (fun j f => by pointwise [val_main_v78, val_main_v77]) (fun f => by pointwise [val_main_v80, val_main_v79])
  have h2 := step x0 x1 x2 x4 x5 x6 x7 r n 2 2 rfl _ (val_main_v103 (F := Ideal) x0 x1 x2 x4 x5 x6 x7) (val_main_v90 (F := Ideal) x0 x1 x2 x4 x5)
    (val_main_v92 (F := Ideal) x6) (val_main_v94 (F := Ideal) x7) rfl h1 (by pointwise [val_main_v90])
    (fun j f => by pointwise [val_main_v92, val_main_v91]) (fun f => by pointwise [val_main_v94, val_main_v93])
  have h3 := step x0 x1 x2 x4 x5 x6 x7 r n 3 3 rfl _ (val_main_v117 (F := Ideal) x0 x1 x2 x4 x5 x6 x7) (val_main_v104 (F := Ideal) x0 x1 x2 x4 x5)
    (val_main_v106 (F := Ideal) x6) (val_main_v108 (F := Ideal) x7) rfl h2 (by pointwise [val_main_v104])
    (fun j f => by pointwise [val_main_v106, val_main_v105]) (fun f => by pointwise [val_main_v108, val_main_v107])
  have h4 := step x0 x1 x2 x4 x5 x6 x7 r n 4 4 rfl _ (val_main_v131 (F := Ideal) x0 x1 x2 x4 x5 x6 x7) (val_main_v118 (F := Ideal) x0 x1 x2 x4 x5)
    (val_main_v120 (F := Ideal) x6) (val_main_v122 (F := Ideal) x7) rfl h3 (by pointwise [val_main_v118])
    (fun j f => by pointwise [val_main_v120, val_main_v119]) (fun f => by pointwise [val_main_v122, val_main_v121])
  have h5 := step x0 x1 x2 x4 x5 x6 x7 r n 5 5 rfl _ (val_main_v145 (F := Ideal) x0 x1 x2 x4 x5 x6 x7) (val_main_v132 (F := Ideal) x0 x1 x2 x4 x5)
    (val_main_v134 (F := Ideal) x6) (val_main_v136 (F := Ideal) x7) rfl h4 (by pointwise [val_main_v132])
    (fun j f => by pointwise [val_main_v134, val_main_v133]) (fun f => by pointwise [val_main_v136, val_main_v135])
  have h6 := step x0 x1 x2 x4 x5 x6 x7 r n 6 6 rfl _ (val_main_v159 (F := Ideal) x0 x1 x2 x4 x5 x6 x7) (val_main_v146 (F := Ideal) x0 x1 x2 x4 x5)
    (val_main_v148 (F := Ideal) x6) (val_main_v150 (F := Ideal) x7) rfl h5 (by pointwise [val_main_v146])
    (fun j f => by pointwise [val_main_v148, val_main_v147]) (fun f => by pointwise [val_main_v150, val_main_v149])
  have h7 := step x0 x1 x2 x4 x5 x6 x7 r n 7 7 rfl _ (val_main_v173 (F := Ideal) x0 x1 x2 x4 x5 x6 x7) (val_main_v160 (F := Ideal) x0 x1 x2 x4 x5)
    (val_main_v162 (F := Ideal) x6) (val_main_v164 (F := Ideal) x7) rfl h6 (by pointwise [val_main_v160])
    (fun j f => by pointwise [val_main_v162, val_main_v161]) (fun f => by pointwise [val_main_v164, val_main_v163])
  exact h7

/-- One element of the reference. -/
theorem out_apply (n : Fin 1024) : val_main_v188 (F := Ideal) x0 x1 x2 x3 x4 x5 x6 x7 (ix2 r n) =
    x0 (ix2 r n) + x1 (ix3 (Cert.Math.seq r) 5 n) *
      Cert.Math.rms (fun j => Cert.Math.upTo (token x0 x1 x2 x4 x5 x6 x7 r j) 8) (fun j => x3 (ix1 j)) n := by
  rw [← gate_apply x1 r n, ← funext (sum_apply x0 x1 x2 x4 x5 x6 x7 r)]
  pointwise [val_main_v188, val_main_v187, val_main_v186, val_main_v185, val_main_v184, val_main_v183, val_main_v182, val_main_v181,
    val_main_v180, val_main_v179, val_main_cst_9, val_main_v178, val_main_v177, val_main_cst_8, val_main_v176, val_main_v175,
    val_main_v174, val_main_cst_7, Cert.Math.rms]

end Cert.MoeRefIdeal.Rows

end
-- ==== Proof.Math.Finite.lean ====
module

public import proofs.«01_k».proof.Proof.Math.Layer
public import proofs.«01_k».proof.Proof.Math.Softmax

@[expose] public section

/-! # Rows of reals -/

noncomputable section

namespace Cert.Math

open Idealize.ShloMosaic

theorem ofBits_1024 : Ideal.ofBits .f32 0x44800000#32 = ((1024 : ℝ) : EReal) := by
  simp [Ideal.ofBits, Ideal.ieee, -EReal.coe_mul]; norm_num

theorem ofBits_eps : ∃ e : ℝ, 0 < e ∧ Ideal.ofBits .f32 0x358637BD#32 = (e : EReal) := by
  refine ⟨_, ?_, by simp [Ideal.ofBits, Ideal.ieee, -EReal.coe_mul]; rfl⟩
  positivity

/-- The norm of a row of reals is real. -/
theorem rms_real (x g : Fin 1024 → EReal) (hx : ∀ k, ∃ y : ℝ, x k = (y : EReal)) (hg : ∀ k, ∃ y : ℝ, g k = (y : EReal)) (k : Fin 1024) :
    ∃ y : ℝ, rms x g k = (y : EReal) := by
  choose p hp using hx
  choose q hq using hg
  obtain ⟨e, he, hee⟩ := ofBits_eps
  have hs : (∑ j, x j * x j) = ((∑ j, p j * p j : ℝ) : EReal) := by
    simp only [hp, ← EReal.coe_mul, coe_sum]
  have h0 : 0 ≤ ∑ j, p j * p j := Finset.sum_nonneg fun j _ => mul_self_nonneg _
  have hd : Ideal.div (∑ j, x j * x j) (Ideal.ofBits .f32 0x44800000#32) = (((∑ j, p j * p j) * (1024 : ℝ)⁻¹ : ℝ) : EReal) := by
    rw [hs, ofBits_1024]
    unfold Ideal.div
    rw [if_neg (by norm_num), ← EReal.coe_inv, ← EReal.coe_mul]
  have hpos : 0 < (∑ j, p j * p j) * (1024 : ℝ)⁻¹ + e := by positivity
  unfold rms
  rw [hd, hee, ← EReal.coe_add, Ideal.rsqrt_coe, if_neg (not_lt.mpr hpos.le), if_neg hpos.ne', hp, hq, ← EReal.coe_mul, ← EReal.coe_mul]
  exact ⟨_, rfl⟩

/-- So is the modulated row. -/
theorem modulated_real (x g s b : Fin 1024 → EReal) (hx : ∀ k, ∃ y : ℝ, x k = (y : EReal)) (hg : ∀ k, ∃ y : ℝ, g k = (y : EReal))
    (hs : ∀ k, ∃ y : ℝ, s k = (y : EReal)) (hb : ∀ k, ∃ y : ℝ, b k = (y : EReal)) (k : Fin 1024) :
    ∃ y : ℝ, modulated x g s b k = (y : EReal) := by
  obtain ⟨y, hy⟩ := rms_real x g hx hg k
  obtain ⟨u, hu⟩ := hs k
  obtain ⟨v, hv⟩ := hb k
  refine ⟨y * (1 + u) + v, ?_⟩
  unfold modulated
  rw [hy, hu, hv, EReal.coe_add, EReal.coe_mul, EReal.coe_add, EReal.coe_one]

end Cert.Math

end
-- ==== Proof.Moe.Final.lean ====
module

public import proofs.«01_k».proof.Proof.Moe.Rows
public import proofs.«01_k».proof.Proof.Moe.Ref
public import proofs.«01_k».proof.Proof.Math.Finite
public import proofs.«01_k».proof.Proof.Gen.MoeIdeal.Points
public import Idealize.ShloMosaic.Lib.Claim

@[expose] public section

set_option maxRecDepth 16384

/-! # The expert layer's array

The rows of the kernel's output are the rows of the reference's result. -/

noncomputable section

namespace Cert.MoeIdeal.Final

open Cert.MoeIdeal Cert.MoeIdeal.Gen Idealize.ShloMosaic Idealize.ShloMosaic.TcCoe Idealize.SL.Sem
open Idealize.ShloMosaic.Pipeline (Dat)

variable (m : (ℓ : Loc nD τ sig) → Buf (Elt Ideal) ℓ)

/-- The reference's result of the argument arrays of device `c`. -/
abbrev out (c : Dev nD) : FVec Ideal S12288x1024 .f32 :=
  MoeRefIdeal.Read.val_main_v188 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The statement's assumption: the arrays that the routing reads hold reals. -/
def Real (c : Dev nD) : Prop :=
  (∀ i, ∃ y : ℝ, m ((c : Thread nD τ).loc main_arg0) i = (y : EReal)) ∧ (∀ i, ∃ y : ℝ, m ((c : Thread nD τ).loc main_arg1) i = (y : EReal)) ∧
    (∀ i, ∃ y : ℝ, m ((c : Thread nD τ).loc main_arg2) i = (y : EReal)) ∧ (∀ i, ∃ y : ℝ, m ((c : Thread nD τ).loc main_arg4) i = (y : EReal)) ∧
    (∀ i, ∃ y : ℝ, m ((c : Thread nD τ).loc main_arg5) i = (y : EReal))

theorem finite (c : Dev nD) (h : Real m c) : Rows.Finite m c := by
  obtain ⟨h0, h1, h2, h4, h5⟩ := h
  have row : ∀ R k, ∃ y : ℝ, Rows.hRow m c R k = (y : EReal) := fun R k =>
    Cert.Math.modulated_real _ _ _ _ (fun j => h0 _) (fun j => h2 _) (fun j => h1 _) (fun j => h1 _) k
  refine ⟨row, fun j e => h4 _, fun R e => ?_⟩
  obtain ⟨y, hy⟩ := Cert.Math.dot_finite (Rows.hRow m c R) (fun j => m ((c : Thread nD τ).loc main_arg4) (ix2 j e)) (row R) (fun j => h4 _)
  obtain ⟨z, hz⟩ := h5 (ix1 e)
  refine ⟨y + z, ?_⟩
  rw [EReal.coe_add, ← hy, ← hz]
  rfl

variable (c : Dev nD)

abbrev fst (R : Fin 12288) : Fin 8 := MoeRefIdeal.Rows.fst (m ((c : Thread nD τ).loc main_arg0)) (m ((c : Thread nD τ).loc main_arg1))
  (m ((c : Thread nD τ).loc main_arg2)) (m ((c : Thread nD τ).loc main_arg4)) (m ((c : Thread nD τ).loc main_arg5)) R
abbrev snd (R : Fin 12288) : Fin 8 := MoeRefIdeal.Rows.snd (m ((c : Thread nD τ).loc main_arg0)) (m ((c : Thread nD τ).loc main_arg1))
  (m ((c : Thread nD τ).loc main_arg2)) (m ((c : Thread nD τ).loc main_arg4)) (m ((c : Thread nD τ).loc main_arg5)) R
abbrev logit (R : Fin 12288) : Fin 8 → EReal := MoeRefIdeal.Rows.logit (m ((c : Thread nD τ).loc main_arg0))
  (m ((c : Thread nD τ).loc main_arg1)) (m ((c : Thread nD τ).loc main_arg2)) (m ((c : Thread nD τ).loc main_arg4))
  (m ((c : Thread nD τ).loc main_arg5)) R

theorem row_eq (R : Fin 12288) : (fun j => MoeRefIdeal.Read.val_main_v43 (F := Ideal) (m ((c : Thread nD τ).loc main_arg0))
    (m ((c : Thread nD τ).loc main_arg1)) (m ((c : Thread nD τ).loc main_arg2)) (ix2 R j)) = Rows.hRow m c R := by
  funext k
  exact MoeRefIdeal.Rows.h_apply _ _ _ R k

theorem logit_eq (R : Fin 12288) : logit m c R = Rows.logits m c R := by
  funext e
  refine (MoeRefIdeal.Rows.logits_apply _ _ _ _ _ R e).trans ?_
  rw [row_eq m c R]
  rfl

theorem topTwo (R : Fin 12288) : Cert.Math.TopTwo (Rows.logits m c R) (fst m c R) (snd m c R) := by
  rw [← logit_eq m c R]
  exact MoeRefIdeal.Rows.topTwo _ _ _ _ _ R

variable (hr : Real m c)
include hr

theorem gate_eq (R : Fin 12288) : (fun e => MoeRefIdeal.Read.val_main_v60 (F := Ideal) (m ((c : Thread nD τ).loc main_arg0))
    (m ((c : Thread nD τ).loc main_arg1)) (m ((c : Thread nD τ).loc main_arg2)) (m ((c : Thread nD τ).loc main_arg4))
    (m ((c : Thread nD τ).loc main_arg5)) (ix2 R e)) = Cert.Math.topGate (Rows.logits m c R) (fst m c R) (snd m c R) := by
  funext e
  have hl : ∀ e, ∃ y : ℝ, logit m c R e = (y : EReal) := by
    rw [logit_eq m c R]
    exact (finite m c hr).logit R
  refine (MoeRefIdeal.Rows.gate_weight _ _ _ _ _ R hl e).trans ?_
  exact congrArg (fun f => Cert.Math.topGate f (fst m c R) (snd m c R) e) (logit_eq m c R)

theorem token_eq (R : Fin 12288) (n : Fin 1024) :
    MoeRefIdeal.Rows.token (m ((c : Thread nD τ).loc main_arg0)) (m ((c : Thread nD τ).loc main_arg1)) (m ((c : Thread nD τ).loc main_arg2))
      (m ((c : Thread nD τ).loc main_arg4)) (m ((c : Thread nD τ).loc main_arg5)) (m ((c : Thread nD τ).loc main_arg6))
      (m ((c : Thread nD τ).loc main_arg7)) R n = Rows.part m c R (fst m c R) (snd m c R) n := by
  funext e
  unfold MoeRefIdeal.Rows.token Rows.part
  rw [row_eq m c R, gate_eq m c hr R]

theorem point (t : Fin cfg0.N) (r : Fin 512) (R : Fin 12288) (hR : R.val = t.val / 8 * 512 + r.val) (h7 : t.val % 8 = 7) (n : Fin 1024) :
    (outsAt0 m c t.val t.isLt).1 (ix2 r n) = out m c (ix2 R n) := by
  refine (Rows.out_row m c (finite m c hr) t r R hR (fst m c R) (snd m c R) (topTwo m c R) h7 n).trans ?_
  refine Eq.trans ?_ (MoeRefIdeal.Rows.out_apply _ _ _ _ _ _ _ _ R n).symm
  rw [funext fun j => token_eq m c hr R j]

theorem point_idx (t : Fin cfg0.N) (h7 : t.val % 8 = 7) (x : S512x1024.Idx) (y : S12288x1024.Idx)
    (h0 : (y 0).val = t.val / 8 * 512 + (x 0).val) (h1 : (y 1).val = (x 1).val) :
    (outsAt0 m c t.val t.isLt).1 x = out m c y := by
  have hx : x = ix2 (⟨(x 0).val, (x 0).isLt⟩ : Fin 512) (⟨(x 1).val, (x 1).isLt⟩ : Fin 1024) := by idx_ext
  have hy : y = ix2 (⟨(y 0).val, (y 0).isLt⟩ : Fin 12288) (⟨(x 1).val, (x 1).isLt⟩ : Fin 1024) := by
    funext a; fin_cases a
    · rfl
    · exact Fin.ext h1
  rw [hx, hy]
  exact point m c hr t _ _ h0 h7 _

/-- The output array after the run is the reference's result. -/
theorem final : (dats m 0 c).arrAt 8 (cfgs 0).N = out m c := by
  refine (dats m 0 c).arrAt_eq_of_covers 8 _ (by decide +kernel) fun t hf y => ?_
  have h7 : t.val % 8 = 7 := (flush0_8 t).mp hf
  blk_simp
  rw [after0_8]
  exact point_idx m c hr t h7 y _ (by blk_simp [Operand.idx t]) (by blk_simp [Operand.idx t])

end Cert.MoeIdeal.Final

end
-- ==== Proof.Moe.Pre.lean ====
module

public import proofs.«01_k».proof.Proof.Gen.Pre_finite_route
public import proofs.«01_k».proof.Proof.Math.Softmax
public import Idealize.ShloMosaic.Lib.ReduceAll
public import Idealize.ShloMosaic.Lib.Affine

@[expose] public section

/-! # The precondition read

`jnp.abs(x) < jnp.inf` of every element says that every element is a real. -/

noncomputable section

namespace Cert.Pre_finite_route.Reals

open Cert.Pre_finite_route Idealize.ShloMosaic

instance : Subsingleton S_.Idx := ⟨fun a b => funext fun i => i.elim0⟩

/-- An element whose absolute value compares below +∞ is a real. -/
theorem real_of_cmp (x : EReal) (h : Ideal.cmp .olt (max x (-x)) (Ideal.ofBits .f32 0x7F800000#32) = 1#1) :
    ∃ r : ℝ, x = r := by
  rw [Cert.Math.ofBits_inf] at h
  apply Cert.Math.real_of_abs_lt
  by_contra hn
  simp [Ideal.cmp, hn] at h

variable [Facts] (x0 : FVec Ideal S12288x1024 .f32) (x1 : FVec Ideal S8x6x1024 .f32) (x2 x3 : FVec Ideal S1024 .f32)
  (x4 : FVec Ideal S1024x8 .f32) (x5 : FVec Ideal S8 .f32) (x6 : FVec Ideal S8x1024x2816 .f32) (x7 : FVec Ideal S8x1408x1024 .f32)

theorem finite (j : S_.Idx) (h : fn (F := Ideal) x0 x1 x2 x3 x4 x5 x6 x7 j = 1#1) :
    (∀ i, ∃ r : ℝ, x0 i = (r : EReal)) ∧ (∀ i, ∃ r : ℝ, x1 i = (r : EReal)) ∧ (∀ i, ∃ r : ℝ, x2 i = (r : EReal)) ∧
      (∀ i, ∃ r : ℝ, x4 i = (r : EReal)) ∧ (∀ i, ∃ r : ℝ, x5 i = (r : EReal)) := by
  dsimp only [fn, fn_part1] at h
  obtain ⟨h, h5⟩ := IntOp.andi_eq_one.1 h
  obtain ⟨h, h4⟩ := IntOp.andi_eq_one.1 h
  obtain ⟨h, h2⟩ := IntOp.andi_eq_one.1 h
  obtain ⟨h0, h1⟩ := IntOp.andi_eq_one.1 h
  exact ⟨fun i => real_of_cmp _ (Host.reduce_andi_all _ _ _ _ _ h0 i),
    fun i => real_of_cmp _ (Host.reduce_andi_all _ _ _ _ _ h1 i),
    fun i => real_of_cmp _ (Host.reduce_andi_all _ _ _ _ _ h2 i),
    fun i => real_of_cmp _ (Host.reduce_andi_all _ _ _ _ _ h4 i),
    fun i => real_of_cmp _ (Host.reduce_andi_all _ _ _ _ _ h5 i)⟩

end Cert.Pre_finite_route.Reals

end
-- ==== Proof.Moe.Claims.lean ====
module

public import proofs.«01_k».proof.Defs
public import proofs.«01_k».proof.Proof.Gen.Moe.Frame
public import proofs.«01_k».proof.Proof.Gen.MoeIdeal.Frame
public import proofs.«01_k».proof.Proof.Gen.MoeRefIdeal.Run
public import proofs.«01_k».proof.Proof.Moe.Final
public import proofs.«01_k».proof.Proof.Moe.Pre

@[expose] public section

set_option maxRecDepth 16384

/-! # The claims about the expert layer -/

noncomputable section

namespace Cert.Moe.Claims

open Idealize.ShloMosaic Idealize.ShloMosaic.TcCoe Idealize.SL.Sem

theorem frame : Cert.quiescent_Moe := fun m ρ _ => Cert.Moe.Gen.frame m ρ
theorem frame_ideal : Cert.quiescent_MoeIdeal := fun m ρ _ => Cert.MoeIdeal.Gen.frame m ρ
theorem frame_ideal_pre : Cert.quiescent_MoeIdeal_pre_finite_route := fun m ρ _ => Cert.MoeIdeal.Gen.frame m ρ
theorem no_sem : SemLoc Cert.MoeRefIdeal.sig → False := by
  rintro (s | s) <;> exact s.elim0

theorem frame_ref : Cert.quiescent_MoeRefIdeal := fun m ρ _ => by
  run_from Cert.MoeRefIdeal.Value.run m ρ
  · exact fun _ => ⟨trivial, trivial, trivial, trivial, trivial, trivial, trivial, trivial⟩
  · exact funext fun x => (no_sem x.2).elim
theorem frame_ref_pre : Cert.quiescent_MoeRefIdeal_pre_finite_route := fun m ρ _ => by
  run_from Cert.MoeRefIdeal.Value.run m ρ
  · exact fun _ => ⟨trivial, trivial, trivial, trivial, trivial, trivial, trivial, trivial⟩
  · exact funext fun x => (no_sem x.2).elim

/-- The idealized kernel and the reference leave equal results. -/
theorem algebraic : Cert.algebraic_MoeIdeal_MoeRefIdeal_pre_finite_route := by
  pair_intro
  · run_from Cert.MoeIdeal.Gen.run_main m g
    · exact Cert.MoeIdeal.Gen.V_main_arg2 m c
    · exact Cert.MoeIdeal.Gen.V_main_arg3 m c
    · exact Cert.MoeIdeal.Gen.V_main_arg4 m c
    · exact Cert.MoeIdeal.Gen.V_main_arg5 m c
    · exact Cert.MoeIdeal.Gen.V_main_arg6 m c
    · exact Cert.MoeIdeal.Gen.V_main_arg7 m c
  · run_from Cert.MoeRefIdeal.Value.run m' g'
    have hf : MoeIdeal.Final.Real m c :=
      Cert.Pre_finite_route.Reals.finite _ _ _ _ _ _ _ _ (fun i => i.elim0) (congrFun (hpre c) _)
    rw [MoeIdeal.Final.final m c hf]
    obtain ⟨h0, h1, h2, h3, h4, h5, h6, h7⟩ := hagree c
    unfold MoeIdeal.Final.out
    rw [← h0, ← h1, ← h2, ← h3, ← h4, ← h5, ← h6, ← h7]
    exact MoeRefIdeal.Read.val_main_v188_eq (StableHlo.launchContents m' c)

end Cert.Moe.Claims

end
-- ==== Proof.Ffn.Block.lean ====
module

public import proofs.«01_k».proof.Proof.Gen.FfnIdeal.Frame
public import proofs.«01_k».proof.Proof.Math.Layer
public import Idealize.ShloMosaic.Lib.Pipeline.ValueKit

@[expose] public section

set_option maxRecDepth 16384

/-! # The dense layer's block

What the body leaves in its output block, row by row, from the blocks it reads. -/

noncomputable section

namespace Cert.FfnIdeal.Block

open Cert.FfnIdeal Cert.FfnIdeal.Gen Idealize.ShloMosaic Idealize.ShloMosaic.TcCoe Idealize.SL.Sem

section Stages

variable (x : Vec Ideal S256x1024 .f32) (g : Vec Ideal S1x1024 .f32) (s b : Vec Ideal S1x1x1024 .f32)

/-- The normed and modulated block. -/
theorem h_apply (r : Fin 256) (k : Fin 1024) : k0_pay2 x g s b (ix2 r k) =
    Cert.Math.modulated (fun j => x (ix2 r j)) (fun j => g (ix2 0 j)) (fun j => s (ix3 0 0 j)) (fun j => b (ix3 0 0 j)) k := by
  pointwise [k0_pay2, Cert.Math.modulated, Cert.Math.rms]

/-- The gate columns of the first product. -/
theorem gate_apply (w : Vec Ideal S1024x1408 .bf16) (r : Fin 256) (k : Fin 1408) : k0_pay4 x g s b w (ix2 r k) =
    Cert.Math.dot (fun j => k0_pay2 x g s b (ix2 r j)) (fun j => w (ix2 j k)) := by
  pointwise [k0_pay4, Cert.Math.dot]

/-- Its other columns. -/
theorem up_apply (w : Vec Ideal S1024x1408 .bf16) (r : Fin 256) (k : Fin 1408) : k0_pay5 x g s b w (ix2 r k) =
    Cert.Math.dot (fun j => k0_pay2 x g s b (ix2 r j)) (fun j => w (ix2 j k)) := by
  pointwise [k0_pay5, Cert.Math.dot]

theorem exp_apply (w : Vec Ideal S1024x1408 .bf16) (r : Fin 256) (k : Fin 1408) : k0_pay6 x g s b w (ix2 r k) =
    Ideal.exp (-(k0_pay4 x g s b w (ix2 r k) : EReal)) := by
  pointwise [k0_pay6]
  rw [zero_sub]

end Stages

/-- The two halves of the hidden width, summed. -/
theorem acc_apply (h : FVec Ideal S256x1024 .bf16) (z : FVec Ideal S256x1024 .f32) (gt up th : FVec Ideal S256x1408 .f32)
    (wd0 wd1 : Vec Ideal S1408x1024 .bf16) (wg1 wu1 : Vec Ideal S1024x1408 .bf16) (hz : ∀ i, z i = 0)
    (hth : ∀ r k, th (ix2 r k) = Ideal.exp (-(gt (ix2 r k) : EReal))) (r : Fin 256) (n : Fin 1024) :
    k0_pay7 h z gt up th (Scalar.ofBits .f32 0x3F800000#32) wd0 wg1 wu1 wd1 (ix2 r n) =
      (∑ f, Cert.Math.silu (gt (ix2 r f)) * up (ix2 r f) * wd0 (ix2 f n)) +
        Cert.Math.swiglu (fun j => h (ix2 r j)) (fun f j => wg1 (ix2 j f)) (fun f j => wu1 (ix2 j f)) (fun f => wd1 (ix2 f n)) := by
  pointwise [k0_pay7, Cert.Math.swiglu, Cert.Math.dot, Cert.Math.silu, Ideal.logistic]
  simp only [hz, hth, zero_add, zero_sub]

/-- The residual with the gated norm of the sum. -/
theorem out_apply (x acc : FVec Ideal S256x1024 .f32) (gate g : FVec Ideal S1x1024 .f32) (sq : FVec Ideal S256x1 .f32)
    (r : Fin 256) (hsq : sq (ix2 r 0) = ∑ j, acc (ix2 r j) * acc (ix2 r j)) (n : Fin 1024) :
    k0_pay1 x acc gate g sq (ix2 r n) =
      x (ix2 r n) + gate (ix2 0 n) * Cert.Math.rms (fun j => acc (ix2 r j)) (fun j => g (ix2 0 j)) n := by
  pointwise [k0_pay1, Cert.Math.rms]
  rw [hsq]

theorem sq_apply (h : FVec Ideal S256x1024 .bf16) (z : FVec Ideal S256x1024 .f32) (gt up th : FVec Ideal S256x1408 .f32)
    (u : Ideal .f32) (wd0 wd1 : Vec Ideal S1408x1024 .bf16) (wg1 wu1 : Vec Ideal S1024x1408 .bf16) (r : Fin 256) :
    k0_pay10 h z gt up th u wd0 wg1 wu1 wd1 (ix2 r 0) =
      ∑ j, k0_pay7 h z gt up th u wd0 wg1 wu1 wd1 (ix2 r j) * k0_pay7 h z gt up th u wd0 wg1 wu1 wd1 (ix2 r j) := by
  pointwise [k0_pay10]

theorem zero_apply (i : S256x1024.Idx) : k0_pay3 (F := Ideal) i = 0 := by
  pointwise [k0_pay3]

theorem gate_row (v : Vec Ideal S1x1x1024 .f32) (n : Fin 1024) : k0_pay8 v (ix2 0 n) = v (ix3 0 0 n) := by
  pointwise [k0_pay8]

theorem g_row (v : Vec Ideal S1x1024 .f32) (n : Fin 1024) : k0_pay9 v (ix2 0 n) = v (ix2 0 n) := by
  pointwise [k0_pay9]

variable (x0 : Vec Ideal S256x1024 .f32) (x1 : Vec Ideal S1x6x1024 .f32) (x2 x3 : Vec Ideal S1x1024 .f32)
  (x4 : Vec Ideal S1024x5632 .bf16) (x5 : Vec Ideal S2816x1024 .bf16)

/-- The modulated row of a block. -/
def hrow (r : Fin 256) : Fin 1024 → EReal :=
  Cert.Math.modulated (fun j => x0 (ix2 r j)) (fun j => x2 (ix2 0 j)) (fun j => x1 (ix3 0 4 j)) (fun j => x1 (ix3 0 3 j))

/-- The SwiGLU of a block's row. -/
def frow (r : Fin 256) (n : Fin 1024) : EReal :=
  Cert.Math.swiglu (n := 2816) (hrow x0 x1 x2 r) (fun f j => x4 (ix2 j ⟨f.val, by omega⟩)) (fun f j => x4 (ix2 j ⟨2816 + f.val, by omega⟩))
    (fun f => x5 (ix2 f n))

/-! The pieces of the operands that the body loads. -/

theorem ld_x (r : Fin 256) (k : Fin 1024) : View.ld x0 r0_0 (ix2 r k) = x0 (ix2 r k) := by
  pointwise []
theorem ld_g (k : Fin 1024) : View.ld x2 r0_1 (ix2 0 k) = x2 (ix2 0 k) := by
  pointwise []
theorem ld_scale (k : Fin 1024) : View.ld x1 r0_2 (ix3 0 0 k) = x1 (ix3 0 4 k) := by
  pointwise []
theorem ld_shift (k : Fin 1024) : View.ld x1 r0_3 (ix3 0 0 k) = x1 (ix3 0 3 k) := by
  pointwise []
theorem ld_gate (k : Fin 1024) : View.ld x1 r0_10 (ix3 0 0 k) = x1 (ix3 0 5 k) := by
  pointwise []
theorem ld_wg0 (j : Fin 1024) (f : Fin 1408) : View.ld x4 r0_4 (ix2 j f) = x4 (ix2 j ⟨f.val, by omega⟩) := by
  pointwise []
theorem ld_wu0 (j : Fin 1024) (f : Fin 1408) : View.ld x4 r0_5 (ix2 j f) = x4 (ix2 j ⟨2816 + f.val, by omega⟩) := by
  pointwise []
theorem ld_wg1 (j : Fin 1024) (f : Fin 1408) : View.ld x4 r0_7 (ix2 j f) = x4 (ix2 j ⟨1408 + f.val, by omega⟩) := by
  pointwise []
theorem ld_wu1 (j : Fin 1024) (f : Fin 1408) : View.ld x4 r0_8 (ix2 j f) = x4 (ix2 j ⟨2816 + (1408 + f.val), by omega⟩) := by
  pointwise []
  congr 1
  idx_ext
theorem ld_wd0 (f : Fin 1408) (n : Fin 1024) : View.ld x5 r0_6 (ix2 f n) = x5 (ix2 ⟨f.val, by omega⟩ n) := by
  pointwise []
theorem ld_wd1 (f : Fin 1408) (n : Fin 1024) : View.ld x5 r0_9 (ix2 f n) = x5 (ix2 ⟨1408 + f.val, by omega⟩ n) := by
  pointwise []

theorem h_row (r : Fin 256) (k : Fin 1024) : k0_pay11 x0 x1 x2 x3 x4 x5 (ix2 r k) = hrow x0 x1 x2 r k := by
  refine (h_apply _ _ _ _ r k).trans ?_
  rw [hrow, funext (ld_x x0 r), funext (ld_g x2), funext (ld_scale x1), funext (ld_shift x1)]

theorem gate_cols (r : Fin 256) (f : Fin 1408) : k0_pay13 x0 x1 x2 x3 x4 x5 (ix2 r f) =
    Cert.Math.dot (hrow x0 x1 x2 r) (fun j => x4 (ix2 j ⟨f.val, by omega⟩)) :=
  (gate_apply _ _ _ _ _ r f).trans (congrArg₂ _ (funext fun j => h_row x0 x1 x2 x3 x4 x5 r j) (funext fun j => ld_wg0 x4 j f))

theorem up_cols (r : Fin 256) (f : Fin 1408) : k0_pay14 x0 x1 x2 x3 x4 x5 (ix2 r f) =
    Cert.Math.dot (hrow x0 x1 x2 r) (fun j => x4 (ix2 j ⟨2816 + f.val, by omega⟩)) :=
  (up_apply _ _ _ _ _ r f).trans (congrArg₂ _ (funext fun j => h_row x0 x1 x2 x3 x4 x5 r j) (funext fun j => ld_wu0 x4 j f))

theorem acc_row (r : Fin 256) (j : Fin 1024) :
    k0_pay7 (k0_pay11 x0 x1 x2 x3 x4 x5) (k0_pay12 x0 x1 x2 x3 x4 x5) (k0_pay13 x0 x1 x2 x3 x4 x5)
      (k0_pay14 x0 x1 x2 x3 x4 x5) (k0_pay15 x0 x1 x2 x3 x4 x5) (Scalar.ofBits .f32 0x3F800000#32) (View.ld x5 r0_6)
      (View.ld x4 r0_7) (View.ld x4 r0_8) (View.ld x5 r0_9) (ix2 r j) = frow x0 x1 x2 x4 x5 r j := by
  refine (acc_apply _ _ (k0_pay13 x0 x1 x2 x3 x4 x5) _ (k0_pay15 x0 x1 x2 x3 x4 x5) _ _ _ _ (fun i => zero_apply i) (fun r k => exp_apply _ _ _ _ _ r k) r j).trans ?_
  refine Eq.trans ?_ (Cert.Math.swiglu_add (n := 1408) (k := 1408) _ _ _ _).symm
  refine congrArg₂ (· + ·) (Finset.sum_congr rfl fun f _ => ?_) ?_
  · rw [gate_cols, up_cols]
    exact congrArg _ (ld_wd0 x5 f j)
  · rw [funext (h_row x0 x1 x2 x3 x4 x5 r), funext fun f => funext fun j => ld_wg1 x4 j f, funext fun f => funext fun j => ld_wu1 x4 j f,
      funext fun f => ld_wd1 x5 f j]
    rfl

/-- A row of the output block. -/
theorem block_apply (r : Fin 256) (n : Fin 1024) : out0_6 x0 x1 x2 x3 x4 x5 (ix2 r n) =
    x0 (ix2 r n) + x1 (ix3 0 5 n) * Cert.Math.rms (frow x0 x1 x2 x4 x5 r) (fun j => x3 (ix2 0 j)) n := by
  have hc : out0_6 x0 x1 x2 x3 x4 x5 (ix2 r n) = k0_pay1 (View.ld x0 r0_0) (k0_pay7 (k0_pay11 x0 x1 x2 x3 x4 x5) (k0_pay12 x0 x1 x2 x3 x4 x5) (k0_pay13 x0 x1 x2 x3 x4 x5)
      (k0_pay14 x0 x1 x2 x3 x4 x5) (k0_pay15 x0 x1 x2 x3 x4 x5) (Scalar.ofBits .f32 0x3F800000#32) (View.ld x5 r0_6)
      (View.ld x4 r0_7) (View.ld x4 r0_8) (View.ld x5 r0_9)) (k0_pay8 (View.ld x1 r0_10)) (k0_pay9 (View.ld x3 r0_1))
      (k0_pay10 (k0_pay11 x0 x1 x2 x3 x4 x5) (k0_pay12 x0 x1 x2 x3 x4 x5) (k0_pay13 x0 x1 x2 x3 x4 x5)
      (k0_pay14 x0 x1 x2 x3 x4 x5) (k0_pay15 x0 x1 x2 x3 x4 x5) (Scalar.ofBits .f32 0x3F800000#32) (View.ld x5 r0_6)
      (View.ld x4 r0_7) (View.ld x4 r0_8) (View.ld x5 r0_9)) (ix2 r n) := by
    unfold out0_6
    rw [View.canon_cons_unit_zero (by funext a; fin_cases a <;> rfl)]
  rw [hc, out_apply _ _ _ _ _ r (sq_apply _ _ _ _ _ _ _ _ _ _ r) n]
  rw [funext (acc_row x0 x1 x2 x3 x4 x5 r), gate_row, funext (g_row _), ld_x, funext (ld_g x3), ld_gate]

end Cert.FfnIdeal.Block

end
-- ==== Proof.Ffn.Ref.lean ====
module

public import proofs.«01_k».proof.Proof.Gen.FfnRefIdeal.Read
public import proofs.«01_k».proof.Proof.Math.Layer
public import Idealize.ShloMosaic.Lib.Pointwise

@[expose] public section

set_option maxRecDepth 16384

noncomputable section

namespace Cert.FfnRefIdeal.Rows

open Cert.FfnRefIdeal Cert.FfnRefIdeal.Gen Cert.FfnRefIdeal.Read Idealize.ShloMosaic Idealize.ShloMosaic.TcCoe Idealize.SL.Sem

variable (x0 : (⟨S12288x1024, .f32⟩ : BufTy).Contents (Elt Ideal)) (x1 : (⟨S8x6x1024, .f32⟩ : BufTy).Contents (Elt Ideal))
  (x2 x3 : (⟨S1024, .f32⟩ : BufTy).Contents (Elt Ideal)) (x4 : (⟨S1024x5632, .f32⟩ : BufTy).Contents (Elt Ideal))
  (x5 : (⟨S2816x1024, .f32⟩ : BufTy).Contents (Elt Ideal)) (r : Fin 12288)

/-- The shift of a token's row. -/
theorem shift_apply (k : Fin 1024) : val_main_v8 (F := Ideal) x1 (ix2 r k) = x1 (ix3 (Cert.Math.seq r) 3 k) := by
  by_cases h : r.val < 4096
  · rw [Cert.Math.seq, dif_pos h]
    pointwise [val_main_v8, val_main_v7, val_main_v6, val_main_v5, val_main_v4, val_main_v3, val_main_v2, val_main_v1, val_main_v0]
    rw [dif_pos h]
  · rw [Cert.Math.seq, dif_neg h]
    pointwise [val_main_v8, val_main_v7, val_main_v6, val_main_v5, val_main_v4, val_main_v3, val_main_v2, val_main_v1, val_main_v0]
    rw [dif_neg h]

/-- Its scale. -/
theorem scale_apply (k : Fin 1024) : val_main_v17 (F := Ideal) x1 (ix2 r k) = x1 (ix3 (Cert.Math.seq r) 4 k) := by
  by_cases h : r.val < 4096
  · rw [Cert.Math.seq, dif_pos h]
    pointwise [val_main_v17, val_main_v16, val_main_v15, val_main_v14, val_main_v13, val_main_v12, val_main_v11, val_main_v10, val_main_v9]
    rw [dif_pos h]
  · rw [Cert.Math.seq, dif_neg h]
    pointwise [val_main_v17, val_main_v16, val_main_v15, val_main_v14, val_main_v13, val_main_v12, val_main_v11, val_main_v10, val_main_v9]
    rw [dif_neg h]

/-- Its gate. -/
theorem gate_apply (k : Fin 1024) : val_main_v26 (F := Ideal) x1 (ix2 r k) = x1 (ix3 (Cert.Math.seq r) 5 k) := by
  by_cases h : r.val < 4096
  · rw [Cert.Math.seq, dif_pos h]
    pointwise [val_main_v26, val_main_v25, val_main_v24, val_main_v23, val_main_v22, val_main_v21, val_main_v20, val_main_v19, val_main_v18]
    rw [dif_pos h]
  · rw [Cert.Math.seq, dif_neg h]
    pointwise [val_main_v26, val_main_v25, val_main_v24, val_main_v23, val_main_v22, val_main_v21, val_main_v20, val_main_v19, val_main_v18]
    rw [dif_neg h]

/-- The modulated row. -/
theorem h_apply (k : Fin 1024) : val_main_v43 (F := Ideal) x0 x1 x2 (ix2 r k) =
    Cert.Math.modulated (fun j => x0 (ix2 r j)) (fun j => x2 (ix1 j)) (fun j => x1 (ix3 (Cert.Math.seq r) 4 j))
      (fun j => x1 (ix3 (Cert.Math.seq r) 3 j)) k := by
  rw [← funext (scale_apply x1 r), ← funext (shift_apply x1 r)]
  pointwise [val_main_v43, val_main_v42, val_main_v41, val_main_v40, val_main_cst_2, val_main_v39, val_main_v38, val_main_v37,
    val_main_v36, val_main_v35, val_main_v34, val_main_v33, val_main_v32, val_main_cst_1, val_main_v31, val_main_v30,
    val_main_cst_0, val_main_v29, val_main_v28, val_main_v27, val_main_cst, Cert.Math.modulated, Cert.Math.rms]

/-- A column of the first product. -/
theorem gu_apply (f : Fin 5632) : val_main_v44 (F := Ideal) x0 x1 x2 x4 (ix2 r f) =
    Cert.Math.dot (fun j => val_main_v43 (F := Ideal) x0 x1 x2 (ix2 r j)) (fun j => x4 (ix2 j f)) := by
  pointwise [val_main_v44, Cert.Math.dot]

/-- The gated hidden value. -/
theorem act_apply (f : Fin 2816) : val_main_v48 (F := Ideal) x0 x1 x2 x4 (ix2 r f) =
    Cert.Math.silu (val_main_v44 (F := Ideal) x0 x1 x2 x4 (ix2 r ⟨f.val, by omega⟩)) *
      val_main_v44 (F := Ideal) x0 x1 x2 x4 (ix2 r ⟨2816 + f.val, by omega⟩) := by
  pointwise [val_main_v48, val_main_v47, val_main_v46, val_main_v45, val_main_call0_v5, val_main_call0_v4, val_main_call0_cst_0,
    val_main_call0_v3, val_main_call0_v2, val_main_call0_cst, val_main_call0_v1, val_main_call0_v0, Cert.Math.silu, Ideal.logistic]

/-- The SwiGLU of a token. -/
def frow (n : Fin 1024) : EReal :=
  Cert.Math.swiglu (n := 2816)
    (Cert.Math.modulated (fun j => x0 (ix2 r j)) (fun j => x2 (ix1 j)) (fun j => x1 (ix3 (Cert.Math.seq r) 4 j))
      (fun j => x1 (ix3 (Cert.Math.seq r) 3 j)))
    (fun f j => x4 (ix2 j ⟨f.val, by omega⟩)) (fun f j => x4 (ix2 j ⟨2816 + f.val, by omega⟩)) (fun f => x5 (ix2 f n))

theorem f_apply (n : Fin 1024) : val_main_v49 (F := Ideal) x0 x1 x2 x4 x5 (ix2 r n) = frow x0 x1 x2 x4 x5 r n := by
  have e : val_main_v49 (F := Ideal) x0 x1 x2 x4 x5 (ix2 r n) =
      ∑ f : Fin 2816, val_main_v48 (F := Ideal) x0 x1 x2 x4 (ix2 r f) * x5 (ix2 f n) := by
    pointwise [val_main_v49]
  rw [e, frow, Cert.Math.swiglu]
  refine Finset.sum_congr rfl fun f _ => ?_
  rw [act_apply, gu_apply, gu_apply, funext (h_apply x0 x1 x2 r)]

/-- One element of the reference. -/
theorem out_apply (n : Fin 1024) : val_main_v64 (F := Ideal) x0 x1 x2 x3 x4 x5 (ix2 r n) =
    x0 (ix2 r n) + x1 (ix3 (Cert.Math.seq r) 5 n) * Cert.Math.rms (frow x0 x1 x2 x4 x5 r) (fun j => x3 (ix1 j)) n := by
  rw [← gate_apply x1 r n, ← funext (f_apply x0 x1 x2 x4 x5 r)]
  pointwise [val_main_v64, val_main_v63, val_main_v62, val_main_v61, val_main_v60, val_main_v59, val_main_v58, val_main_v57,
    val_main_v56, val_main_v55, val_main_cst_5, val_main_v54, val_main_v53, val_main_cst_4, val_main_v52, val_main_v51,
    val_main_v50, val_main_cst_3, Cert.Math.rms]

end Cert.FfnRefIdeal.Rows

end
-- ==== Proof.Ffn.Final.lean ====
module

public import proofs.«01_k».proof.Proof.Ffn.Block
public import proofs.«01_k».proof.Proof.Ffn.Ref
public import Idealize.ShloMosaic.Lib.Claim

@[expose] public section

set_option maxRecDepth 16384

/-! # The dense layer's array

The blocks read off the arguments, and the output array as the reference's result. -/

noncomputable section

namespace Cert.FfnIdeal.Final

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- The reference's result of the argument arrays of device `c`. -/
abbrev out (c : Dev nD) : FVec Ideal S12288x1024 .f32 :=
  FfnRefIdeal.Read.val_main_v64 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

theorem idx : ∀ t : Fin cfg0.N, win0_0.index t = ![t.val, 0] ∧ win0_1.index t = ![if t.val < 16 then 0 else 1 + (t.val - 16) / 8, 0, 0]
    ∧ win0_2.index t = ![0, 0] ∧ win0_3.index t = ![0, 0] ∧ win0_4.index t = ![0, 0] ∧ win0_5.index t = ![0, 0]
    ∧ win0_6.index t = ![t.val, 0] :=
  (by decide +kernel : ∀ t : Fin grid0.N, _)

variable (c : Dev nD) (t : Fin cfg0.N) (r : Fin 256) (R : Fin 12288) (hR : R.val = t.val * 256 + r.val)
include hR

theorem x_read (k : Fin 1024) : iblk m c 0 t (ix2 r k) = m ((c : Thread nD τ).loc main_arg0) (ix2 R k) := by
  blk_point [iblk, V, idx t]

theorem mod_read (i : Fin 6) (k : Fin 1024) :
    iblk m c 1 t (ix3 0 i k) = m ((c : Thread nD τ).loc main_arg1) (ix3 (Cert.Math.seq R) i k) := by
  have hs : (Cert.Math.seq R).val = if t.val < 16 then 0 else 1 + (t.val - 16) / 8 := by
    unfold Cert.Math.seq
    split_ifs <;> simp <;> omega
  blk_point [iblk, V, idx t]

omit hR in
theorem g2_read (k : Fin 1024) : iblk m c 2 t (ix2 0 k) = m ((c : Thread nD τ).loc main_arg2) (ix1 k) := by
  blk_point [iblk, V, idx t]
omit hR in
theorem g3_read (k : Fin 1024) : iblk m c 3 t (ix2 0 k) = m ((c : Thread nD τ).loc main_arg3) (ix1 k) := by
  blk_point [iblk, V, idx t]
omit hR in
theorem wgu_read (j : Fin 1024) (k : Fin 5632) : iblk m c 4 t (ix2 j k) = m ((c : Thread nD τ).loc main_arg4) (ix2 j k) := by
  blk_point [iblk, V, idx t]
omit hR in
theorem wd_read (j : Fin 2816) (k : Fin 1024) : iblk m c 5 t (ix2 j k) = m ((c : Thread nD τ).loc main_arg5) (ix2 j k) := by
  blk_point [iblk, V, idx t]

/-- What a point leaves in the output block. -/
theorem point (n : Fin 1024) :
    out0_6 (iblk m c 0 t) (iblk m c 1 t) (iblk m c 2 t) (iblk m c 3 t) (iblk m c 4 t) (iblk m c 5 t) (ix2 r n) = out m c (ix2 R n) := by
  refine (Block.block_apply _ _ _ _ _ _ r n).trans ?_
  refine Eq.trans ?_ (FfnRefIdeal.Rows.out_apply _ _ _ _ _ _ R n).symm
  unfold Block.frow Block.hrow FfnRefIdeal.Rows.frow
  simp only [x_read m c t r R hR, mod_read m c t r R hR, g2_read, g3_read, wgu_read, wd_read]

omit hR in
theorem point_idx (x : S256x1024.Idx) (y : S12288x1024.Idx) (h0 : (y 0).val = t.val * 256 + (x 0).val)
    (h1 : (y 1).val = (x 1).val) :
    out0_6 (iblk m c 0 t) (iblk m c 1 t) (iblk m c 2 t) (iblk m c 3 t) (iblk m c 4 t) (iblk m c 5 t) x = out m c y := by
  have hx : x = ix2 (⟨(x 0).val, (x 0).isLt⟩ : Fin 256) (⟨(x 1).val, (x 1).isLt⟩ : Fin 1024) := by idx_ext
  have hy : y = ix2 (⟨(y 0).val, (y 0).isLt⟩ : Fin 12288) (⟨(x 1).val, (x 1).isLt⟩ : Fin 1024) := by
    funext a; fin_cases a
    · rfl
    · exact Fin.ext h1
  rw [hx, hy]
  exact point m c t _ _ h0 _

omit hR in
/-- The output array after the run is the reference's result. -/
theorem final : (dats m 0 c).arrAt 6 (cfgs 0).N = out m c := by
  refine (dats m 0 c).arrAt_eq_of_covers 6 _ (by decide +kernel) fun t _ y => ?_
  blk_simp
  rw [after0_6]
  exact point_idx m c t y _ (by blk_simp [idx t]) (by blk_simp [idx t])

end Cert.FfnIdeal.Final

end
-- ==== Proof.Ffn.Claims.lean ====
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.Ffn.Final

@[expose] public section

/-! # The claims about the dense layer -/

noncomputable section

namespace Cert.Ffn.Claims

open Idealize.ShloMosaic Idealize.ShloMosaic.TcCoe Idealize.SL.Sem

theorem frame : Cert.quiescent_Ffn := fun m ρ _ => Cert.Ffn.Gen.frame m ρ

theorem frame_ideal : Cert.quiescent_FfnIdeal := fun m ρ _ => Cert.FfnIdeal.Gen.frame m ρ

/-- The reference has no semaphore. -/
theorem no_sem : SemLoc Cert.FfnRefIdeal.sig → False := by
  rintro (s | s) <;> exact s.elim0

theorem frame_ref : Cert.quiescent_FfnRefIdeal := fun m ρ _ => by
  run_from Cert.FfnRefIdeal.Value.run m ρ
  · exact fun _ => ⟨trivial, trivial, trivial, trivial, trivial, trivial⟩
  · exact funext fun x => (no_sem x.2).elim

/-- The kernel's and the reference's results are equal. -/
theorem algebraic : Cert.algebraic_FfnIdeal_FfnRefIdeal := by
  pair_intro
  · run_from Cert.FfnIdeal.Gen.run_main m g
  · run_from Cert.FfnRefIdeal.Value.run m' g'
    rw [FfnIdeal.Final.final m c, FfnRefIdeal.Read.val_main_v64_eq]
    simp only [hagree c]

end Cert.Ffn.Claims

end
-- ==== Proof.Inproj.Block.lean ====
module

public import proofs.«01_k».proof.Proof.Gen.InprojIdeal.Frame
public import proofs.«01_k».proof.Proof.Math.Layer
public import Idealize.ShloMosaic.Lib.Pipeline.ValueKit

@[expose] public section

set_option maxRecDepth 16384

/-! # The input projection's block

What the body leaves in its output block, row by row, from the blocks it reads. -/

noncomputable section

namespace Cert.InprojIdeal.Block

open Cert.InprojIdeal Cert.InprojIdeal.Gen Idealize.ShloMosaic Idealize.ShloMosaic.TcCoe Idealize.SL.Sem

section Stages

variable (x : Vec Ideal S256x1024 .f32) (g : Vec Ideal S1x1024 .f32) (s b : Vec Ideal S1x1x1024 .f32)

/-- The normed and modulated block. -/
theorem h_apply (r : Fin 256) (k : Fin 1024) : k0_pay5 x g s b (ix2 r k) =
    Cert.Math.modulated (fun j => x (ix2 r j)) (fun j => g (ix2 0 j)) (fun j => s (ix3 0 0 j)) (fun j => b (ix3 0 0 j)) k := by
  pointwise [k0_pay5, Cert.Math.modulated, Cert.Math.rms]

theorem first_apply (w : Vec Ideal S1024x1024 .bf16) (r : Fin 256) (k : Fin 1024) : k0_pay6 x g s b w (ix2 r k) =
    Cert.Math.dot (fun j => k0_pay5 x g s b (ix2 r j)) (fun j => w (ix2 j k)) := by
  pointwise [k0_pay6, Cert.Math.dot]

theorem second_apply (w : Vec Ideal S1024x1024 .bf16) (r : Fin 256) (k : Fin 1024) : k0_pay7 x g s b w (ix2 r k) =
    Cert.Math.dot (fun j => k0_pay5 x g s b (ix2 r j)) (fun j => w (ix2 j k)) := by
  pointwise [k0_pay7, Cert.Math.dot]

end Stages

theorem mul1_apply (h : FVec Ideal S256x1024 .bf16) (w : Vec Ideal S1024x1024 .bf16) (r : Fin 256) (k : Fin 1024) :
    k0_pay1 h w (ix2 r k) = Cert.Math.dot (fun j => h (ix2 r j)) (fun j => w (ix2 j k)) := by
  pointwise [k0_pay1, Cert.Math.dot]
theorem mul2_apply (h : FVec Ideal S256x1024 .bf16) (w : Vec Ideal S1024x1024 .bf16) (r : Fin 256) (k : Fin 1024) :
    k0_pay2 h w (ix2 r k) = Cert.Math.dot (fun j => h (ix2 r j)) (fun j => w (ix2 j k)) := by
  pointwise [k0_pay2, Cert.Math.dot]
theorem mul3_apply (h : FVec Ideal S256x1024 .bf16) (w : Vec Ideal S1024x1024 .bf16) (r : Fin 256) (k : Fin 1024) :
    k0_pay3 h w (ix2 r k) = Cert.Math.dot (fun j => h (ix2 r j)) (fun j => w (ix2 j k)) := by
  pointwise [k0_pay3, Cert.Math.dot]
theorem mul4_apply (h : FVec Ideal S256x1024 .bf16) (w : Vec Ideal S1024x1024 .bf16) (r : Fin 256) (k : Fin 1024) :
    k0_pay4 h w (ix2 r k) = Cert.Math.dot (fun j => h (ix2 r j)) (fun j => w (ix2 j k)) := by
  pointwise [k0_pay4, Cert.Math.dot]
variable (x0 : Vec Ideal S256x1024 .f32) (x1 : Vec Ideal S1x6x1024 .f32) (x2 : Vec Ideal S1x1024 .f32)
  (x3 : Vec Ideal S1024x6144 .bf16)

/-- The modulated row of a block. -/
def hrow (r : Fin 256) : Fin 1024 → EReal :=
  Cert.Math.modulated (fun j => x0 (ix2 r j)) (fun j => x2 (ix2 0 j)) (fun j => x1 (ix3 0 1 j)) (fun j => x1 (ix3 0 0 j))

theorem ld_x (x : Vec Ideal S256x1024 .f32) (r : Fin 256) (k : Fin 1024) : View.ld x r0_0 (ix2 r k) = x (ix2 r k) := by
  pointwise []
theorem ld_g (k : Fin 1024) : View.ld x2 r0_1 (ix2 0 k) = x2 (ix2 0 k) := by
  pointwise []
theorem ld_scale (k : Fin 1024) : View.ld x1 r0_2 (ix3 0 0 k) = x1 (ix3 0 1 k) := by
  pointwise []
theorem ld_shift (k : Fin 1024) : View.ld x1 r0_3 (ix3 0 0 k) = x1 (ix3 0 0 k) := by
  pointwise []
theorem ld_w4 (j f : Fin 1024) : View.ld x3 r0_4 (ix2 j f) = x3 (ix2 j ⟨f.val, by omega⟩) := by
  pointwise []
theorem ld_w6 (j f : Fin 1024) : View.ld x3 r0_6 (ix2 j f) = x3 (ix2 j ⟨1024 + f.val, by omega⟩) := by
  pointwise []
theorem ld_w8 (j f : Fin 1024) : View.ld x3 r0_8 (ix2 j f) = x3 (ix2 j ⟨2048 + f.val, by omega⟩) := by
  pointwise []
theorem ld_w10 (j f : Fin 1024) : View.ld x3 r0_10 (ix2 j f) = x3 (ix2 j ⟨3072 + f.val, by omega⟩) := by
  pointwise []
theorem ld_w12 (j f : Fin 1024) : View.ld x3 r0_12 (ix2 j f) = x3 (ix2 j ⟨4096 + f.val, by omega⟩) := by
  pointwise []
theorem ld_w14 (j f : Fin 1024) : View.ld x3 r0_14 (ix2 j f) = x3 (ix2 j ⟨5120 + f.val, by omega⟩) := by
  pointwise []

theorem h_row (r : Fin 256) (k : Fin 1024) :
    k0_pay5 (View.ld x0 r0_0) (View.ld x2 r0_1) (View.ld x1 r0_2) (View.ld x1 r0_3) (ix2 r k) = hrow x0 x1 x2 r k := by
  refine (h_apply _ _ _ _ r k).trans ?_
  rw [hrow, funext (ld_x x0 r), funext (ld_g x2), funext (ld_scale x1), funext (ld_shift x1)]

theorem h_row8 (r : Fin 256) (k : Fin 1024) : k0_pay8 x0 x1 x2 x3 (ix2 r k) = hrow x0 x1 x2 r k :=
  h_row x0 x1 x2 r k

theorem entry_congr (P : S256x1024.Idx → EReal) (z : S256x1024.Idx) (y : S256x6144.Idx) (h0 : (y 0).val = (z 0).val)
    (D : Fin 6144) (h1 : (y 1).val = D.val) (r : Fin 256) (hr : r.val = (z 0).val) (f : Fin 1024) (hf : f.val = (z 1).val)
    (hP : P (ix2 r f) = Cert.Math.dot (hrow x0 x1 x2 r) (fun j => x3 (ix2 j D))) :
    P z = Cert.Math.dot (hrow x0 x1 x2 ⟨(y 0).val, (y 0).isLt⟩) (fun j => x3 (ix2 j ⟨(y 1).val, (y 1).isLt⟩)) := by
  have hz : z = ix2 r f := by
    funext a; fin_cases a
    · exact Fin.ext hr.symm
    · exact Fin.ext hf.symm
  have e0 : (⟨(y 0).val, (y 0).isLt⟩ : Fin 256) = r := Fin.ext (h0.trans hr.symm)
  have e1 : (⟨(y 1).val, (y 1).isLt⟩ : Fin 6144) = D := Fin.ext h1
  rw [e0, e1, ← hP, hz]

/-- An entry of the output block. -/
theorem block_apply (y : S256x6144.Idx) : out0_4 x0 x1 x2 x3 y =
    Cert.Math.dot (hrow x0 x1 x2 ⟨(y 0).val, (y 0).isLt⟩) (fun j => x3 (ix2 j ⟨(y 1).val, (y 1).isLt⟩)) := by
  unfold out0_4
  canon_tiles z h
  · exact entry_congr x0 x1 x2 x3 (k0_pay4 (k0_pay8 x0 x1 x2 x3) (View.ld x3 r0_14)) z y h0 ⟨5120 + (z 1).val, by omega⟩ h1 ⟨(z 0).val, z0_lt⟩ rfl ⟨(z 1).val, z1_lt⟩ rfl
      ((mul4_apply _ _ _ _).trans (congrArg₂ _ (funext fun j => h_row8 x0 x1 x2 x3 _ j) (funext fun j => ld_w14 x3 j _)))
  · exact entry_congr x0 x1 x2 x3 (k0_pay3 (k0_pay8 x0 x1 x2 x3) (View.ld x3 r0_12)) z y h0 ⟨4096 + (z 1).val, by omega⟩ h1 ⟨(z 0).val, z0_lt⟩ rfl ⟨(z 1).val, z1_lt⟩ rfl
      ((mul3_apply _ _ _ _).trans (congrArg₂ _ (funext fun j => h_row8 x0 x1 x2 x3 _ j) (funext fun j => ld_w12 x3 j _)))
  · exact entry_congr x0 x1 x2 x3 (k0_pay2 (k0_pay8 x0 x1 x2 x3) (View.ld x3 r0_10)) z y h0 ⟨3072 + (z 1).val, by omega⟩ h1 ⟨(z 0).val, z0_lt⟩ rfl ⟨(z 1).val, z1_lt⟩ rfl
      ((mul2_apply _ _ _ _).trans (congrArg₂ _ (funext fun j => h_row8 x0 x1 x2 x3 _ j) (funext fun j => ld_w10 x3 j _)))
  · exact entry_congr x0 x1 x2 x3 (k0_pay1 (k0_pay8 x0 x1 x2 x3) (View.ld x3 r0_8)) z y h0 ⟨2048 + (z 1).val, by omega⟩ h1 ⟨(z 0).val, z0_lt⟩ rfl ⟨(z 1).val, z1_lt⟩ rfl
      ((mul1_apply _ _ _ _).trans (congrArg₂ _ (funext fun j => h_row8 x0 x1 x2 x3 _ j) (funext fun j => ld_w8 x3 j _)))
  · exact entry_congr x0 x1 x2 x3 (k0_pay7 (View.ld x0 r0_0) (View.ld x2 r0_1) (View.ld x1 r0_2) (View.ld x1 r0_3) (View.ld x3 r0_6)) z y h0 ⟨1024 + (z 1).val, by omega⟩ h1 ⟨(z 0).val, z0_lt⟩ rfl ⟨(z 1).val, z1_lt⟩ rfl
      ((second_apply _ _ _ _ _ _ _).trans (congrArg₂ _ (funext fun j => h_row x0 x1 x2 _ j) (funext fun j => ld_w6 x3 j _)))
  · exact entry_congr x0 x1 x2 x3 (k0_pay6 (View.ld x0 r0_0) (View.ld x2 r0_1) (View.ld x1 r0_2) (View.ld x1 r0_3) (View.ld x3 r0_4)) z y h0 ⟨(z 1).val, by omega⟩ h1 ⟨(z 0).val, z0_lt⟩ rfl ⟨(z 1).val, z1_lt⟩ rfl
      ((first_apply _ _ _ _ _ _ _).trans (congrArg₂ _ (funext fun j => h_row x0 x1 x2 _ j) (funext fun j => ld_w4 x3 j _)))

end Cert.InprojIdeal.Block

end
-- ==== Proof.Math.Pack.lean ====
module

public import proofs.«01_k».proof.Proof.Math.Softmax
public import proofs.«01_k».proof.Proof.Math.Layer

@[expose] public section

/-! # The packed columns of the input projection

The column groups of the projection in the order that the later calls read them, with zero columns at the end. -/

noncomputable section

namespace Cert.Math

open Idealize.ShloMosaic

/-- The packed columns of a row of 5920: gate, gq, gk, gv, gg, aq, su, ak, av, ga, then zeros. -/
def pack (f : Fin 5920 → EReal) (C : Fin 6144) : EReal :=
  if h : C.val < 3072 then f ⟨2848 + C.val, by omega⟩
  else if h : C.val - 3072 < 256 then f ⟨C.val - 3072, by omega⟩
  else if h : C.val - 3072 - 256 < 256 then f ⟨256 + (C.val - 3072 - 256), by omega⟩
  else if h : C.val - 3072 - 256 - 256 < 512 then f ⟨512 + (C.val - 3072 - 256 - 256), by omega⟩
  else if h : C.val - 3072 - 256 - 256 - 512 < 512 then
    f ⟨1024 + (C.val - 3072 - 256 - 256 - 512), by omega⟩
  else if h : C.val - 3072 - 256 - 256 - 512 - 512 < 512 then f ⟨1568 + (C.val - 3072 - 256 - 256 - 512 - 512), by omega⟩
  else if h : C.val - 3072 - 256 - 256 - 512 - 512 - 512 < 512 then
    f ⟨2336 + (C.val - 3072 - 256 - 256 - 512 - 512 - 512), by omega⟩
  else if h : C.val - 3072 - 256 - 256 - 512 - 512 - 512 - 512 < 128 then
    f ⟨2080 + (C.val - 3072 - 256 - 256 - 512 - 512 - 512 - 512), by omega⟩
  else if h : C.val - 3072 - 256 - 256 - 512 - 512 - 512 - 512 - 128 < 128 then
    f ⟨2208 + (C.val - 3072 - 256 - 256 - 512 - 512 - 512 - 512 - 128), by omega⟩
  else if h : C.val - 3072 - 256 - 256 - 512 - 512 - 512 - 512 - 128 - 128 < 32 then
    f ⟨1536 + (C.val - 3072 - 256 - 256 - 512 - 512 - 512 - 512 - 128 - 128), by omega⟩
  else 0

theorem dot_zero {n : ℕ} (x : Fin n → EReal) : dot x (fun _ => 0) = 0 := by
  unfold dot
  exact Finset.sum_eq_zero fun j _ => mul_zero _

/-- The product with the packed weight is the packed product. -/
theorem dot_pack {n : ℕ} (x : Fin n → EReal) (w : Fin n → Fin 5920 → EReal) (C : Fin 6144) :
    dot x (fun j => pack (w j) C) = pack (fun D => dot x (fun j => w j D)) C := by
  unfold pack
  by_cases h0 : C.val < 3072
  · simp only [h0, ↓reduceDIte]
  simp only [h0, ↓reduceDIte]
  by_cases h1 : C.val - 3072 < 256
  · simp only [h1, ↓reduceDIte]
  simp only [h1, ↓reduceDIte]
  by_cases h2 : C.val - 3072 - 256 < 256
  · simp only [h2, ↓reduceDIte]
  simp only [h2, ↓reduceDIte]
  by_cases h3 : C.val - 3072 - 256 - 256 < 512
  · simp only [h3, ↓reduceDIte]
  simp only [h3, ↓reduceDIte]
  by_cases h4 : C.val - 3072 - 256 - 256 - 512 < 512
  · simp only [h4, ↓reduceDIte]
  simp only [h4, ↓reduceDIte]
  by_cases h5 : C.val - 3072 - 256 - 256 - 512 - 512 < 512
  · simp only [h5, ↓reduceDIte]
  simp only [h5, ↓reduceDIte]
  by_cases h6 : C.val - 3072 - 256 - 256 - 512 - 512 - 512 < 512
  · simp only [h6, ↓reduceDIte]
  simp only [h6, ↓reduceDIte]
  by_cases h7 : C.val - 3072 - 256 - 256 - 512 - 512 - 512 - 512 < 128
  · simp only [h7, ↓reduceDIte]
  simp only [h7, ↓reduceDIte]
  by_cases h8 : C.val - 3072 - 256 - 256 - 512 - 512 - 512 - 512 - 128 < 128
  · simp only [h8, ↓reduceDIte]
  simp only [h8, ↓reduceDIte]
  by_cases h9 : C.val - 3072 - 256 - 256 - 512 - 512 - 512 - 512 - 128 - 128 < 32
  · simp only [h9, ↓reduceDIte]
  simp only [h9, ↓reduceDIte]
  exact dot_zero _

end Cert.Math

end
-- ==== Proof.Inproj.Weight.lean ====
module

public import proofs.«01_k».proof.Proof.Gen.InprojIdeal.Frame
public import proofs.«01_k».proof.Proof.Math.Pack
public import Idealize.ShloMosaic.Lib.Pipeline.ValueKit

@[expose] public section

set_option maxRecDepth 16384

/-! # The input projection's weight

The weight operand that the host packs, read column by column. -/

noncomputable section

namespace Cert.InprojIdeal.Weight

open Cert.InprojIdeal Cert.InprojIdeal.Gen Idealize.ShloMosaic Idealize.ShloMosaic.TcCoe Idealize.SL.Sem

/-- The packed weight: the column groups in the kernel's order, zero columns after them. -/
def packed (w : FVec Ideal S1024x5920 .f32) : FVec Ideal S1024x6144 .bf16 :=
  truncf (F := Ideal) .bf16 (pad S1024x6144 ![0, 0] ![0, 224] ![0, 0] (concatenate S1024x5920 1
    [⟨S1024x3072, extractStridedSlice S1024x3072 ![0, 2848] w slices_S1024x5920_S1024x3072_0_2848⟩,
     ⟨S1024x256, extractStridedSlice S1024x256 ![0, 0] w slices_S1024x5920_S1024x256_0_0⟩,
     ⟨S1024x256, extractStridedSlice S1024x256 ![0, 256] w slices_S1024x5920_S1024x256_0_256⟩,
     ⟨S1024x512, extractStridedSlice S1024x512 ![0, 512] w slices_S1024x5920_S1024x512_0_512⟩,
     ⟨S1024x512, extractStridedSlice S1024x512 ![0, 1024] w slices_S1024x5920_S1024x512_0_1024⟩,
     ⟨S1024x512, extractStridedSlice S1024x512 ![0, 1568] w slices_S1024x5920_S1024x512_0_1568⟩,
     ⟨S1024x512, extractStridedSlice S1024x512 ![0, 2336] w slices_S1024x5920_S1024x512_0_2336⟩,
     ⟨S1024x128, extractStridedSlice S1024x128 ![0, 2080] w slices_S1024x5920_S1024x128_0_2080⟩,
     ⟨S1024x128, extractStridedSlice S1024x128 ![0, 2208] w slices_S1024x5920_S1024x128_0_2208⟩,
     ⟨S1024x32, extractStridedSlice S1024x32 ![0, 1536] w slices_S1024x5920_S1024x32_0_1536⟩]
    concatenates_S1024x3072_S1024x256_S1024x256_S1024x512_S1024x512_S1024x512_S1024x512_S1024x128_S1024x128_S1024x32_S1024x5920_d1)
    (sitofp (F := Ideal) .f32 (constantI S_ 32 0#32)) pads_S1024x5920_S1024x6144_000_02240 h_S_) bitsLt_bf16_f32

variable (m : (ℓ : Loc nD τ sig) → Buf (Elt Ideal) ℓ) (c : Dev nD)

theorem after_append (l₁ l₂ : List (HloOp τ sig (Elt Ideal))) (σ) :
    StableHlo.after (l₁ ++ l₂) σ = StableHlo.after l₂ (StableHlo.after l₁ σ) := by
  induction l₁ generalizing σ with
  | nil => rfl
  | cons a l ih => exact ih _

/-- The fourth operand of the call is the packed weight. -/
theorem entry : V m c main_v13 = packed (m ((c : Thread nD τ).loc main_arg3)) := by
  unfold V
  simp only [List.flatten_cons, List.flatten_nil, List.append_nil, after_append]
  rfl

/-- The third operand is the norm's weight, reshaped. -/
theorem entry2 : V m c main_v0 = (shapeCast S1x1024 (m ((c : Thread nD τ).loc main_arg2) : FVec Ideal S1024 .f32) shapeCasts_S1024_S1x1024 : FVec Ideal S1x1024 .f32) := by
  unfold V
  simp only [List.flatten_cons, List.flatten_nil, List.append_nil, after_append]
  rfl

set_option maxHeartbeats 2000000 in
/-- The packed weight, entry by entry. -/
theorem packed_apply (w : FVec Ideal S1024x5920 .f32) (j : Fin 1024) (C : Fin 6144) :
    packed w (ix2 j C) = Cert.Math.pack (fun D => w (ix2 j D)) C := by
  have hz : FloatOps.sitofp (F := Ideal) FTy.f32 (0#32) = 0 := by simp [FloatOps.sitofp]
  pointwise [packed]
  rw [hz]
  unfold Cert.Math.pack
  by_cases h : C.val < 5920
  · rw [dif_pos h]
    by_cases h0 : C.val < 3072
    · rw [dif_pos h0, dif_pos h0]
    rw [dif_neg h0, dif_neg h0]
    by_cases h1 : C.val - 3072 < 256
    · rw [dif_pos h1, dif_pos h1]
    rw [dif_neg h1, dif_neg h1]
    by_cases h2 : C.val - 3072 - 256 < 256
    · rw [dif_pos h2, dif_pos h2]
    rw [dif_neg h2, dif_neg h2]
    by_cases h3 : C.val - 3072 - 256 - 256 < 512
    · rw [dif_pos h3, dif_pos h3]
    rw [dif_neg h3, dif_neg h3]
    by_cases h4 : C.val - 3072 - 256 - 256 - 512 < 512
    · rw [dif_pos h4, dif_pos h4]
    rw [dif_neg h4, dif_neg h4]
    by_cases h5 : C.val - 3072 - 256 - 256 - 512 - 512 < 512
    · rw [dif_pos h5, dif_pos h5]
    rw [dif_neg h5, dif_neg h5]
    by_cases h6 : C.val - 3072 - 256 - 256 - 512 - 512 - 512 < 512
    · rw [dif_pos h6, dif_pos h6]
    rw [dif_neg h6, dif_neg h6]
    by_cases h7 : C.val - 3072 - 256 - 256 - 512 - 512 - 512 - 512 < 128
    · rw [dif_pos h7, dif_pos h7]
    rw [dif_neg h7, dif_neg h7]
    by_cases h8 : C.val - 3072 - 256 - 256 - 512 - 512 - 512 - 512 - 128 < 128
    · rw [dif_pos h8, dif_pos h8]
    rw [dif_neg h8, dif_neg h8]
    rw [dif_pos (by omega)]
  · rw [dif_neg h, dif_neg (by omega), dif_neg (by omega), dif_neg (by omega), dif_neg (by omega), dif_neg (by omega), dif_neg (by omega), dif_neg (by omega), dif_neg (by omega), dif_neg (by omega), dif_neg (by omega)]

theorem read (t : Fin cfg0.N) (j : Fin 1024) (C : Fin 6144) :
    iblk m c 3 t (ix2 j C) = Cert.Math.pack (fun D => m ((c : Thread nD τ).loc main_arg3) (ix2 j D)) C := by
  have idx : ∀ t : Fin cfg0.N, win0_3.index t = ![0, 0] := (by decide +kernel : ∀ t : Fin grid0.N, _)
  blk_simp [iblk, idx t]
  rw [entry]
  have e : (((View.whole main_v13).slice (win0_3.rect t)).emb (ix2 j C)) = ix2 j C := by blk_ext [idx t]
  rw [e]
  exact packed_apply _ j C

end Cert.InprojIdeal.Weight

end
-- ==== Proof.Inproj.Ref.lean ====
module

public import proofs.«01_k».proof.Proof.Gen.InprojRefIdeal.Read
public import proofs.«01_k».proof.Proof.Math.Pack
public import Idealize.ShloMosaic.Lib.Pointwise

@[expose] public section

set_option maxRecDepth 16384

noncomputable section

namespace Cert.InprojRefIdeal.Rows

open Cert.InprojRefIdeal Cert.InprojRefIdeal.Gen Cert.InprojRefIdeal.Read Idealize.ShloMosaic Idealize.ShloMosaic.TcCoe Idealize.SL.Sem

variable (x0 : (⟨S12288x1024, .f32⟩ : BufTy).Contents (Elt Ideal)) (x1 : (⟨S8x6x1024, .f32⟩ : BufTy).Contents (Elt Ideal))
  (x2 : (⟨S1024, .f32⟩ : BufTy).Contents (Elt Ideal)) (x3 : (⟨S1024x5920, .f32⟩ : BufTy).Contents (Elt Ideal)) (r : Fin 12288)

/-- The scale of a token's row. -/
theorem scale_apply (k : Fin 1024) : val_main_v21 (F := Ideal) x1 (ix2 r k) = x1 (ix3 (Cert.Math.seq r) 1 k) := by
  by_cases h : r.val < 4096
  · rw [Cert.Math.seq, dif_pos h]
    pointwise [val_main_v21, val_main_v20, val_main_v19, val_main_v18, val_main_v17, val_main_v16, val_main_v15, val_main_v14, val_main_v13]
    rw [dif_pos h]
  · rw [Cert.Math.seq, dif_neg h]
    pointwise [val_main_v21, val_main_v20, val_main_v19, val_main_v18, val_main_v17, val_main_v16, val_main_v15, val_main_v14, val_main_v13]
    rw [dif_neg h]

/-- Its shift. -/
theorem shift_apply (k : Fin 1024) : val_main_v33 (F := Ideal) x1 (ix2 r k) = x1 (ix3 (Cert.Math.seq r) 0 k) := by
  by_cases h : r.val < 4096
  · rw [Cert.Math.seq, dif_pos h]
    pointwise [val_main_v33, val_main_v32, val_main_v31, val_main_v30, val_main_v29, val_main_v28, val_main_v27, val_main_v26, val_main_v25]
    rw [dif_pos h]
  · rw [Cert.Math.seq, dif_neg h]
    pointwise [val_main_v33, val_main_v32, val_main_v31, val_main_v30, val_main_v29, val_main_v28, val_main_v27, val_main_v26, val_main_v25]
    rw [dif_neg h]

/-- The modulated row of a token. -/
def hrow : Fin 1024 → EReal :=
  Cert.Math.modulated (fun j => x0 (ix2 r j)) (fun j => x2 (ix1 j)) (fun j => x1 (ix3 (Cert.Math.seq r) 1 j))
    (fun j => x1 (ix3 (Cert.Math.seq r) 0 j))

theorem h_apply (k : Fin 1024) : val_main_v34 (F := Ideal) x0 x1 x2 (ix2 r k) = hrow x0 x1 x2 r k := by
  rw [hrow, ← funext (scale_apply x1 r), ← funext (shift_apply x1 r)]
  pointwise [val_main_v34, val_main_v24, val_main_v23, val_main_v22, val_main_cst_2, val_main_v12, val_main_v11, val_main_v10,
    val_main_v9, val_main_v8, val_main_v7, val_main_v6, val_main_v5, val_main_cst_1, val_main_v4, val_main_v3,
    val_main_cst_0, val_main_v2, val_main_v1, val_main_v0, val_main_cst, Cert.Math.modulated, Cert.Math.rms]

theorem proj_apply (D : Fin 5920) : val_main_v35 (F := Ideal) x0 x1 x2 x3 (ix2 r D) =
    Cert.Math.dot (hrow x0 x1 x2 r) (fun j => x3 (ix2 j D)) := by
  rw [← funext (h_apply x0 x1 x2 r)]
  pointwise [val_main_v35, Cert.Math.dot]

set_option maxHeartbeats 2000000 in
/-- An entry of the result. -/
theorem p_apply (C : Fin 6144) : val_main_v47 (F := Ideal) x0 x1 x2 x3 (ix2 r C) =
    Cert.Math.pack (fun D => Cert.Math.dot (hrow x0 x1 x2 r) (fun j => x3 (ix2 j D))) C := by
  rw [← funext (proj_apply x0 x1 x2 x3 r)]
  pointwise [val_main_v47, val_main_v46, val_main_cst_3, val_main_v45, val_main_v44, val_main_v43, val_main_v42, val_main_v41,
    val_main_v40, val_main_v39, val_main_v38, val_main_v37, val_main_v36]
  rfl

end Cert.InprojRefIdeal.Rows

end
-- ==== Proof.Inproj.Final.lean ====
module

public import proofs.«01_k».proof.Proof.Inproj.Block
public import proofs.«01_k».proof.Proof.Inproj.Weight
public import proofs.«01_k».proof.Proof.Inproj.Ref
public import Idealize.ShloMosaic.Lib.Claim

@[expose] public section

set_option maxRecDepth 16384

/-! # The input projection's array

The blocks read off the arguments, and the output array as the reference's result. -/

noncomputable section

namespace Cert.InprojIdeal.Final

open Cert.InprojIdeal Cert.InprojIdeal.Gen Idealize.ShloMosaic Idealize.ShloMosaic.TcCoe Idealize.SL.Sem
open Idealize.ShloMosaic.Pipeline (Dat)

variable (m : (ℓ : Loc nD τ sig) → Buf (Elt Ideal) ℓ)

/-- The reference's result of the argument arrays of device `c`. -/
abbrev out (c : Dev nD) : FVec Ideal S12288x6144 .f32 :=
  InprojRefIdeal.Read.val_main_v47 (F := Ideal) (m ((c : Thread nD τ).loc main_arg0)) (m ((c : Thread nD τ).loc main_arg1))
    (m ((c : Thread nD τ).loc main_arg2)) (m ((c : Thread nD τ).loc main_arg3))

theorem idx : ∀ t : Fin cfg0.N, win0_0.index t = ![t.val, 0]
    ∧ win0_1.index t = ![if t.val < 16 then 0 else 1 + (t.val - 16) / 8, 0, 0]
    ∧ win0_2.index t = ![0, 0] ∧ win0_4.index t = ![t.val, 0] :=
  (by decide +kernel : ∀ t : Fin grid0.N, _)

variable (c : Dev nD) (t : Fin cfg0.N) (r : Fin 256) (R : Fin 12288) (hR : R.val = t.val * 256 + r.val)
include hR

theorem x_read (k : Fin 1024) : iblk m c 0 t (ix2 r k) = m ((c : Thread nD τ).loc main_arg0) (ix2 R k) := by
  blk_simp [iblk, idx t]
  rw [V_main_arg0]
  congr 1
  blk_ext [idx t]

theorem mod_read (i : Fin 6) (k : Fin 1024) :
    iblk m c 1 t (ix3 0 i k) = m ((c : Thread nD τ).loc main_arg1) (ix3 (Cert.Math.seq R) i k) := by
  have hs : (Cert.Math.seq R).val = if t.val < 16 then 0 else 1 + (t.val - 16) / 8 := by
    unfold Cert.Math.seq
    split_ifs <;> simp <;> omega
  blk_simp [iblk, idx t]
  rw [V_main_arg1]
  congr 1
  blk_ext [idx t]

omit hR in
theorem g_read (k : Fin 1024) : iblk m c 2 t (ix2 0 k) = m ((c : Thread nD τ).loc main_arg2) (ix1 k) := by
  blk_simp [iblk, idx t]
  rw [Weight.entry2]
  pointwise []
  congr 1
  blk_ext [idx t]

theorem row : Block.hrow (iblk m c 0 t) (iblk m c 1 t) (iblk m c 2 t) r =
    InprojRefIdeal.Rows.hrow (m ((c : Thread nD τ).loc main_arg0)) (m ((c : Thread nD τ).loc main_arg1))
      (m ((c : Thread nD τ).loc main_arg2)) R := by
  unfold Block.hrow InprojRefIdeal.Rows.hrow
  rw [funext (x_read m c t r R hR), funext (mod_read m c t r R hR 1), funext (mod_read m c t r R hR 0), funext (g_read m c t)]

omit hR in
/-- What a point leaves in the output block. -/
theorem point (y : S256x6144.Idx) (z : S12288x6144.Idx) (h0 : (z 0).val = t.val * 256 + (y 0).val)
    (h1 : (z 1).val = (y 1).val) :
    out0_4 (iblk m c 0 t) (iblk m c 1 t) (iblk m c 2 t) (iblk m c 3 t) y = out m c z := by
  have hz : z = ix2 (⟨(z 0).val, (z 0).isLt⟩ : Fin 12288) (⟨(y 1).val, (y 1).isLt⟩ : Fin 6144) := by
    funext a; fin_cases a
    · rfl
    · exact Fin.ext h1
  rw [hz]
  refine (Block.block_apply _ _ _ _ y).trans ?_
  refine Eq.trans ?_ (InprojRefIdeal.Rows.p_apply _ _ _ _ _ _).symm
  rw [← Cert.Math.dot_pack]
  exact congrArg₂ _ (row m c t _ _ h0) (funext fun j => Weight.read m c t j _)

omit hR in
/-- The output array after the run is the reference's result. -/
theorem final : (dats m 0 c).arrAt 4 (cfgs 0).N = out m c := by
  refine (dats m 0 c).arrAt_eq_of_covers 4 _ (by decide +kernel) fun t _ y => ?_
  blk_simp
  rw [after0_4]
  exact point m c t y _ (by blk_simp [idx t]) (by blk_simp [idx t])

end Cert.InprojIdeal.Final

end
-- ==== Proof.Inproj.Claims.lean ====
module

public import proofs.«01_k».proof.Defs
public import proofs.«01_k».proof.Proof.Gen.Inproj.Frame
public import proofs.«01_k».proof.Proof.Gen.InprojIdeal.Value
public import proofs.«01_k».proof.Proof.Gen.InprojRefIdeal.Run
public import proofs.«01_k».proof.Proof.Inproj.Final

@[expose] public section

set_option maxRecDepth 16384

/-! # The claims about the input projection -/

noncomputable section

namespace Cert.Inproj.Claims

open Idealize.ShloMosaic Idealize.ShloMosaic.TcCoe Idealize.SL.Sem

theorem frame : Cert.quiescent_Inproj := fun m ρ _ => Cert.Inproj.Gen.frame m ρ

theorem frame_ideal : Cert.quiescent_InprojIdeal := fun m ρ _ => Cert.InprojIdeal.Gen.frame m ρ

/-- The reference has no semaphore. -/
theorem no_sem : SemLoc Cert.InprojRefIdeal.sig → False := by
  rintro (s | s) <;> exact s.elim0

theorem frame_ref : Cert.quiescent_InprojRefIdeal := fun m ρ _ => by
  run_from Cert.InprojRefIdeal.Value.run m ρ
  · exact fun _ => ⟨trivial, trivial, trivial, trivial⟩
  · exact funext fun x => (no_sem x.2).elim

/-- The kernel's and the reference's results are equal. -/
theorem algebraic : Cert.algebraic_InprojIdeal_InprojRefIdeal := by
  pair_intro
  · run_from Cert.InprojIdeal.Gen.run_main m g
    · exact Cert.InprojIdeal.Gen.V_main_arg2 m c
    · exact Cert.InprojIdeal.Gen.V_main_arg3 m c
  · run_from Cert.InprojRefIdeal.Value.run m' g'
    rw [InprojIdeal.Final.final m c, InprojRefIdeal.Read.val_main_v47_eq]
    simp only [hagree c]

end Cert.Inproj.Claims

end
-- ==== Proof.AttnLat.Head.lean ====
module

public import proofs.«01_k».proof.Proof.Gen.AttnLatIdeal.Frame
public import Idealize.ShloMosaic.Lib.Pipeline.ValueKit
public import Idealize.ShloMosaic.Lib.Pointwise

@[expose] public section

set_option maxRecDepth 16384

noncomputable section

namespace Cert.AttnLatIdeal.Head

open Cert.AttnLatIdeal Cert.AttnLatIdeal.Gen Idealize.ShloMosaic Idealize.ShloMosaic.TcCoe Idealize.SL.Sem

variable {F : FTy → Type} [FloatOps F]

/-- One head's 64 columns: the scores against the cached and the new keys, the maximum of both,
    the two weighted sums over the values, the two sums of the weights, and the quotient. -/
def head (kc : FVec F S512x64 .bf16) (kn : FVec F S2048x64 .bf16) (vc : FVec F S512x64 .bf16)
    (vn : FVec F S2048x64 .bf16) (q : Vec F S256x64 .bf16) : FVec F S256x64 .bf16 :=
  k0_pay7 kc kn vc vn q

variable (x0 : Vec F S256x512 .bf16) (x1 : Vec F S1x512x128 .f32) (x2 : Vec F S2048x128 .bf16)
  (x3 : Vec F S1x512x128 .f32) (x4 : Vec F S2048x128 .f32)

/-- The eight stores are the same head, of the eight slices of the queries and the two key heads. -/
theorem out_eq : out0_5 x0 x1 x2 x3 x4 =
    View.canon
      [⟨r0_11, head (k0_pay2 (View.ld x1 r0_6)) (k0_pay3 (View.ld x2 r0_7)) (k0_pay4 (View.ld x3 r0_6)) (k0_pay5 (View.ld x4 r0_7)) (View.ld x0 r0_11)⟩,
       ⟨r0_10, head (k0_pay2 (View.ld x1 r0_6)) (k0_pay3 (View.ld x2 r0_7)) (k0_pay4 (View.ld x3 r0_6)) (k0_pay5 (View.ld x4 r0_7)) (View.ld x0 r0_10)⟩,
       ⟨r0_9, head (k0_pay2 (View.ld x1 r0_6)) (k0_pay3 (View.ld x2 r0_7)) (k0_pay4 (View.ld x3 r0_6)) (k0_pay5 (View.ld x4 r0_7)) (View.ld x0 r0_9)⟩,
       ⟨r0_8, head (k0_pay2 (View.ld x1 r0_6)) (k0_pay3 (View.ld x2 r0_7)) (k0_pay4 (View.ld x3 r0_6)) (k0_pay5 (View.ld x4 r0_7)) (View.ld x0 r0_8)⟩,
       ⟨r0_5, head (k0_pay2 (View.ld x1 r0_0)) (k0_pay3 (View.ld x2 r0_1)) (k0_pay4 (View.ld x3 r0_0)) (k0_pay5 (View.ld x4 r0_1)) (View.ld x0 r0_5)⟩,
       ⟨r0_4, head (k0_pay2 (View.ld x1 r0_0)) (k0_pay3 (View.ld x2 r0_1)) (k0_pay4 (View.ld x3 r0_0)) (k0_pay5 (View.ld x4 r0_1)) (View.ld x0 r0_4)⟩,
       ⟨r0_3, head (k0_pay2 (View.ld x1 r0_0)) (k0_pay3 (View.ld x2 r0_1)) (k0_pay4 (View.ld x3 r0_0)) (k0_pay5 (View.ld x4 r0_1)) (View.ld x0 r0_3)⟩,
       ⟨r0_2, head (k0_pay2 (View.ld x1 r0_0)) (k0_pay3 (View.ld x2 r0_1)) (k0_pay4 (View.ld x3 r0_0)) (k0_pay5 (View.ld x4 r0_1)) (View.ld x0 r0_2)⟩] := rfl

variable (kc : FVec Ideal S512x64 .bf16) (kn : FVec Ideal S2048x64 .bf16) (vc : FVec Ideal S512x64 .bf16)
    (vn : FVec Ideal S2048x64 .bf16) (q : Vec Ideal S256x64 .bf16)

/-- A head's element, from the scores and the values of its row. -/
theorem head_apply (y : S256x64.Idx) : head kc kn vc vn q y =
    Ideal.div
      (∑ i, Ideal.exp (∑ d, q (ix2 (y 0) d) * kc (ix2 i d) -
          max (Finset.fold max (Ideal.ofBits .f32 0xFF800000#32) (fun j => ∑ d, q (ix2 (y 0) d) * kc (ix2 j d)) Finset.univ)
            (Finset.fold max (Ideal.ofBits .f32 0xFF800000#32) (fun j => ∑ d, q (ix2 (y 0) d) * kn (ix2 j d)) Finset.univ)) *
            vc (ix2 i (y 1)) +
        ∑ i, Ideal.exp (∑ d, q (ix2 (y 0) d) * kn (ix2 i d) -
          max (Finset.fold max (Ideal.ofBits .f32 0xFF800000#32) (fun j => ∑ d, q (ix2 (y 0) d) * kc (ix2 j d)) Finset.univ)
            (Finset.fold max (Ideal.ofBits .f32 0xFF800000#32) (fun j => ∑ d, q (ix2 (y 0) d) * kn (ix2 j d)) Finset.univ)) *
            vn (ix2 i (y 1)))
      (∑ i, Ideal.exp (∑ d, q (ix2 (y 0) d) * kc (ix2 i d) -
          max (Finset.fold max (Ideal.ofBits .f32 0xFF800000#32) (fun j => ∑ d, q (ix2 (y 0) d) * kc (ix2 j d)) Finset.univ)
            (Finset.fold max (Ideal.ofBits .f32 0xFF800000#32) (fun j => ∑ d, q (ix2 (y 0) d) * kn (ix2 j d)) Finset.univ)) +
        ∑ i, Ideal.exp (∑ d, q (ix2 (y 0) d) * kn (ix2 i d) -
          max (Finset.fold max (Ideal.ofBits .f32 0xFF800000#32) (fun j => ∑ d, q (ix2 (y 0) d) * kc (ix2 j d)) Finset.univ)
            (Finset.fold max (Ideal.ofBits .f32 0xFF800000#32) (fun j => ∑ d, q (ix2 (y 0) d) * kn (ix2 j d)) Finset.univ))) := by
  pointwise [head, k0_pay7]

end Cert.AttnLatIdeal.Head

end
-- ==== Proof.AttnLat.Blk.lean ====
module

public import proofs.«01_k».proof.Proof.AttnLat.Head
public import proofs.«01_k».proof.Proof.Math.Softmax
public import Idealize.ShloMosaic.Lib.Claim

@[expose] public section

set_option maxRecDepth 16384

noncomputable section

namespace Cert.AttnLatIdeal.Blk

open Cert.AttnLatIdeal Cert.AttnLatIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val / 8, 0, 0]
    ∧ win0_2.index t = ![t.val / 8, 0] ∧ win0_3.index t = ![t.val / 8, 0, 0] ∧ win0_4.index t = ![2 + t.val / 8, 45]
    ∧ win0_5.index t = ![t.val, 0] :=
  (by decide +kernel : ∀ t : Fin grid0.N, _)

variable (c : Dev nD) (t : Fin cfg0.N) (b : Fin 4) (hb : b.val = t.val / 8)
include hb

/-- The cached keys of the two key heads. -/
theorem kc0 (i : Fin 512) (d : Fin 64) :
    k0_pay2 (View.ld (iblk m c 1 t) r0_0) (ix2 i d) = m ((c : Thread nD τ).loc main_arg3) (ix4 b i 0 d) := by
  pointwise [k0_pay2]
  blk_point [iblk, V, idx t]
theorem kc1 (i : Fin 512) (d : Fin 64) :
    k0_pay2 (View.ld (iblk m c 1 t) r0_6) (ix2 i d) = m ((c : Thread nD τ).loc main_arg3) (ix4 b i 1 d) := by
  pointwise [k0_pay2]
  blk_point [iblk, V, idx t]

/-- The new keys. -/
theorem kn0 (i : Fin 2048) (d : Fin 64) :
    k0_pay3 (View.ld (iblk m c 2 t) r0_1) (ix2 i d) = m ((c : Thread nD τ).loc main_arg1) (ix4 b i 0 d) := by
  pointwise [k0_pay3]
  blk_point [iblk, V, idx t]
theorem kn1 (i : Fin 2048) (d : Fin 64) :
    k0_pay3 (View.ld (iblk m c 2 t) r0_7) (ix2 i d) = m ((c : Thread nD τ).loc main_arg1) (ix4 b i 1 d) := by
  pointwise [k0_pay3]
  blk_point [iblk, V, idx t]

/-- The cached values. -/
theorem vc0 (i : Fin 512) (d : Fin 64) :
    k0_pay4 (View.ld (iblk m c 3 t) r0_0) (ix2 i d) = m ((c : Thread nD τ).loc main_arg4) (ix4 b i 0 d) := by
  pointwise [k0_pay4]
  blk_point [iblk, V, idx t]
theorem vc1 (i : Fin 512) (d : Fin 64) :
    k0_pay4 (View.ld (iblk m c 3 t) r0_6) (ix2 i d) = m ((c : Thread nD τ).loc main_arg4) (ix4 b i 1 d) := by
  pointwise [k0_pay4]
  blk_point [iblk, V, idx t]

/-- The new values, out of the projection's columns. -/
theorem vn0 (i : Fin 2048) (d : Fin 64) :
    k0_pay5 (View.ld (iblk m c 4 t) r0_1) (ix2 i d) =
      m ((c : Thread nD τ).loc main_arg2) (ix2 ⟨4096 + (b.val * 2048 + i.val), by omega⟩ ⟨5760 + (0 * 64 + d.val), by omega⟩) := by
  pointwise [k0_pay5]
  blk_point [iblk, V, idx t]
theorem vn1 (i : Fin 2048) (d : Fin 64) :
    k0_pay5 (View.ld (iblk m c 4 t) r0_7) (ix2 i d) =
      m ((c : Thread nD τ).loc main_arg2) (ix2 ⟨4096 + (b.val * 2048 + i.val), by omega⟩ ⟨5760 + (1 * 64 + d.val), by omega⟩) := by
  pointwise [k0_pay5]
  blk_point [iblk, V, idx t]

/-- The queries, scaled. -/
theorem qs (x0 : FVec Ideal S4x2048x8x64 .f32) (hx : x0 = m ((c : Thread nD τ).loc main_arg0))
    (i : Fin 256) (h : Fin 8) (d : Fin 64) (q : Fin 2048) (hq : q.val = t.val % 8 * 256 + i.val)
    (j : S256x512.Idx) (hj0 : (j 0).val = i.val) (hj1 : (j 1).val = h.val * 64 + d.val) :
    iblk m c 0 t j = x0 (ix4 b q h d) * (((1 : ℝ) / 8 : ℝ) : EReal) := by
  subst hx
  rw [← Cert.Math.ofBits_eighth]
  blk_simp [iblk, idx t]
  entry_read
  pointwise []
  congr 1
  blk_ext [idx t]

end Cert.AttnLatIdeal.Blk

end
-- ==== Proof.AttnLat.Ref.lean ====
module

public import proofs.«01_k».proof.Proof.Gen.AttnLatRefIdeal.Read
public import proofs.«01_k».proof.Proof.Math.Softmax
public import Idealize.ShloMosaic.Lib.Pointwise

@[expose] public section

set_option maxRecDepth 16384

noncomputable section

namespace Cert.AttnLatRefIdeal.Rows

open Cert.AttnLatRefIdeal Cert.AttnLatRefIdeal.Gen Cert.AttnLatRefIdeal.Read Idealize.ShloMosaic Idealize.ShloMosaic.TcCoe Idealize.SL.Sem

variable (x0 : (⟨S4x2048x8x64, .f32⟩ : BufTy).Contents (Elt Ideal)) (x1 : (⟨S4x2048x2x64, .f32⟩ : BufTy).Contents (Elt Ideal))
  (x2 : (⟨S12288x6144, .f32⟩ : BufTy).Contents (Elt Ideal)) (x3 x4 : (⟨S4x512x2x64, .f32⟩ : BufTy).Contents (Elt Ideal))

/-- The row maximum, folded from −∞. -/
theorem max_apply (i : S4x2x4x2048.Idx) : val_main_v9 (F := Ideal) x0 x1 x3 i =
    Finset.fold max (Ideal.ofBits .f32 0xFF800000#32) (fun k => val_main_v8 x0 x1 x3 (ix5 (i 0) (i 1) (i 2) (i 3) k)) Finset.univ := by
  pointwise [val_main_v9, val_main_cst_0]

/-- The sum of a row's exponentials. -/
theorem sum_apply (i : S4x2x4x2048.Idx) : val_main_v16 (F := Ideal) x0 x1 x3 i =
    ∑ k, val_main_v15 x0 x1 x3 (ix5 (i 0) (i 1) (i 2) (i 3) k) := by
  pointwise [val_main_v16, val_main_cst_2]

/-- An exponential: the score less the row's maximum. -/
theorem exp_apply (i : S4x2x4x2048x2560.Idx) : val_main_v15 (F := Ideal) x0 x1 x3 i =
    Ideal.exp (val_main_v8 x0 x1 x3 i - max ⊥ (val_main_v9 x0 x1 x3 (ix4 (i 0) (i 1) (i 2) (i 3)))) := by
  have h : idx_main_v12 (idx_main_v13 i) = ix4 (i 0) (i 1) (i 2) (i 3) := by idx_ext
  rw [val_main_v15_apply, val_main_v14_apply, val_main_v13_apply, val_main_v12_apply, val_main_v11_apply,
    val_main_v10_apply, val_main_cst_1_apply, h, ← Cert.Math.ofBits_neg_inf]
  rfl

/-- A weight: the exponential over the row's sum. -/
theorem weight_apply (i : S4x2x4x2048x2560.Idx) : val_main_v19 (F := Ideal) x0 x1 x3 i =
    Ideal.div (val_main_v15 x0 x1 x3 i) (val_main_v16 x0 x1 x3 (ix4 (i 0) (i 1) (i 2) (i 3))) := by
  have h' : idx_main_v17 (idx_main_v18 i) = ix4 (i 0) (i 1) (i 2) (i 3) := by idx_ext
  rw [val_main_v19_apply, val_main_v18_apply, val_main_v17_apply, h']
  rfl

/-- The weighted sum of the values. -/
theorem pv_apply (i : S4x2x64x4x2048.Idx) : val_main_v20 (F := Ideal) x0 x1 x2 x3 x4 i =
    ∑ k, val_main_v3 x2 x4 (ix4 (i 0) k (i 1) (i 2)) * val_main_v19 x0 x1 x3 (ix5 (i 0) (i 1) (i 3) (i 4) k) := by
  pointwise [val_main_v20]

/-- A score against a cached key. -/
theorem score_cache (b : Fin 4) (g : Fin 2) (r : Fin 4) (q : Fin 2048) (k : Fin 512) :
    val_main_v8 (F := Ideal) x0 x1 x3 (ix5 b g r q (Fin.castAdd 2048 k)) =
      (∑ d, x3 (ix4 b k g d) * x0 (ix4 b q ⟨g.val * 4 + r.val, by omega⟩ d)) * (((1 : ℝ) / 8 : ℝ) : EReal) := by
  rw [← Cert.Math.ofBits_eighth]
  pointwise [val_main_v8, val_main_v7, val_main_cst, val_main_v6, val_main_v5, val_main_v4, val_main_v2]
  simp only [Fin.val_castAdd, k.isLt, dif_pos]

/-- A score against a new key. -/
theorem score_new (b : Fin 4) (g : Fin 2) (r : Fin 4) (q k : Fin 2048) :
    val_main_v8 (F := Ideal) x0 x1 x3 (ix5 b g r q (Fin.natAdd 512 k)) =
      (∑ d, x1 (ix4 b k g d) * x0 (ix4 b q ⟨g.val * 4 + r.val, by omega⟩ d)) * (((1 : ℝ) / 8 : ℝ) : EReal) := by
  rw [← Cert.Math.ofBits_eighth]
  pointwise [val_main_v8, val_main_v7, val_main_cst, val_main_v6, val_main_v5, val_main_v4, val_main_v2]
  simp only [Fin.val_natAdd, show ¬ (512 + k.val < 512) by omega, dif_neg, not_false_eq_true, Nat.add_sub_cancel_left]

/-- A cached value. -/
theorem value_cache (b : Fin 4) (g : Fin 2) (d : Fin 64) (k : Fin 512) :
    val_main_v3 (F := Ideal) x2 x4 (ix4 b (Fin.castAdd 2048 k) g d) = x4 (ix4 b k g d) := by
  pointwise [val_main_v3, val_main_v1, val_main_v0]
  simp only [Fin.val_castAdd, k.isLt, dif_pos]

/-- A new value, read out of the projection. -/
theorem value_new (b : Fin 4) (g : Fin 2) (d : Fin 64) (k : Fin 2048) :
    val_main_v3 (F := Ideal) x2 x4 (ix4 b (Fin.natAdd 512 k) g d) =
      x2 (ix2 ⟨4096 + (b.val * 2048 + k.val), by omega⟩ ⟨5760 + (g.val * 64 + d.val), by omega⟩) := by
  pointwise [val_main_v3, val_main_v1, val_main_v0]
  simp only [Fin.val_natAdd, show ¬ (512 + k.val < 512) by omega, dif_neg, not_false_eq_true, Nat.add_sub_cancel_left]

/-- One element of the reference, as the row of scores and the column of values give it. -/
theorem out_apply (y : S8192x512.Idx) (b : Fin 4) (g : Fin 2) (r : Fin 4) (q : Fin 2048) (d : Fin 64)
    (h0 : (y 0).val = b.val * 2048 + q.val) (h1 : (y 1).val = g.val * 256 + r.val * 64 + d.val) :
    val_main_v23 (F := Ideal) x0 x1 x2 x3 x4 y =
      ∑ k, val_main_v3 x2 x4 (ix4 b k g d) *
        Ideal.div (Ideal.exp (val_main_v8 x0 x1 x3 (ix5 b g r q k) -
            max ⊥ (Finset.fold max ⊥ (fun j => val_main_v8 x0 x1 x3 (ix5 b g r q j)) Finset.univ)))
          (∑ j, Ideal.exp (val_main_v8 x0 x1 x3 (ix5 b g r q j) -
            max ⊥ (Finset.fold max ⊥ (fun j => val_main_v8 x0 x1 x3 (ix5 b g r q j)) Finset.univ))) := by
  have e : val_main_v23 (F := Ideal) x0 x1 x2 x3 x4 y = val_main_v20 (F := Ideal) x0 x1 x2 x3 x4 (ix5 b g d r q) := by
    pointwise [val_main_v23, val_main_v22, val_main_v21]
    congr 1
    idx_ext
  rw [e, pv_apply]
  refine Finset.sum_congr rfl fun k _ => ?_
  rw [weight_apply, sum_apply]
  simp only [exp_apply, max_apply, Cert.Math.ofBits_neg_inf]
  rfl

end Cert.AttnLatRefIdeal.Rows

end
-- ==== Proof.AttnLat.Row.lean ====
module

public import proofs.«01_k».proof.Proof.AttnLat.Head
public import proofs.«01_k».proof.Proof.AttnLat.Ref

@[expose] public section

set_option maxRecDepth 16384

/-! # One element of one head

The kernel's element of a row and a column is the reference's, once the head's operands are read
off the arguments: the queries scaled by one eighth, the cached and the new keys, the two value
blocks. -/

noncomputable section

namespace Cert.AttnLat

open Idealize.ShloMosaic Cert.AttnLatIdeal.Head Cert.AttnLatRefIdeal.Read Cert.AttnLatRefIdeal.Rows

variable (x0 : (⟨AttnLatRefIdeal.S4x2048x8x64, .f32⟩ : BufTy).Contents (Elt Ideal))
  (x1 : (⟨AttnLatRefIdeal.S4x2048x2x64, .f32⟩ : BufTy).Contents (Elt Ideal))
  (x2 : (⟨AttnLatRefIdeal.S12288x6144, .f32⟩ : BufTy).Contents (Elt Ideal))
  (x3 x4 : (⟨AttnLatRefIdeal.S4x512x2x64, .f32⟩ : BufTy).Contents (Elt Ideal))
  (kc : FVec Ideal AttnLatIdeal.S512x64 .bf16) (kn : FVec Ideal AttnLatIdeal.S2048x64 .bf16)
  (vc : FVec Ideal AttnLatIdeal.S512x64 .bf16) (vn : FVec Ideal AttnLatIdeal.S2048x64 .bf16)
  (qh : Vec Ideal AttnLatIdeal.S256x64 .bf16)

/-- A scaled score: the scale taken out of the sum. -/
theorem scaled {n : ℕ} (q k : Fin n → EReal) :
    ∑ d, q d * (((1 : ℝ) / 8 : ℝ) : EReal) * k d = (∑ d, k d * q d) * (((1 : ℝ) / 8 : ℝ) : EReal) := by
  rw [Cert.Math.sum_mul_coe _ _ (by norm_num)]
  refine Finset.sum_congr rfl fun d _ => ?_
  rw [mul_right_comm, mul_comm (q d)]

theorem head_eq (h0 : ∀ i, ∃ r : ℝ, x0 i = r) (h1 : ∀ i, ∃ r : ℝ, x1 i = r) (h3 : ∀ i, ∃ r : ℝ, x3 i = r)
    (x : AttnLatIdeal.S256x64.Idx) (y : AttnLatRefIdeal.S8192x512.Idx)
    (b : Fin 4) (g : Fin 2) (r : Fin 4) (q : Fin 2048) (d : Fin 64)
    (hy0 : (y 0).val = b.val * 2048 + q.val) (hy1 : (y 1).val = g.val * 256 + r.val * 64 + d.val)
    (hx1 : (x 1).val = d.val)
    (hq : ∀ d, qh (ix2 (x 0) d) = x0 (ix4 b q ⟨g.val * 4 + r.val, by omega⟩ d) * (((1 : ℝ) / 8 : ℝ) : EReal))
    (hkc : ∀ i d, kc (ix2 i d) = x3 (ix4 b i g d)) (hkn : ∀ i d, kn (ix2 i d) = x1 (ix4 b i g d))
    (hvc : ∀ i d, vc (ix2 i d) = x4 (ix4 b i g d))
    (hvn : ∀ i (d : Fin 64), vn (ix2 i d) =
      x2 (ix2 ⟨4096 + (b.val * 2048 + i.val), by omega⟩ ⟨5760 + (g.val * 64 + d.val), by omega⟩)) :
    head kc kn vc vn qh x = val_main_v23 (F := Ideal) x0 x1 x2 x3 x4 y := by
  rw [head_apply, out_apply x0 x1 x2 x3 x4 y b g r q d hy0 hy1, Cert.Math.ofBits_neg_inf]
  have hd : x 1 = d := Fin.ext hx1
  have hscore : ∀ k, ∃ s : ℝ, val_main_v8 (F := Ideal) x0 x1 x3 (ix5 b g r q k) = s := by
    have hc : ∀ u : EReal, (∃ s : ℝ, u = s) → ∃ s : ℝ, u * (((1 : ℝ) / 8 : ℝ) : EReal) = s :=
      fun u ⟨s, hs⟩ => ⟨s * (1 / 8), by rw [hs, EReal.coe_mul]⟩
    intro k
    refine Fin.addCases (m := 512) (n := 2048) (fun k => ?_) (fun k => ?_) k
    · rw [score_cache]
      exact hc _ (Cert.Math.dot_finite _ _ (fun _ => h3 _) (fun _ => h0 _))
    · rw [score_new]
      exact hc _ (Cert.Math.dot_finite _ _ (fun _ => h1 _) (fun _ => h0 _))
  refine Cert.Math.two_sources 512 2048 _ _ _ _
    (fun k => val_main_v8 (F := Ideal) x0 x1 x3 (ix5 b g r q k)) (fun k => val_main_v3 (F := Ideal) x2 x4 (ix4 b k g d))
    hscore ?_ ?_ ?_ ?_
  · intro i
    simp only [hq, hkc]
    rw [scaled, score_cache]
  · intro i
    simp only [hq, hkn]
    rw [scaled, score_new]
  · intro i
    rw [hd, hvc, value_cache]
  · intro i
    rw [hd, hvn, value_new]

end Cert.AttnLat

end
-- ==== Proof.AttnLat.Final.lean ====
module

public import proofs.«01_k».proof.Proof.AttnLat.Blk
public import proofs.«01_k».proof.Proof.AttnLat.Row

@[expose] public section

set_option maxRecDepth 16384

noncomputable section

namespace Cert.AttnLatIdeal.Final

open Cert.AttnLatIdeal Cert.AttnLatIdeal.Gen Idealize.ShloMosaic Idealize.ShloMosaic.TcCoe Idealize.SL.Sem
open Idealize.ShloMosaic.Pipeline (Dat)
open Cert.AttnLatIdeal.Blk

variable (m : (ℓ : Loc nD τ sig) → Buf (Elt Ideal) ℓ)

/-- The reference's result of the argument arrays of device `c`. -/
abbrev out (c : Dev nD) : FVec Ideal S8192x512 .bf16 :=
  AttnLatRefIdeal.Read.val_main_v23 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The queries, the new keys and the cached keys of device `c` are finite. -/
def Finite (c : Dev nD) : Prop :=
  (∀ i : S4x2048x8x64.Idx, ∃ r : ℝ, m ((c : Thread nD τ).loc main_arg0) i = (r : EReal)) ∧
  (∀ i : S4x2048x2x64.Idx, ∃ r : ℝ, m ((c : Thread nD τ).loc main_arg1) i = (r : EReal)) ∧
  (∀ i : S4x512x2x64.Idx, ∃ r : ℝ, m ((c : Thread nD τ).loc main_arg3) i = (r : EReal))

variable (c : Dev nD) (hf : Finite m c) (t : Fin cfg0.N)
include hf

/-- What a point leaves in the output block. -/
theorem point (x : S256x512.Idx) (y : S8192x512.Idx)
    (hy0 : (y 0).val = t.val * 256 + (x 0).val) (hy1 : (y 1).val = (x 1).val) :
    out0_5 (iblk m c 0 t) (iblk m c 1 t) (iblk m c 2 t) (iblk m c 3 t) (iblk m c 4 t) x = out m c y := by
  have ht : t.val < 32 := t.isLt
  have hx0 : (x 0).val < 256 := (x 0).isLt
  obtain ⟨b, hb⟩ : ∃ b : Fin 4, b.val = t.val / 8 := ⟨⟨t.val / 8, by omega⟩, rfl⟩
  obtain ⟨q, hq⟩ : ∃ q : Fin 2048, q.val = t.val % 8 * 256 + (x 0).val := ⟨⟨t.val % 8 * 256 + (x 0).val, by omega⟩, rfl⟩
  rw [Head.out_eq]
  canon_tiles z h
  · exact Cert.AttnLat.head_eq _ _ _ _ _ _ _ _ _ _ hf.1 hf.2.1 hf.2.2 z y b 1 3 q ⟨(z 1).val, z1_lt⟩
      (by omega) (by show _ = 1 * 256 + 3 * 64 + (z 1).val; omega) rfl
      (fun d => qs m c t b hb _ rfl (z 0) 7 d q (by rw [hq, h0]) _ (by simp) (by simp))
      (kc1 m c t b hb) (kn1 m c t b hb) (vc1 m c t b hb) (vn1 m c t b hb)
  · exact Cert.AttnLat.head_eq _ _ _ _ _ _ _ _ _ _ hf.1 hf.2.1 hf.2.2 z y b 1 2 q ⟨(z 1).val, z1_lt⟩
      (by omega) (by show _ = 1 * 256 + 2 * 64 + (z 1).val; omega) rfl
      (fun d => qs m c t b hb _ rfl (z 0) 6 d q (by rw [hq, h0]) _ (by simp) (by simp))
      (kc1 m c t b hb) (kn1 m c t b hb) (vc1 m c t b hb) (vn1 m c t b hb)
  · exact Cert.AttnLat.head_eq _ _ _ _ _ _ _ _ _ _ hf.1 hf.2.1 hf.2.2 z y b 1 1 q ⟨(z 1).val, z1_lt⟩
      (by omega) (by show _ = 1 * 256 + 1 * 64 + (z 1).val; omega) rfl
      (fun d => qs m c t b hb _ rfl (z 0) 5 d q (by rw [hq, h0]) _ (by simp) (by simp))
      (kc1 m c t b hb) (kn1 m c t b hb) (vc1 m c t b hb) (vn1 m c t b hb)
  · exact Cert.AttnLat.head_eq _ _ _ _ _ _ _ _ _ _ hf.1 hf.2.1 hf.2.2 z y b 1 0 q ⟨(z 1).val, z1_lt⟩
      (by omega) (by show _ = 1 * 256 + 0 * 64 + (z 1).val; omega) rfl
      (fun d => qs m c t b hb _ rfl (z 0) 4 d q (by rw [hq, h0]) _ (by simp) (by simp))
      (kc1 m c t b hb) (kn1 m c t b hb) (vc1 m c t b hb) (vn1 m c t b hb)
  · exact Cert.AttnLat.head_eq _ _ _ _ _ _ _ _ _ _ hf.1 hf.2.1 hf.2.2 z y b 0 3 q ⟨(z 1).val, z1_lt⟩
      (by omega) (by show _ = 0 * 256 + 3 * 64 + (z 1).val; omega) rfl
      (fun d => qs m c t b hb _ rfl (z 0) 3 d q (by rw [hq, h0]) _ (by simp) (by simp))
      (kc0 m c t b hb) (kn0 m c t b hb) (vc0 m c t b hb) (vn0 m c t b hb)
  · exact Cert.AttnLat.head_eq _ _ _ _ _ _ _ _ _ _ hf.1 hf.2.1 hf.2.2 z y b 0 2 q ⟨(z 1).val, z1_lt⟩
      (by omega) (by show _ = 0 * 256 + 2 * 64 + (z 1).val; omega) rfl
      (fun d => qs m c t b hb _ rfl (z 0) 2 d q (by rw [hq, h0]) _ (by simp) (by simp))
      (kc0 m c t b hb) (kn0 m c t b hb) (vc0 m c t b hb) (vn0 m c t b hb)
  · exact Cert.AttnLat.head_eq _ _ _ _ _ _ _ _ _ _ hf.1 hf.2.1 hf.2.2 z y b 0 1 q ⟨(z 1).val, z1_lt⟩
      (by omega) (by show _ = 0 * 256 + 1 * 64 + (z 1).val; omega) rfl
      (fun d => qs m c t b hb _ rfl (z 0) 1 d q (by rw [hq, h0]) _ (by simp) (by simp))
      (kc0 m c t b hb) (kn0 m c t b hb) (vc0 m c t b hb) (vn0 m c t b hb)
  · exact Cert.AttnLat.head_eq _ _ _ _ _ _ _ _ _ _ hf.1 hf.2.1 hf.2.2 z y b 0 0 q ⟨(z 1).val, z1_lt⟩
      (by omega) (by show _ = 0 * 256 + 0 * 64 + (z 1).val; omega) rfl
      (fun d => qs m c t b hb _ rfl (z 0) 0 d q (by rw [hq, h0]) _ (by simp) (by simp))
      (kc0 m c t b hb) (kn0 m c t b hb) (vc0 m c t b hb) (vn0 m c t b hb)

/-- The output array after the run is the reference's result. -/
theorem final : (dats m 0 c).arrAt 5 (cfgs 0).N = out m c := by
  refine (dats m 0 c).arrAt_eq_of_covers 5 _ (by decide +kernel) fun t _ y => ?_
  blk_simp
  rw [after0_5]
  exact point m c hf t y _ (by blk_simp [idx t]) (by blk_simp [idx t])

end Cert.AttnLatIdeal.Final

end
-- ==== Proof.AttnLat.Pre.lean ====
module

public import proofs.«01_k».proof.Proof.Gen.Pre_finite_qk
public import proofs.«01_k».proof.Proof.Math.Softmax
public import Idealize.ShloMosaic.Lib.ReduceAll
public import Idealize.ShloMosaic.Lib.Affine

@[expose] public section

/-! # The precondition read

`jnp.abs(x) < jnp.inf` of every element says that every element is a real. -/

noncomputable section

namespace Cert.Pre_finite_qk.Reals

open Cert.Pre_finite_qk Idealize.ShloMosaic

instance : Subsingleton S_.Idx := ⟨fun a b => funext fun i => i.elim0⟩

/-- An element whose absolute value compares below +∞ is a real. -/
theorem real_of_cmp (x : EReal) (h : Ideal.cmp .olt (max x (-x)) (Ideal.ofBits .f32 0x7F800000#32) = 1#1) :
    ∃ r : ℝ, x = r := by
  rw [Cert.Math.ofBits_inf] at h
  apply Cert.Math.real_of_abs_lt
  by_contra hn
  simp [Ideal.cmp, hn] at h

variable [Facts] (x0 : FVec Ideal S4x2048x8x64 .f32) (x1 : FVec Ideal S4x2048x2x64 .f32) (x2 : FVec Ideal S12288x6144 .f32)
  (x3 x4 : FVec Ideal S4x512x2x64 .f32)

theorem finite (j : S_.Idx) (h : fn (F := Ideal) x0 x1 x2 x3 x4 j = 1#1) :
    (∀ i, ∃ r : ℝ, x0 i = (r : EReal)) ∧ (∀ i, ∃ r : ℝ, x1 i = (r : EReal)) ∧ (∀ i, ∃ r : ℝ, x3 i = (r : EReal)) := by
  dsimp only [fn] at h
  obtain ⟨h01, h3⟩ := IntOp.andi_eq_one.1 h
  obtain ⟨h0, h1⟩ := IntOp.andi_eq_one.1 h01
  exact ⟨fun i => real_of_cmp _ (Host.reduce_andi_all _ _ _ _ _ h0 i),
    fun i => real_of_cmp _ (Host.reduce_andi_all _ _ _ _ _ h1 i),
    fun i => real_of_cmp _ (Host.reduce_andi_all _ _ _ _ _ h3 i)⟩

end Cert.Pre_finite_qk.Reals

end
-- ==== Proof.AttnLat.Claims.lean ====
module

public import proofs.«01_k».proof.Defs
public import proofs.«01_k».proof.Proof.Gen.AttnLat.Frame
public import proofs.«01_k».proof.Proof.Gen.AttnLatIdeal.Value
public import proofs.«01_k».proof.Proof.Gen.AttnLatRefIdeal.Run
public import proofs.«01_k».proof.Proof.AttnLat.Final
public import proofs.«01_k».proof.Proof.AttnLat.Pre

@[expose] public section

set_option maxRecDepth 16384

/-! # The claims about the latent attention -/

noncomputable section

namespace Cert.AttnLat.Claims

open Idealize.ShloMosaic Idealize.ShloMosaic.TcCoe Idealize.SL.Sem

theorem frame : Cert.quiescent_AttnLat := fun m ρ _ => Cert.AttnLat.Gen.frame m ρ
theorem frame_ideal : Cert.quiescent_AttnLatIdeal := fun m ρ _ => Cert.AttnLatIdeal.Gen.frame m ρ
theorem frame_ideal_pre : Cert.quiescent_AttnLatIdeal_pre_finite_qk := fun m ρ _ => Cert.AttnLatIdeal.Gen.frame m ρ
theorem no_sem : SemLoc Cert.AttnLatRefIdeal.sig → False := by
  rintro (s | s) <;> exact s.elim0

theorem frame_ref : Cert.quiescent_AttnLatRefIdeal := fun m ρ _ => by
  run_from Cert.AttnLatRefIdeal.Value.run m ρ
  · exact fun _ => ⟨trivial, trivial, trivial, trivial, trivial⟩
  · exact funext fun x => (no_sem x.2).elim
theorem frame_ref_pre : Cert.quiescent_AttnLatRefIdeal_pre_finite_qk := fun m ρ _ => by
  run_from Cert.AttnLatRefIdeal.Value.run m ρ
  · exact fun _ => ⟨trivial, trivial, trivial, trivial, trivial⟩
  · exact funext fun x => (no_sem x.2).elim

/-- The idealized kernel and the reference leave equal results. -/
theorem algebraic : Cert.algebraic_AttnLatIdeal_AttnLatRefIdeal_pre_finite_qk := by
  pair_intro
  · run_from Cert.AttnLatIdeal.Gen.run_main m g
  · run_from Cert.AttnLatRefIdeal.Value.run m' g'
    have hf : AttnLatIdeal.Final.Finite m c :=
      Cert.Pre_finite_qk.Reals.finite _ _ _ _ _ (fun i => i.elim0) (congrFun (hpre c) _)
    rw [AttnLatIdeal.Final.final m c hf, AttnLatRefIdeal.Read.val_main_v23_eq]
    simp only [hagree c]

end Cert.AttnLat.Claims

end
-- ==== Proof.Math.Branches.lean ====
module

public import proofs.«01_k».proof.Proof.Math.Layer

@[expose] public section

/-! # The three branches of the token mixer and their merge, over the extended reals -/

noncomputable section

namespace Cert.Math

open Idealize.ShloMosaic

/-- The RMS norm of a head of 128, at one column. -/
def rmsHead (x g : Fin 128 → EReal) (k : Fin 128) : EReal :=
  x k * Ideal.rsqrt (Ideal.div (∑ j, x j * x j) (Ideal.ofBits .f32 0x43000000#32) + Ideal.ofBits .f32 0x358637BD#32) * g k

/-- A head of the linear attention: its norm under the SiLU of the output gate. -/
def glaHead (o g w : Fin 128 → EReal) (k : Fin 128) : EReal := rmsHead o w k * silu (g k)

/-- GELU by the hyperbolic tangent. -/
def gelu (y : EReal) : EReal :=
  y * (Ideal.ofBits .f32 0x3F000000#32 * (1 + Ideal.tanh (Ideal.ofBits .f32 0x3F4C422A#32 *
    (y + Ideal.ofBits .f32 0x3D372713#32 * (y * y * y)))))

/-- The gated linear unit after the state space branch. -/
def glu (z : Fin 512 → EReal) (w : Fin 512 → Fin 512 → EReal) (b : Fin 512 → EReal) (k : Fin 512) : EReal :=
  z k * Ideal.logistic (dot z (fun j => w j k) + b k)

/-- The sum of the three projected branches under their gates. -/
def mergeRow (s0 s1 s2 : Fin 1024 → EReal) (a b c : Fin 512 → EReal) (w : Fin 3 → Fin 512 → Fin 1024 → EReal)
    (n : Fin 1024) : EReal :=
  Ideal.logistic (s0 n) * dot a (fun j => w 0 j n) + Ideal.logistic (s1 n) * dot b (fun j => w 1 j n) +
    Ideal.logistic (s2 n) * dot c (fun j => w 2 j n)

/-- A column of 512 is one of four heads' 128. -/
theorem head_col (k : Fin 512) : ∃ (h : Fin 4) (d : Fin 128), k = ⟨h.val * 128 + d.val, by omega⟩ :=
  ⟨⟨k.val / 128, by omega⟩, ⟨k.val % 128, by omega⟩, Fin.ext (by show k.val = k.val / 128 * 128 + k.val % 128; omega)⟩

end Cert.Math

end
-- ==== Proof.Merge.Block.lean ====
module

public import proofs.«01_k».proof.Proof.Gen.MergeIdeal.Frame
public import proofs.«01_k».proof.Proof.Math.Branches
public import Idealize.ShloMosaic.Lib.Pipeline.ValueKit

@[expose] public section

set_option maxRecDepth 16384

/-! # The merge's block

What the body leaves in its output block, row by row, from the blocks it reads. -/

noncomputable section

namespace Cert.MergeIdeal.Block

open Cert.MergeIdeal Cert.MergeIdeal.Gen Idealize.ShloMosaic Idealize.ShloMosaic.TcCoe Idealize.SL.Sem

/-- The four heads side by side, each normed and gated. -/
theorem gla_apply (o0 o1 o2 o3 g0 g1 g2 g3 : Vec Ideal S256x128 .f32) (w : Vec Ideal S1x128 .f32) (r : Fin 256)
    (h : Fin 4) (d : Fin 128) :
    k0_pay8 (k0_pay2 o0 w g0) (k0_pay4 (k0_pay3 o1 w) g1) (k0_pay5 o2 w g2) o3 (k0_pay6 w) (k0_pay7 o3) g3
      (ix2 r ⟨h.val * 128 + d.val, by omega⟩) =
    Cert.Math.glaHead (fun j => (![o0, o1, o2, o3] h) (ix2 r j)) (fun j => (![g0, g1, g2, g3] h) (ix2 r j)) (fun j => w (ix2 0 j)) d := by
  fin_cases h
  · pointwise [k0_pay8, k0_pay2, Cert.Math.glaHead, Cert.Math.rmsHead, Cert.Math.silu, Ideal.logistic]
    simp [zero_sub]
  · pointwise [k0_pay8, k0_pay4, k0_pay3, Cert.Math.glaHead, Cert.Math.rmsHead, Cert.Math.silu, Ideal.logistic]
    simp [zero_sub]
  · pointwise [k0_pay8, k0_pay5, Cert.Math.glaHead, Cert.Math.rmsHead, Cert.Math.silu, Ideal.logistic]
    simp [zero_sub]
    have e : ∀ h, (⟨256 + d.val - 128 - 128, h⟩ : Fin 128) = d := fun _ => Fin.ext (by show 256 + d.val - 128 - 128 = d.val; omega)
    rw [dif_neg (by omega), dif_neg (by omega), dif_pos (by omega)]
    simp only [e]
  · pointwise [k0_pay8, k0_pay6, k0_pay7, Cert.Math.glaHead, Cert.Math.rmsHead, Cert.Math.silu, Ideal.logistic]
    simp [zero_sub]
    have e : ∀ h, (⟨384 + d.val - 128 - 128 - 128, h⟩ : Fin 128) = d := fun _ => Fin.ext (by show 384 + d.val - 128 - 128 - 128 = d.val; omega)
    rw [dif_neg (by omega), dif_neg (by omega), dif_neg (by omega)]
    simp only [e]

section Stages

variable (y : Vec Ideal S256x512 .f32) (sd : Vec Ideal S1x512 .f32) (u : Vec Ideal S256x512 .f32)

/-- The state space branch before the unit. -/
theorem z_apply (r : Fin 256) (k : Fin 512) : k0_pay10 y sd u (ix2 r k) * k0_pay11 y sd u (ix2 r k) =
    Cert.Math.gelu (y (ix2 r k) + sd (ix2 0 k) * u (ix2 r k)) := by
  pointwise [k0_pay10, k0_pay11, k0_pay9, Cert.Math.gelu]
  rw [mul_assoc, mul_left_comm]

/-- The unit. -/
theorem glu_apply (a b : FVec Ideal S256x512 .f32) (w : Vec Ideal S512x512 .bf16) (c : Vec Ideal S1x512 .f32) (r : Fin 256) (k : Fin 512) :
    k0_pay12 a b w c (ix2 r k) =
      Cert.Math.glu (fun j => a (ix2 r j) * b (ix2 r j)) (fun i j => w (ix2 i j)) (fun j => c (ix2 0 j)) k := by
  pointwise [k0_pay12, Cert.Math.glu, Cert.Math.dot, Ideal.logistic]
  rw [zero_sub]

/-- The first branch under its gate. -/
theorem first_apply (a : FVec Ideal S256x512 .bf16) (s : Vec Ideal S256x1024 .f32) (w : Vec Ideal S1x512x1024 .bf16) (r : Fin 256) (n : Fin 1024) :
    k0_pay13 a s w (ix2 r n) = Ideal.logistic (s (ix2 r n)) * Cert.Math.dot (fun j => a (ix2 r j)) (fun j => w (ix3 0 j n)) := by
  pointwise [k0_pay13, Cert.Math.dot, Ideal.logistic]
  rw [zero_sub]

/-- The second gate. -/
theorem gate_apply (s : Vec Ideal S256x1024 .f32) (r : Fin 256) (n : Fin 1024) :
    k0_pay14 s (ix2 r n) = Ideal.logistic (s (ix2 r n)) := by
  pointwise [k0_pay14, Ideal.logistic]
  rw [zero_sub]

/-- The product of the merged row with the last matrix. -/
theorem proj_apply (c : FVec Ideal S256x512 .bf16) (p q : FVec Ideal S256x1024 .f32) (b : Vec Ideal S256x512 .bf16)
    (w1 w2 : Vec Ideal S1x512x1024 .bf16) (s : Vec Ideal S256x1024 .f32) (wo : Vec Ideal S1024x1024 .bf16) (r : Fin 256) (n : Fin 1024) :
    k0_pay15 c p q b w1 s w2 wo (ix2 r n) =
      Cert.Math.dot (fun k => p (ix2 r k) + q (ix2 r k) * Cert.Math.dot (fun j => b (ix2 r j)) (fun j => w1 (ix3 0 j k)) +
        Ideal.logistic (s (ix2 r k)) * Cert.Math.dot (fun j => c (ix2 r j)) (fun j => w2 (ix3 0 j k))) (fun k => wo (ix2 k n)) := by
  pointwise [k0_pay15, Cert.Math.dot, Ideal.logistic]
  simp only [zero_sub]

theorem sq_apply (c : FVec Ideal S256x512 .bf16) (p q : FVec Ideal S256x1024 .f32) (b : Vec Ideal S256x512 .bf16)
    (w1 w2 : Vec Ideal S1x512x1024 .bf16) (s : Vec Ideal S256x1024 .f32) (wo : Vec Ideal S1024x1024 .bf16) (r : Fin 256) :
    k0_pay18 c p q b w1 s w2 wo (ix2 r 0) =
      ∑ j, k0_pay15 c p q b w1 s w2 wo (ix2 r j) * k0_pay15 c p q b w1 s w2 wo (ix2 r j) := by
  pointwise [k0_pay18]

/-- The residual with the gated norm. -/
theorem out_apply (x m : FVec Ideal S256x1024 .f32) (gate g : FVec Ideal S1x1024 .f32) (sq : FVec Ideal S256x1 .f32)
    (r : Fin 256) (hsq : sq (ix2 r 0) = ∑ j, m (ix2 r j) * m (ix2 r j)) (n : Fin 1024) :
    k0_pay1 m x gate g sq (k0_pay19 (F := Ideal)) (ix2 r n) =
      x (ix2 r n) + gate (ix2 0 n) * Cert.Math.rms (fun j => m (ix2 r j)) (fun j => g (ix2 0 j)) n := by
  pointwise [k0_pay1, k0_pay19, Cert.Math.rms]
  rw [hsq]

theorem gate_row (v : Vec Ideal S1x1x1024 .f32) (n : Fin 1024) : k0_pay16 v (ix2 0 n) = v (ix3 0 0 n) := by
  pointwise [k0_pay16]

theorem g_row (v : Vec Ideal S1x1024 .f32) (n : Fin 1024) : k0_pay17 v (ix2 0 n) = v (ix2 0 n) := by
  pointwise [k0_pay17]

end Stages

variable (x0 : Vec Ideal S256x1024 .f32) (x1 : Vec Ideal S1x6x1024 .f32) (x2 x3 x4 : Vec Ideal S256x1024 .f32)
  (x5 x6 : Vec Ideal S256x512 .f32) (x7 : Vec Ideal S256x512 .bf16) (x8 x9 : Vec Ideal S256x512 .f32) (x10 : Vec Ideal S1x128 .f32)
  (x11 : Vec Ideal S1x512 .f32) (x12 : Vec Ideal S512x512 .bf16) (x13 : Vec Ideal S1x512 .f32) (x14 : Vec Ideal S3x512x1024 .bf16)
  (x15 : Vec Ideal S1024x1024 .bf16) (x16 : Vec Ideal S1x1024 .f32)

/-- The linear attention's branch of a block's row. -/
def glaRow (r : Fin 256) (k : Fin 512) : EReal :=
  Cert.Math.glaHead (fun j => x6 (ix2 r ⟨k.val / 128 * 128 + j.val, by omega⟩)) (fun j => x5 (ix2 r ⟨k.val / 128 * 128 + j.val, by omega⟩))
    (fun j => x10 (ix2 0 j)) ⟨k.val % 128, by omega⟩

/-- The state space branch of a block's row. -/
def s5Row (r : Fin 256) : Fin 512 → EReal :=
  Cert.Math.glu (fun j => Cert.Math.gelu (x8 (ix2 r j) + x11 (ix2 0 j) * x9 (ix2 r j))) (fun i j => x12 (ix2 i j)) (fun j => x13 (ix2 0 j))

/-- The merged row, projected. -/
def projRow (r : Fin 256) (n : Fin 1024) : EReal :=
  Cert.Math.dot (Cert.Math.mergeRow (fun k => x2 (ix2 r k)) (fun k => x3 (ix2 r k)) (fun k => x4 (ix2 r k)) (glaRow x5 x6 x10 r)
    (fun j => x7 (ix2 r j)) (s5Row x8 x9 x11 x12 x13 r) (fun i j k => x14 (ix3 i j k))) (fun k => x15 (ix2 k n))

/-! The pieces of the operands that the body loads. -/

theorem ld_row (x : Vec Ideal S256x1024 .f32) (r : Fin 256) (k : Fin 1024) : View.ld x r0_8 (ix2 r k) = x (ix2 r k) := by
  pointwise []
theorem ld_half (x : Vec Ideal S256x512 .f32) (r : Fin 256) (k : Fin 512) : View.ld x r0_5 (ix2 r k) = x (ix2 r k) := by
  pointwise []
theorem ld_att (x : Vec Ideal S256x512 .bf16) (r : Fin 256) (k : Fin 512) : View.ld x r0_5 (ix2 r k) = x (ix2 r k) := by
  pointwise []
theorem ld_wide (x : Vec Ideal S1x512 .f32) (k : Fin 512) : View.ld x r0_6 (ix2 0 k) = x (ix2 0 k) := by
  pointwise []
theorem ld_glu (x : Vec Ideal S512x512 .bf16) (i k : Fin 512) : View.ld x r0_7 (ix2 i k) = x (ix2 i k) := by
  pointwise []
theorem ld_norm (x : Vec Ideal S1x128 .f32) (k : Fin 128) : View.ld x r0_1 (ix2 0 k) = x (ix2 0 k) := by
  pointwise []
theorem ld_g (x : Vec Ideal S1x1024 .f32) (k : Fin 1024) : View.ld x r0_14 (ix2 0 k) = x (ix2 0 k) := by
  pointwise []
theorem ld_out (x : Vec Ideal S1024x1024 .bf16) (i k : Fin 1024) : View.ld x r0_12 (ix2 i k) = x (ix2 i k) := by
  pointwise []
theorem ld_gate (k : Fin 1024) : View.ld x1 r0_13 (ix3 0 0 k) = x1 (ix3 0 2 k) := by
  pointwise []
theorem ld_w0 (j : Fin 512) (k : Fin 1024) : View.ld x14 r0_9 (ix3 0 j k) = x14 (ix3 0 j k) := by
  pointwise []
theorem ld_w1 (j : Fin 512) (k : Fin 1024) : View.ld x14 r0_10 (ix3 0 j k) = x14 (ix3 1 j k) := by
  pointwise []
theorem ld_w2 (j : Fin 512) (k : Fin 1024) : View.ld x14 r0_11 (ix3 0 j k) = x14 (ix3 2 j k) := by
  pointwise []
theorem ld_head (x : Vec Ideal S256x512 .f32) (r : Fin 256) (h : Fin 4) (d : Fin 128) :
    (![View.ld x r0_0, View.ld x r0_2, View.ld x r0_3, View.ld x r0_4] h : Vec Ideal S256x128 .f32) (ix2 r d) =
      x (ix2 r ⟨h.val * 128 + d.val, by omega⟩) := by
  fin_cases h <;> pointwise [] <;> rfl

theorem gla_row (r : Fin 256) (k : Fin 512) :
    k0_pay8 (k0_pay2 (View.ld x6 r0_0) (View.ld x10 r0_1) (View.ld x5 r0_0)) (k0_pay4 (k0_pay3 (View.ld x6 r0_2) (View.ld x10 r0_1)) (View.ld x5 r0_2)) (k0_pay5 (View.ld x6 r0_3) (View.ld x10 r0_1) (View.ld x5 r0_3)) (View.ld x6 r0_4) (k0_pay6 (View.ld x10 r0_1)) (k0_pay7 (View.ld x6 r0_4)) (View.ld x5 r0_4) (ix2 r k) =
      glaRow x5 x6 x10 r k := by
  obtain ⟨h, d, rfl⟩ := Cert.Math.head_col k
  rw [gla_apply, funext (ld_head x6 r h), funext (ld_head x5 r h), funext (ld_norm x10)]
  have e1 : (h.val * 128 + d.val) / 128 = h.val := by omega
  have e2 : (h.val * 128 + d.val) % 128 = d.val := by omega
  simp only [glaRow, e1, e2]

theorem s5_row (r : Fin 256) (k : Fin 512) : k0_pay20 x0 x1 x2 x3 x4 x5 x6 x7 x8 x9 x10 x11 x12 x13 x14 x15 x16 (ix2 r k) =
    s5Row x8 x9 x11 x12 x13 r k := by
  refine (glu_apply _ _ _ _ r k).trans ?_
  rw [funext fun j => z_apply _ _ _ r j, funext (ld_wide x13), funext fun i => funext (ld_glu x12 i)]
  unfold s5Row
  refine congrArg (fun f => Cert.Math.glu f _ _ k) (funext fun j => ?_)
  rw [ld_half, ld_half, ld_wide]

theorem first_row (r : Fin 256) (k : Fin 1024) : k0_pay21 x0 x1 x2 x3 x4 x5 x6 x7 x8 x9 x10 x11 x12 x13 x14 x15 x16 (ix2 r k) =
    Ideal.logistic (x2 (ix2 r k)) * Cert.Math.dot (glaRow x5 x6 x10 r) (fun j => x14 (ix3 0 j k)) := by
  refine (first_apply _ _ _ r k).trans ?_
  rw [funext (gla_row x5 x6 x10 r), ld_row, funext fun j => ld_w0 x14 j k]

theorem second_gate (r : Fin 256) (k : Fin 1024) : k0_pay22 x0 x1 x2 x3 x4 x5 x6 x7 x8 x9 x10 x11 x12 x13 x14 x15 x16 (ix2 r k) =
    Ideal.logistic (x3 (ix2 r k)) := by
  refine (gate_apply _ r k).trans ?_
  rw [ld_row]

theorem proj_row (r : Fin 256) (n : Fin 1024) :
    k0_pay15 (k0_pay20 x0 x1 x2 x3 x4 x5 x6 x7 x8 x9 x10 x11 x12 x13 x14 x15 x16) (k0_pay21 x0 x1 x2 x3 x4 x5 x6 x7 x8 x9 x10 x11 x12 x13 x14 x15 x16) (k0_pay22 x0 x1 x2 x3 x4 x5 x6 x7 x8 x9 x10 x11 x12 x13 x14 x15 x16) (View.ld x7 r0_5) (View.ld x14 r0_10) (View.ld x4 r0_8) (View.ld x14 r0_11) (View.ld x15 r0_12) (ix2 r n) =
      projRow x2 x3 x4 x5 x6 x7 x8 x9 x10 x11 x12 x13 x14 x15 r n := by
  refine (proj_apply _ _ _ _ _ _ _ _ r n).trans ?_
  rw [funext (s5_row x0 x1 x2 x3 x4 x5 x6 x7 x8 x9 x10 x11 x12 x13 x14 x15 x16 r), funext (ld_att x7 r), funext fun k => ld_out x15 k n]
  refine congrArg (fun f => Cert.Math.dot f _) (funext fun k => ?_)
  rw [first_row, second_gate, ld_row, funext fun j => ld_w1 x14 j k, funext fun j => ld_w2 x14 j k]
  rfl

/-- A row of the output block. -/
theorem block_apply (r : Fin 256) (n : Fin 1024) : out0_17 x0 x1 x2 x3 x4 x5 x6 x7 x8 x9 x10 x11 x12 x13 x14 x15 x16 (ix2 r n) =
    x0 (ix2 r n) + x1 (ix3 0 2 n) * Cert.Math.rms (projRow x2 x3 x4 x5 x6 x7 x8 x9 x10 x11 x12 x13 x14 x15 r) (fun j => x16 (ix2 0 j)) n := by
  have hc : out0_17 x0 x1 x2 x3 x4 x5 x6 x7 x8 x9 x10 x11 x12 x13 x14 x15 x16 (ix2 r n) = k0_pay1 (k0_pay15 (k0_pay20 x0 x1 x2 x3 x4 x5 x6 x7 x8 x9 x10 x11 x12 x13 x14 x15 x16) (k0_pay21 x0 x1 x2 x3 x4 x5 x6 x7 x8 x9 x10 x11 x12 x13 x14 x15 x16) (k0_pay22 x0 x1 x2 x3 x4 x5 x6 x7 x8 x9 x10 x11 x12 x13 x14 x15 x16) (View.ld x7 r0_5) (View.ld x14 r0_10) (View.ld x4 r0_8) (View.ld x14 r0_11) (View.ld x15 r0_12)) (View.ld x0 r0_8) (k0_pay16 (View.ld x1 r0_13)) (k0_pay17 (View.ld x16 r0_14)) (k0_pay18 (k0_pay20 x0 x1 x2 x3 x4 x5 x6 x7 x8 x9 x10 x11 x12 x13 x14 x15 x16) (k0_pay21 x0 x1 x2 x3 x4 x5 x6 x7 x8 x9 x10 x11 x12 x13 x14 x15 x16) (k0_pay22 x0 x1 x2 x3 x4 x5 x6 x7 x8 x9 x10 x11 x12 x13 x14 x15 x16) (View.ld x7 r0_5) (View.ld x14 r0_10) (View.ld x4 r0_8) (View.ld x14 r0_11) (View.ld x15 r0_12)) (k0_pay19 (F := Ideal)) (ix2 r n) := by
    unfold out0_17
    rw [View.canon_cons_unit_zero (by funext a; fin_cases a <;> rfl)]
  rw [hc, out_apply _ _ _ _ _ r (sq_apply _ _ _ _ _ _ _ _ r) n]
  rw [funext (proj_row x0 x1 x2 x3 x4 x5 x6 x7 x8 x9 x10 x11 x12 x13 x14 x15 x16 r), gate_row, funext (g_row _), ld_row, funext (ld_g x16), ld_gate]

end Cert.MergeIdeal.Block

end
-- ==== Proof.Merge.Ref.lean ====
module

public import proofs.«01_k».proof.Proof.Gen.MergeRefIdeal.Read
public import proofs.«01_k».proof.Proof.Math.Branches
public import Idealize.ShloMosaic.Lib.Pointwise

@[expose] public section

set_option maxRecDepth 16384

/-! # The reference of the merge, row by row -/

noncomputable section

namespace Cert.MergeRefIdeal.Rows

open Cert.MergeRefIdeal Cert.MergeRefIdeal.Gen Cert.MergeRefIdeal.Read Idealize.ShloMosaic Idealize.ShloMosaic.TcCoe Idealize.SL.Sem

variable (x0 : (⟨S12288x1024, .f32⟩ : BufTy).Contents (Elt Ideal)) (x1 : (⟨S8x6x1024, .f32⟩ : BufTy).Contents (Elt Ideal))
  (x2 : (⟨S12288x6144, .f32⟩ : BufTy).Contents (Elt Ideal)) (x3 x4 x5 : (⟨S12288x512, .f32⟩ : BufTy).Contents (Elt Ideal))
  (x6 : (⟨S128, .f32⟩ : BufTy).Contents (Elt Ideal)) (x7 : (⟨S512, .f32⟩ : BufTy).Contents (Elt Ideal))
  (x8 : (⟨S512x512, .f32⟩ : BufTy).Contents (Elt Ideal)) (x9 : (⟨S512, .f32⟩ : BufTy).Contents (Elt Ideal))
  (x10 : (⟨S3x512x1024, .f32⟩ : BufTy).Contents (Elt Ideal)) (x11 : (⟨S1024x1024, .f32⟩ : BufTy).Contents (Elt Ideal))
  (x12 : (⟨S1024, .f32⟩ : BufTy).Contents (Elt Ideal)) (r : Fin 12288)

/-- The gate of a token's row. -/
theorem gate_apply (k : Fin 1024) : val_main_v72 (F := Ideal) x1 (ix2 r k) = x1 (ix3 (Cert.Math.seq r) 2 k) := by
  by_cases h : r.val < 4096
  · rw [Cert.Math.seq, dif_pos h]
    pointwise [val_main_v72, val_main_v71, val_main_v70, val_main_v69, val_main_v68, val_main_v67, val_main_v66, val_main_v65, val_main_v64]
    rw [dif_pos h]
  · rw [Cert.Math.seq, dif_neg h]
    pointwise [val_main_v72, val_main_v71, val_main_v70, val_main_v69, val_main_v68, val_main_v67, val_main_v66, val_main_v65, val_main_v64]
    rw [dif_neg h]

/-- One head of the linear attention's branch. -/
theorem head_apply (h : Fin 4) (d : Fin 128) : val_main_v19 (F := Ideal) x2 x3 x6 (ix3 r h d) =
    Cert.Math.glaHead (fun j => x3 (ix2 r ⟨h.val * 128 + j.val, by omega⟩)) (fun j => x2 (ix2 r ⟨4096 + (h.val * 128 + j.val), by omega⟩))
      (fun j => x6 (ix1 j)) d := by
  have e3 : ∀ j : Fin 128, val_main_v3 (F := Ideal) x3 (ix3 r h j) = x3 (ix2 r ⟨h.val * 128 + j.val, by omega⟩) := fun j => by
    pointwise [val_main_v3]
  have e17 : ∀ j : Fin 128, val_main_v17 (F := Ideal) x2 (ix3 r h j) = x2 (ix2 r ⟨4096 + (h.val * 128 + j.val), by omega⟩) := fun j => by
    pointwise [val_main_v17, val_main_v1]
  rw [← funext e3, ← funext e17]
  pointwise [val_main_v19, val_main_v18, val_main_call0_v5, val_main_call0_v4, val_main_call0_cst_0, val_main_call0_v3, val_main_call0_v2, val_main_call0_cst, val_main_call0_v1, val_main_call0_v0, val_main_v16, val_main_v15, val_main_v14, val_main_v13, val_main_v12, val_main_v11, val_main_v10, val_main_v9, val_main_cst_1, val_main_v8, val_main_v7, val_main_cst_0, val_main_v6, val_main_v5, val_main_cst, val_main_v4,
    Cert.Math.glaHead, Cert.Math.rmsHead, Cert.Math.silu, Ideal.logistic]

/-- The branch. -/
def glaRow (k : Fin 512) : EReal :=
  Cert.Math.glaHead (fun j => x3 (ix2 r ⟨k.val / 128 * 128 + j.val, by omega⟩)) (fun j => x2 (ix2 r ⟨4096 + (k.val / 128 * 128 + j.val), by omega⟩))
    (fun j => x6 (ix1 j)) ⟨k.val % 128, by omega⟩

theorem gla_apply (k : Fin 512) : val_main_v48 (F := Ideal) x2 x3 x6 (ix2 r k) = glaRow x2 x3 x6 r k := by
  obtain ⟨h, d, rfl⟩ := Cert.Math.head_col k
  have e : val_main_v48 (F := Ideal) x2 x3 x6 (ix2 r ⟨h.val * 128 + d.val, by omega⟩) = val_main_v19 (F := Ideal) x2 x3 x6 (ix3 r h d) := by
    pointwise [val_main_v48]
  rw [e, head_apply]
  have e1 : (h.val * 128 + d.val) / 128 = h.val := by omega
  have e2 : (h.val * 128 + d.val) % 128 = d.val := by omega
  simp only [glaRow, e1, e2]

/-- The state space branch before the unit. -/
theorem z_apply (k : Fin 512) : val_main_v36 (F := Ideal) x2 x5 x7 (ix2 r k) =
    Cert.Math.gelu (x5 (ix2 r k) + x7 (ix1 k) * x2 (ix2 r ⟨5120 + k.val, by omega⟩)) := by
  have e : val_main_v23 (F := Ideal) x2 x5 x7 (ix2 r k) = x5 (ix2 r k) + x7 (ix1 k) * x2 (ix2 r ⟨5120 + k.val, by omega⟩) := by
    pointwise [val_main_v23, val_main_v22, val_main_v21, val_main_v20, val_main_v2]
  rw [← e]
  pointwise [val_main_v36, val_main_v35, val_main_v34, val_main_cst_5, val_main_v33, val_main_v32, val_main_cst_4, val_main_v31, val_main_v30, val_main_v29, val_main_cst_3, val_main_v28, val_main_v27, val_main_v26, val_main_cst_2, val_main_v25, val_main_v24, Cert.Math.gelu]

/-- The branch. -/
def s5Row : Fin 512 → EReal :=
  Cert.Math.glu (fun j => Cert.Math.gelu (x5 (ix2 r j) + x7 (ix1 j) * x2 (ix2 r ⟨5120 + j.val, by omega⟩))) (fun i j => x8 (ix2 i j))
    (fun j => x9 (ix1 j))

theorem s5_apply (k : Fin 512) : val_main_v47 (F := Ideal) x2 x5 x7 x8 x9 (ix2 r k) = s5Row x2 x5 x7 x8 x9 r k := by
  unfold s5Row
  rw [← funext (z_apply x2 x5 x7 r)]
  pointwise [val_main_v47, val_main_v46, val_main_v45, val_main_cst_7, val_main_v44, val_main_v43, val_main_cst_6, val_main_v42, val_main_v41, val_main_v40, val_main_v39, val_main_v38, val_main_v37, Cert.Math.glu,
    Cert.Math.dot, Ideal.logistic]

/-- A gate of the merge. -/
theorem sig_apply (i : Fin 3) (n : Fin 1024) : val_main_v61 (F := Ideal) x2 (ix3 r i n) =
    Ideal.logistic (x2 (ix2 r ⟨i.val * 1024 + n.val, by omega⟩)) := by
  have e : val_main_v55 (F := Ideal) x2 (ix3 r i n) = x2 (ix2 r ⟨i.val * 1024 + n.val, by omega⟩) := by
    pointwise [val_main_v55, val_main_v0]
  rw [← e]
  pointwise [val_main_v61, val_main_v60, val_main_cst_9, val_main_v59, val_main_v58, val_main_cst_8, val_main_v57, val_main_v56, Ideal.logistic]

/-- The three branches, one after the other. -/
theorem branch_apply (i : Fin 3) (j : Fin 512) : val_main_v52 (F := Ideal) x2 x3 x4 x5 x6 x7 x8 x9 (ix3 r i j) =
    (![glaRow x2 x3 x6 r, fun j => x4 (ix2 r j), s5Row x2 x5 x7 x8 x9 r] i) j := by
  fin_cases i
  · refine Eq.trans ?_ (gla_apply x2 x3 x6 r j)
    pointwise [val_main_v52, val_main_v49]
  · pointwise [val_main_v52, val_main_v50]
  · refine Eq.trans ?_ (s5_apply x2 x5 x7 x8 x9 r j)
    pointwise [val_main_v52, val_main_v51]

/-- A branch projected. -/
theorem proj_apply (i : Fin 3) (n : Fin 1024) : val_main_v54 (F := Ideal) x2 x3 x4 x5 x6 x7 x8 x9 x10 (ix3 r i n) =
    Cert.Math.dot (![glaRow x2 x3 x6 r, fun j => x4 (ix2 r j), s5Row x2 x5 x7 x8 x9 r] i) (fun j => x10 (ix3 i j n)) := by
  have e : val_main_v54 (F := Ideal) x2 x3 x4 x5 x6 x7 x8 x9 x10 (ix3 r i n) =
      ∑ j, x10 (ix3 i j n) * val_main_v52 (F := Ideal) x2 x3 x4 x5 x6 x7 x8 x9 (ix3 r i j) := by
    pointwise [val_main_v54, val_main_v53]
  rw [e, Cert.Math.dot]
  refine Finset.sum_congr rfl fun j _ => ?_
  rw [branch_apply, mul_comm]

/-- The merged row. -/
def merged : Fin 1024 → EReal :=
  Cert.Math.mergeRow (fun n => x2 (ix2 r ⟨n.val, by omega⟩)) (fun n => x2 (ix2 r ⟨1024 + n.val, by omega⟩))
    (fun n => x2 (ix2 r ⟨2048 + n.val, by omega⟩)) (glaRow x2 x3 x6 r) (fun j => x4 (ix2 r j)) (s5Row x2 x5 x7 x8 x9 r)
    (fun i j k => x10 (ix3 i j k))

theorem merged_apply (n : Fin 1024) : val_main_v63 (F := Ideal) x2 x3 x4 x5 x6 x7 x8 x9 x10 (ix2 r n) =
    merged x2 x3 x4 x5 x6 x7 x8 x9 x10 r n := by
  have e : val_main_v63 (F := Ideal) x2 x3 x4 x5 x6 x7 x8 x9 x10 (ix2 r n) =
      ∑ i : Fin 3, val_main_v61 (F := Ideal) x2 (ix3 r i n) * val_main_v54 (F := Ideal) x2 x3 x4 x5 x6 x7 x8 x9 x10 (ix3 r i n) := by
    pointwise [val_main_v63, val_main_cst_10, val_main_v62]
  rw [e, Fin.sum_univ_three]
  simp only [sig_apply, proj_apply]
  unfold merged Cert.Math.mergeRow
  simp

/-- The merged row, projected. -/
def projRow (n : Fin 1024) : EReal := Cert.Math.dot (merged x2 x3 x4 x5 x6 x7 x8 x9 x10 r) (fun k => x11 (ix2 k n))

theorem out_proj (n : Fin 1024) : val_main_v73 (F := Ideal) x2 x3 x4 x5 x6 x7 x8 x9 x10 x11 (ix2 r n) =
    projRow x2 x3 x4 x5 x6 x7 x8 x9 x10 x11 r n := by
  unfold projRow
  rw [← funext (merged_apply x2 x3 x4 x5 x6 x7 x8 x9 x10 r)]
  pointwise [val_main_v73, Cert.Math.dot]

/-- One element of the reference. -/
theorem out_apply (n : Fin 1024) : val_main_v88 (F := Ideal) x0 x1 x2 x3 x4 x5 x6 x7 x8 x9 x10 x11 x12 (ix2 r n) =
    x0 (ix2 r n) + x1 (ix3 (Cert.Math.seq r) 2 n) * Cert.Math.rms (projRow x2 x3 x4 x5 x6 x7 x8 x9 x10 x11 r) (fun j => x12 (ix1 j)) n := by
  rw [← gate_apply x1 r n, ← funext (out_proj x2 x3 x4 x5 x6 x7 x8 x9 x10 x11 r)]
  pointwise [val_main_v88, val_main_v87, val_main_v86, val_main_v85, val_main_v84, val_main_v83, val_main_v82, val_main_v81, val_main_v80, val_main_v79, val_main_cst_13, val_main_v78, val_main_v77, val_main_cst_12, val_main_v76, val_main_v75, val_main_cst_11, val_main_v74, Cert.Math.rms]

end Cert.MergeRefIdeal.Rows

end
-- ==== Proof.Merge.Final.lean ====
module

public import proofs.«01_k».proof.Proof.Merge.Block
public import proofs.«01_k».proof.Proof.Merge.Ref
public import Idealize.ShloMosaic.Lib.Claim

@[expose] public section

set_option maxRecDepth 16384

/-! # The merge's array

The blocks read off the arguments, and the output array as the reference's result. -/

noncomputable section

namespace Cert.MergeIdeal.Final

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- The reference's result of the argument arrays of device `c`. -/
abbrev out (c : Dev nD) : FVec Ideal S12288x1024 .f32 :=
  MergeRefIdeal.Read.val_main_v88 (F := Ideal) (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9))
    (m ((c : Thread nD τ).loc main_arg10)) (m ((c : Thread nD τ).loc main_arg11))
    (m ((c : Thread nD τ).loc main_arg12))

theorem idx : ∀ t : Fin cfg0.N, win0_0.index t = ![t.val, 0] ∧ win0_1.index t = ![if t.val < 16 then 0 else 1 + (t.val - 16) / 8, 0, 0]
    ∧ win0_2.index t = ![t.val, 0] ∧ win0_3.index t = ![t.val, 1] ∧ win0_4.index t = ![t.val, 2] ∧ win0_5.index t = ![t.val, 8]
    ∧ win0_6.index t = ![t.val, 0] ∧ win0_7.index t = ![t.val, 0] ∧ win0_8.index t = ![t.val, 0] ∧ win0_9.index t = ![t.val, 10]
    ∧ win0_10.index t = ![0, 0] ∧ win0_11.index t = ![0, 0] ∧ win0_12.index t = ![0, 0] ∧ win0_13.index t = ![0, 0]
    ∧ win0_14.index t = ![0, 0, 0] ∧ win0_15.index t = ![0, 0] ∧ win0_16.index t = ![0, 0] ∧ win0_17.index t = ![t.val, 0] :=
  (by decide +kernel : ∀ t : Fin grid0.N, _)

variable (c : Dev nD) (t : Fin cfg0.N) (r : Fin 256) (R : Fin 12288) (hR : R.val = t.val * 256 + r.val)
include hR

theorem x_read (k : Fin 1024) : iblk m c 0 t (ix2 r k) = m ((c : Thread nD τ).loc main_arg0) (ix2 R k) := by
  blk_point [iblk, V, idx t]

theorem mod_read (i : Fin 6) (k : Fin 1024) :
    iblk m c 1 t (ix3 0 i k) = m ((c : Thread nD τ).loc main_arg1) (ix3 (Cert.Math.seq R) i k) := by
  have hs : (Cert.Math.seq R).val = if t.val < 16 then 0 else 1 + (t.val - 16) / 8 := by
    unfold Cert.Math.seq
    split_ifs <;> simp <;> omega
  blk_point [iblk, V, idx t]

theorem s0_read (k : Fin 1024) : iblk m c 2 t (ix2 r k) = m ((c : Thread nD τ).loc main_arg2) (ix2 R ⟨k.val, by omega⟩) := by
  blk_point [iblk, V, idx t]
theorem s1_read (k : Fin 1024) : iblk m c 3 t (ix2 r k) = m ((c : Thread nD τ).loc main_arg2) (ix2 R ⟨1024 + k.val, by omega⟩) := by
  blk_point [iblk, V, idx t]
theorem s2_read (k : Fin 1024) : iblk m c 4 t (ix2 r k) = m ((c : Thread nD τ).loc main_arg2) (ix2 R ⟨2048 + k.val, by omega⟩) := by
  blk_point [iblk, V, idx t]
theorem gg_read (k : Fin 512) : iblk m c 5 t (ix2 r k) = m ((c : Thread nD τ).loc main_arg2) (ix2 R ⟨4096 + k.val, by omega⟩) := by
  blk_point [iblk, V, idx t]
theorem gla_read (k : Fin 512) : iblk m c 6 t (ix2 r k) = m ((c : Thread nD τ).loc main_arg3) (ix2 R k) := by
  blk_point [iblk, V, idx t]
theorem att_read (k : Fin 512) : iblk m c 7 t (ix2 r k) = m ((c : Thread nD τ).loc main_arg4) (ix2 R k) := by
  blk_point [iblk, V, idx t]
theorem s5y_read (k : Fin 512) : iblk m c 8 t (ix2 r k) = m ((c : Thread nD τ).loc main_arg5) (ix2 R k) := by
  blk_point [iblk, V, idx t]
theorem su_read (k : Fin 512) : iblk m c 9 t (ix2 r k) = m ((c : Thread nD τ).loc main_arg2) (ix2 R ⟨5120 + k.val, by omega⟩) := by
  blk_point [iblk, V, idx t]
omit hR in
theorem gng_read (k : Fin 128) : iblk m c 10 t (ix2 0 k) = m ((c : Thread nD τ).loc main_arg6) (ix1 k) := by
  blk_point [iblk, V, idx t]
omit hR in
theorem s5d_read (k : Fin 512) : iblk m c 11 t (ix2 0 k) = m ((c : Thread nD τ).loc main_arg7) (ix1 k) := by
  blk_point [iblk, V, idx t]
omit hR in
theorem gluw_read (i k : Fin 512) : iblk m c 12 t (ix2 i k) = m ((c : Thread nD τ).loc main_arg8) (ix2 i k) := by
  blk_point [iblk, V, idx t]
omit hR in
theorem glub_read (k : Fin 512) : iblk m c 13 t (ix2 0 k) = m ((c : Thread nD τ).loc main_arg9) (ix1 k) := by
  blk_point [iblk, V, idx t]
omit hR in
theorem wb_read (i : Fin 3) (j : Fin 512) (k : Fin 1024) : iblk m c 14 t (ix3 i j k) = m ((c : Thread nD τ).loc main_arg10) (ix3 i j k) := by
  blk_point [iblk, V, idx t]
omit hR in
theorem wo_read (i k : Fin 1024) : iblk m c 15 t (ix2 i k) = m ((c : Thread nD τ).loc main_arg11) (ix2 i k) := by
  blk_point [iblk, V, idx t]
omit hR in
theorem g_read (k : Fin 1024) : iblk m c 16 t (ix2 0 k) = m ((c : Thread nD τ).loc main_arg12) (ix1 k) := by
  blk_point [iblk, V, idx t]

/-- What a point leaves in the output block. -/
theorem point (n : Fin 1024) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r n) = out m c (ix2 R n) := by
  refine (Block.block_apply _ _ _ _ _ _ _ _ _ _ _ _ _ _ _ _ _ r n).trans ?_
  refine Eq.trans ?_ (MergeRefIdeal.Rows.out_apply _ _ _ _ _ _ _ _ _ _ _ _ _ R n).symm
  unfold Block.projRow Block.glaRow Block.s5Row MergeRefIdeal.Rows.projRow MergeRefIdeal.Rows.merged MergeRefIdeal.Rows.glaRow MergeRefIdeal.Rows.s5Row
  simp only [x_read m c t r R hR, mod_read m c t r R hR, s0_read m c t r R hR, s1_read m c t r R hR, s2_read m c t r R hR,
    gg_read m c t r R hR, gla_read m c t r R hR, att_read m c t r R hR, s5y_read m c t r R hR, su_read m c t r R hR, gng_read,
    s5d_read, gluw_read, glub_read, wb_read, wo_read, g_read]

omit hR in
theorem point_idx (x : S256x1024.Idx) (y : S12288x1024.Idx) (h0 : (y 0).val = t.val * 256 + (x 0).val)
    (h1 : (y 1).val = (x 1).val) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) x = out m c y := by
  have hx : x = ix2 (⟨(x 0).val, (x 0).isLt⟩ : Fin 256) (⟨(x 1).val, (x 1).isLt⟩ : Fin 1024) := by idx_ext
  have hy : y = ix2 (⟨(y 0).val, (y 0).isLt⟩ : Fin 12288) (⟨(x 1).val, (x 1).isLt⟩ : Fin 1024) := by
    funext a; fin_cases a
    · rfl
    · exact Fin.ext h1
  rw [hx, hy]
  exact point m c t _ _ h0 _

omit hR in
/-- The output array after the run is the reference's result. -/
theorem final : (dats m 0 c).arrAt 17 (cfgs 0).N = out m c := by
  refine (dats m 0 c).arrAt_eq_of_covers 17 _ (by decide +kernel) fun t _ y => ?_
  blk_simp
  rw [after0_17]
  exact point_idx m c t y _ (by blk_simp [idx t]) (by blk_simp [idx t])

end Cert.MergeIdeal.Final

end
-- ==== Proof.Merge.Claims.lean ====
module

public import proofs.«01_k».proof.Defs
public import proofs.«01_k».proof.Proof.Gen.Merge.Frame
public import proofs.«01_k».proof.Proof.Gen.MergeIdeal.Value
public import proofs.«01_k».proof.Proof.Gen.MergeRefIdeal.Run
public import proofs.«01_k».proof.Proof.Merge.Final

@[expose] public section

/-! # The claims about the merge of the branches -/

noncomputable section

namespace Cert.Merge.Claims

open Idealize.ShloMosaic Idealize.ShloMosaic.TcCoe Idealize.SL.Sem

theorem frame : Cert.quiescent_Merge := fun m ρ _ => Cert.Merge.Gen.frame m ρ

theorem frame_ideal : Cert.quiescent_MergeIdeal := fun m ρ _ => Cert.MergeIdeal.Gen.frame m ρ

/-- The reference has no semaphore. -/
theorem no_sem : SemLoc Cert.MergeRefIdeal.sig → False := by
  rintro (s | s) <;> exact s.elim0

theorem frame_ref : Cert.quiescent_MergeRefIdeal := fun m ρ _ => by
  run_from Cert.MergeRefIdeal.Value.run m ρ
  · exact fun _ => ⟨trivial, trivial, trivial, trivial, trivial, trivial, trivial, trivial, trivial, trivial, trivial, trivial, trivial⟩
  · exact funext fun x => (no_sem x.2).elim

/-- The kernel's and the reference's results are equal. -/
theorem algebraic : Cert.algebraic_MergeIdeal_MergeRefIdeal := by
  pair_intro
  · run_from Cert.MergeIdeal.Gen.run_main m g
    exact hc.1 17
  · run_from Cert.MergeRefIdeal.Value.run m' g'
    rw [MergeIdeal.Final.final m c, MergeRefIdeal.Read.val_main_v88_eq]
    simp only [hagree c]

end Cert.Merge.Claims

end
-- ==== Proof.Math.Heads.lean ====
module

public import proofs.«01_k».proof.Proof.Math.Softmax

@[expose] public section

/-! # The norm of the queries' and keys' heads over the extended reals

The kernel sums the squares of a head of 64 by a product with a matrix of ones and zeros, in two parts: the squares
rounded, and what the rounding left. Over the reals the second part is zero. -/

noncomputable section

namespace Cert.Math

open Idealize.ShloMosaic

/-- The RMS norm of a head of 64, at one column. -/
def rms64 (x g : Fin 64 → EReal) (k : Fin 64) : EReal :=
  x k * Ideal.rsqrt (Ideal.div (∑ j, x j * x j) (Ideal.ofBits .f32 0x42800000#32) + Ideal.ofBits .f32 0x358637BD#32) * g k

/-- The mean of the squares as the kernel takes it, with a matrix `b`. -/
def groupMean {n : ℕ} (x : Fin n → EReal) (b : Fin n → Fin n → EReal) (k : Fin n) : EReal :=
  (∑ j, x j * x j * b j k + ∑ j, (x j * x j - x j * x j) * b j k) * Ideal.ofBits .f32 0x3C800000#32

/-- The norm as the kernel takes it. -/
def normHeads {n : ℕ} (x : Fin n → EReal) (b : Fin n → Fin n → EReal) (g : Fin n → EReal) (k : Fin n) : EReal :=
  x k * Ideal.rsqrt (groupMean x b k + Ideal.ofBits .f32 0x358637BD#32) * g k

theorem ofBits_64 : Ideal.ofBits .f32 0x42800000#32 = ((64 : ℝ) : EReal) := by
  simp [Ideal.ofBits, Ideal.ieee, -EReal.coe_mul]; norm_num

theorem ofBits_64th : Ideal.ofBits .f32 0x3C800000#32 = (((1 : ℝ) / 64 : ℝ) : EReal) := by
  simp [Ideal.ofBits, Ideal.ieee, -EReal.coe_mul]; norm_num

/-- A sum over the columns of one head. -/
theorem sum_head {n : ℕ} (f : Fin n → EReal) (h : ℕ) (hh : h * 64 + 64 ≤ n) :
    ∑ j, f j * (if j.val / 64 = h then 1 else 0) = ∑ d : Fin 64, f ⟨h * 64 + d.val, by omega⟩ := by
  simp only [mul_ite, mul_one, mul_zero]
  rw [← Finset.sum_filter]
  refine Finset.sum_nbij' (fun j => ⟨j.val % 64, Nat.mod_lt _ (by decide)⟩) (fun d => ⟨h * 64 + d.val, by omega⟩) ?_ ?_ ?_ ?_ ?_
  · intro j _
    exact Finset.mem_univ _
  · intro d _
    simp only [Finset.mem_filter, Finset.mem_univ, true_and]
    omega
  · intro j hj
    simp only [Finset.mem_filter, Finset.mem_univ, true_and] at hj
    apply Fin.ext
    show h * 64 + j.val % 64 = j.val
    omega
  · intro d _
    apply Fin.ext
    show (h * 64 + d.val) % 64 = d.val
    omega
  · intro j hj
    simp only [Finset.mem_filter, Finset.mem_univ, true_and] at hj
    congr 1
    apply Fin.ext
    show j.val = h * 64 + j.val % 64
    omega

variable {n : ℕ} (x : Fin n → EReal) (hx : ∀ j, ∃ r : ℝ, x j = r) (b : Fin n → Fin n → EReal)
  (hb : ∀ j k, b j k = if j.val / 64 = k.val / 64 then 1 else 0)
include hx hb

/-- The mean over a head of real entries. -/
theorem groupMean_eq (k : Fin n) (h : ℕ) (hk : k.val / 64 = h) (hh : h * 64 + 64 ≤ n) :
    groupMean x b k = Ideal.div (∑ d : Fin 64, x ⟨h * 64 + d.val, by omega⟩ * x ⟨h * 64 + d.val, by omega⟩)
      (Ideal.ofBits .f32 0x42800000#32) := by
  have h0 : ∀ j, x j * x j - x j * x j = 0 := fun j => by
    obtain ⟨r, hr⟩ := hx j
    rw [hr, ← EReal.coe_mul, ← EReal.coe_sub, sub_self, EReal.coe_zero]
  unfold groupMean
  simp only [h0, zero_mul, Finset.sum_const_zero, add_zero, hb, hk]
  rw [sum_head (fun j => x j * x j) h hh, ofBits_64, ofBits_64th, Ideal.div_coe (by norm_num)]

/-- The norm of one head. -/
theorem normHeads_eq (g : Fin n → EReal) (k : Fin n) (h : ℕ) (d : Fin 64) (hk : k.val = h * 64 + d.val) (hh : h * 64 + 64 ≤ n) :
    normHeads x b g k = rms64 (fun j => x ⟨h * 64 + j.val, by omega⟩) (fun j => g ⟨h * 64 + j.val, by omega⟩) d := by
  unfold normHeads rms64
  rw [groupMean_eq x hx b hb k h (by omega) hh]
  have e : k = ⟨h * 64 + d.val, by omega⟩ := Fin.ext hk
  rw [e]

end Cert.Math

end
-- ==== Proof.QkCtx.Block.lean ====
module

public import proofs.«01_k».proof.Proof.Gen.QkCtxIdeal.Frame
public import proofs.«01_k».proof.Proof.Math.Heads
public import Idealize.ShloMosaic.Lib.Pointwise

@[expose] public section

set_option maxRecDepth 16384

/-! # The blocks of the context rows' queries and keys -/

noncomputable section

namespace Cert.QkCtxIdeal.Block

open Cert.QkCtxIdeal Cert.QkCtxIdeal.Gen Idealize.ShloMosaic Idealize.ShloMosaic.TcCoe Idealize.SL.Sem

/-- The queries' norm and scale. -/
theorem q_apply (v0 : Vec Ideal S256x512 .f32) (v2 : Vec Ideal S512x512 .bf16) (v18 : Vec Ideal S1x512 .f32) (r : Fin 256) (k : Fin 512) :
    k0_pay2 (k0_pay4 v0 v2 v18) (ix2 r k) = Cert.Math.normHeads (fun j => v0 (ix2 r j)) (fun i j => v2 (ix2 i j)) (fun j => v18 (ix2 0 j)) k *
      Ideal.ofBits .f32 0x3E000000#32 := by
  pointwise [k0_pay2, k0_pay4, Cert.Math.normHeads, Cert.Math.groupMean]

/-- The keys' norm. -/
theorem k_apply (v1 : Vec Ideal S256x128 .f32) (v22 : Vec Ideal S128x128 .bf16) (v38 : Vec Ideal S1x128 .f32) (r : Fin 256) (k : Fin 128) :
    k0_pay1 (k0_pay5 v1 v22) v38 (ix2 r k) = Cert.Math.normHeads (fun j => v1 (ix2 r j)) (fun i j => v22 (ix2 i j)) (fun j => v38 (ix2 0 j)) k := by
  pointwise [k0_pay1, k0_pay5, Cert.Math.normHeads, Cert.Math.groupMean]

/-- The keys' norm, cast. -/
theorem kc_apply (v1 : Vec Ideal S256x128 .f32) (v22 : Vec Ideal S128x128 .bf16) (v38 : Vec Ideal S1x128 .f32) (r : Fin 256) (k : Fin 128) :
    k0_pay3 (k0_pay5 v1 v22) v38 (ix2 r k) = Cert.Math.normHeads (fun j => v1 (ix2 r j)) (fun i j => v22 (ix2 i j)) (fun j => v38 (ix2 0 j)) k := by
  refine Eq.trans ?_ (k_apply v1 v22 v38 r k)
  pointwise [k0_pay3]

variable (x0 : Vec Ideal S256x512 .f32) (x1 : Vec Ideal S256x128 .f32) (x2 : Vec Ideal S1x512 .f32) (x3 : Vec Ideal S1x128 .f32)
  (x4 : Vec Ideal S512x512 .bf16)

/-! The pieces of the operands that the body loads. -/

theorem ld_q (r : Fin 256) (k : Fin 512) : View.ld x0 r0_0 (ix2 r k) = x0 (ix2 r k) := by
  pointwise []
theorem ld_k (r : Fin 256) (k : Fin 128) : View.ld x1 r0_1 (ix2 r k) = x1 (ix2 r k) := by
  pointwise []
theorem ld_b (i k : Fin 512) : View.ld x4 r0_2 (ix2 i k) = x4 (ix2 i k) := by
  pointwise []
theorem ld_c (i k : Fin 128) : View.ld x4 r0_4 (ix2 i k) = x4 (ix2 ⟨i.val, by omega⟩ ⟨k.val, by omega⟩) := by
  pointwise []
theorem ld_qg (k : Fin 512) : View.ld x2 r0_3 (ix2 0 k) = x2 (ix2 0 k) := by
  pointwise []
theorem ld_kg (k : Fin 128) : View.ld x3 r0_5 (ix2 0 k) = x3 (ix2 0 k) := by
  pointwise []

/-- A row of the queries' block. -/
theorem block_q (r : Fin 256) (k : Fin 512) : out0_5 x0 x1 x2 x3 x4 (ix2 r k) =
    Cert.Math.normHeads (fun j => x0 (ix2 r j)) (fun i j => x4 (ix2 i j)) (fun j => x2 (ix2 0 j)) k * Ideal.ofBits .f32 0x3E000000#32 := by
  have hc : out0_5 x0 x1 x2 x3 x4 (ix2 r k) = k0_pay2 (k0_pay4 (View.ld x0 r0_0) (View.ld x4 r0_2) (View.ld x2 r0_3)) (ix2 r k) := by
    unfold out0_5
    rw [View.canon_cons_unit_zero (by funext a; fin_cases a <;> rfl)]
  rw [hc, q_apply, funext (ld_q x0 r), funext fun i => funext (ld_b x4 i), funext (ld_qg x2)]

/-- A row of the keys. -/
def keyRow (r : Fin 256) : Fin 128 → EReal :=
  Cert.Math.normHeads (fun j => x1 (ix2 r j)) (fun i j => x4 (ix2 ⟨i.val, by omega⟩ ⟨j.val, by omega⟩)) (fun j => x3 (ix2 0 j))

/-- A row of the keys' block, cast. -/
theorem block_kc (r : Fin 256) (k : Fin 128) : out0_6 x0 x1 x2 x3 x4 (ix2 r k) = keyRow x1 x3 x4 r k := by
  have hc : out0_6 x0 x1 x2 x3 x4 (ix2 r k) = k0_pay3 (k0_pay5 (View.ld x1 r0_1) (View.ld x4 r0_4)) (View.ld x3 r0_5) (ix2 r k) := by
    unfold out0_6
    rw [View.canon_cons_unit_zero (by funext a; fin_cases a <;> rfl)]
    rfl
  rw [hc, kc_apply, funext (ld_k x1 r), funext fun i => funext (ld_c x4 i), funext (ld_kg x3)]
  rfl

/-- A row of the keys' block. -/
theorem block_k (r : Fin 256) (k : Fin 128) : out0_7 x0 x1 x2 x3 x4 (ix2 r k) = keyRow x1 x3 x4 r k := by
  have hc : out0_7 x0 x1 x2 x3 x4 (ix2 r k) = k0_pay1 (k0_pay5 (View.ld x1 r0_1) (View.ld x4 r0_4)) (View.ld x3 r0_5) (ix2 r k) := by
    unfold out0_7
    rw [View.canon_cons_unit_zero (by funext a; fin_cases a <;> rfl)]
    rfl
  rw [hc, k_apply, funext (ld_k x1 r), funext fun i => funext (ld_c x4 i), funext (ld_kg x3)]
  rfl

end Cert.QkCtxIdeal.Block

end
-- ==== Proof.QkCtx.Ref.lean ====
module

public import proofs.«01_k».proof.Proof.Gen.QkCtxRefIdeal.Read
public import proofs.«01_k».proof.Proof.Math.Heads
public import Idealize.ShloMosaic.Lib.Pointwise

@[expose] public section

set_option maxRecDepth 16384

/-! # The reference of the context rows' queries and keys -/

noncomputable section

namespace Cert.QkCtxRefIdeal.Rows

open Cert.QkCtxRefIdeal Cert.QkCtxRefIdeal.Gen Cert.QkCtxRefIdeal.Read Idealize.ShloMosaic Idealize.ShloMosaic.TcCoe Idealize.SL.Sem

variable (x0 : (⟨S12288x6144, .f32⟩ : BufTy).Contents (Elt Ideal)) (x1 : (⟨S2x64, .f32⟩ : BufTy).Contents (Elt Ideal)) (r : Fin 4096)

/-- A head of the queries. -/
theorem q_head (h : Fin 8) (d : Fin 64) : val_main_v18 (F := Ideal) x0 x1 (ix3 r h d) =
    Cert.Math.rms64 (fun j => x0 (ix2 ⟨r.val, by omega⟩ ⟨4608 + (h.val * 64 + j.val), by omega⟩)) (fun j => x1 (ix2 0 j)) d *
      Ideal.ofBits .f32 0x3E000000#32 := by
  have e1 : ∀ j : Fin 64, val_main_v1 (F := Ideal) x0 (ix3 r h j) = x0 (ix2 ⟨r.val, by omega⟩ ⟨4608 + (h.val * 64 + j.val), by omega⟩) := fun j => by
    pointwise [val_main_v1, val_main_v0]
  have e3 : ∀ j : Fin 64, val_main_v3 (F := Ideal) x1 (ix1 j) = x1 (ix2 0 j) := fun j => by
    pointwise [val_main_v3, val_main_v2]
  rw [← funext e1, ← funext e3]
  pointwise [val_main_v18, val_main_v17, val_main_cst_2, val_main_v16, val_main_v15, val_main_v14, val_main_v13, val_main_v12, val_main_v11, val_main_v10, val_main_v9, val_main_cst_1, val_main_v8, val_main_v7, val_main_cst_0, val_main_v6, val_main_v5, val_main_cst, val_main_v4, Cert.Math.rms64]

/-- A head of the keys. -/
theorem k_head (h : Fin 2) (d : Fin 64) : val_main_v35 (F := Ideal) x0 x1 (ix3 r h d) =
    Cert.Math.rms64 (fun j => x0 (ix2 ⟨r.val, by omega⟩ ⟨5632 + (h.val * 64 + j.val), by omega⟩)) (fun j => x1 (ix2 1 j)) d := by
  have e1 : ∀ j : Fin 64, val_main_v20 (F := Ideal) x0 (ix3 r h j) = x0 (ix2 ⟨r.val, by omega⟩ ⟨5632 + (h.val * 64 + j.val), by omega⟩) := fun j => by
    pointwise [val_main_v20, val_main_v19]
  have e3 : ∀ j : Fin 64, val_main_v22 (F := Ideal) x1 (ix1 j) = x1 (ix2 1 j) := fun j => by
    pointwise [val_main_v22, val_main_v21]
  rw [← funext e1, ← funext e3]
  pointwise [val_main_v35, val_main_v34, val_main_v33, val_main_v32, val_main_v31, val_main_v30, val_main_v29, val_main_v28, val_main_cst_5, val_main_v27, val_main_v26, val_main_cst_4, val_main_v25, val_main_v24, val_main_cst_3, val_main_v23, Cert.Math.rms64]

/-- One element of the queries. -/
theorem q_apply (h : Fin 8) (d : Fin 64) : val_main_v37 (F := Ideal) x0 x1 (ix2 r ⟨h.val * 64 + d.val, by omega⟩) =
    Cert.Math.rms64 (fun j => x0 (ix2 ⟨r.val, by omega⟩ ⟨4608 + (h.val * 64 + j.val), by omega⟩)) (fun j => x1 (ix2 0 j)) d *
      Ideal.ofBits .f32 0x3E000000#32 := by
  refine Eq.trans ?_ (q_head x0 x1 r h d)
  pointwise [val_main_v37, val_main_v36]

/-- One element of the keys, cast. -/
theorem kc_apply (h : Fin 2) (d : Fin 64) : val_main_v39 (F := Ideal) x0 x1 (ix2 r ⟨h.val * 64 + d.val, by omega⟩) =
    Cert.Math.rms64 (fun j => x0 (ix2 ⟨r.val, by omega⟩ ⟨5632 + (h.val * 64 + j.val), by omega⟩)) (fun j => x1 (ix2 1 j)) d := by
  refine Eq.trans ?_ (k_head x0 x1 r h d)
  pointwise [val_main_v39, val_main_v38]

/-- One element of the keys. -/
theorem k_apply (h : Fin 2) (d : Fin 64) : val_main_v40 (F := Ideal) x0 x1 (ix2 r ⟨h.val * 64 + d.val, by omega⟩) =
    Cert.Math.rms64 (fun j => x0 (ix2 ⟨r.val, by omega⟩ ⟨5632 + (h.val * 64 + j.val), by omega⟩)) (fun j => x1 (ix2 1 j)) d := by
  refine Eq.trans ?_ (k_head x0 x1 r h d)
  pointwise [val_main_v40]

end Cert.QkCtxRefIdeal.Rows

end
-- ==== Proof.QkCtx.Ones.lean ====
module

public import proofs.«01_k».proof.Proof.Gen.QkCtxIdeal.Value
public import proofs.«01_k».proof.Proof.Math.Lanes
public import Idealize.ShloMosaic.Lib.Pointwise

@[expose] public section

set_option maxRecDepth 16384

/-! # The matrix of ones

One where two columns belong to the same head of 64, zero elsewhere. -/

noncomputable section

namespace Cert.QkCtxIdeal.Ones

open Cert.QkCtxIdeal Cert.QkCtxIdeal.Gen Idealize.ShloMosaic Idealize.ShloMosaic.TcCoe Idealize.SL.Sem

/-- A column's head. -/
theorem head_word : ∀ i : Fin 512, IntOp.divsi .host (BitVec.ofNat 32 i.val) 64#32 = BitVec.ofNat 32 (i.val / 64) := by
  decide +kernel

/-- The comparison of two heads, as a number. -/
theorem same_head (i j : Fin 512) :
    (FloatOps.uitofp (F := Ideal) .bf16 (IntOp.cmpi .eq (IntOp.divsi .host (BitVec.ofNat 32 i.val) 64#32) (IntOp.divsi .host (BitVec.ofNat 32 j.val) 64#32)) : EReal) =
      if i.val / 64 = j.val / 64 then 1 else 0 := by
  rw [head_word, head_word]
  have h := Cert.Math.word_inj (i.val / 64) (j.val / 64) (by omega) (by omega)
  by_cases e : i.val / 64 = j.val / 64
  · rw [if_pos e, e]
    simp [FloatOps.uitofp, IntOp.cmpi]
  · rw [if_neg e]
    have e' : ¬ BitVec.ofNat 32 (i.val / 64) = BitVec.ofNat 32 (j.val / 64) := fun q => e (h.1 q)
    simp [FloatOps.uitofp, IntOp.cmpi, e']

/-- The heads of the columns. -/
def heads : IVec S512 32 := Host.divsi (iotaInDim S512 32 0) (broadcastInDim S512 ![] bcast_S_S512 (constantI S_ 32 64#32))

/-- The matrix as the host makes it. -/
def ones : FVec Ideal S512x512 .bf16 :=
  uitofp .bf16 (cmpi .eq
    (broadcastInDim S512x512 ![0, 1] bcast_S512x1_S512x512_0_1 (broadcastInDim S512x1 ![0] bcast_S512_S512x1_0 heads))
    (broadcastInDim S512x512 ![0, 1] bcast_S1x512_S512x512_0_1 (broadcastInDim S1x512 ![1] bcast_S512_S1x512_1 heads)))

theorem heads_apply (i : Fin 512) : heads (ix1 i) = IntOp.divsi .host (BitVec.ofNat 32 i.val) 64#32 := by
  pointwise [heads]

theorem ones_apply (i j : Fin 512) : ones (ix2 i j) = (if i.val / 64 = j.val / 64 then 1 else 0 : EReal) := by
  refine Eq.trans ?_ (same_head i j)
  rw [← heads_apply, ← heads_apply]
  pointwise [ones]

variable (m : (ℓ : Loc nD τ sig) → Buf (Elt Ideal) ℓ) (c : Dev nD)

/-- The fifth operand of the call is this matrix. -/
theorem entry : V m c main_v20 = ones := by
  unfold V
  rfl

end Cert.QkCtxIdeal.Ones

end
-- ==== Proof.QkCtx.Final.lean ====
module

public import proofs.«01_k».proof.Proof.Gen.QkCtxIdeal.Value
public import proofs.«01_k».proof.Proof.QkCtx.Block
public import proofs.«01_k».proof.Proof.QkCtx.Ref
public import proofs.«01_k».proof.Proof.QkCtx.Ones
public import Idealize.ShloMosaic.Lib.Claim

@[expose] public section

set_option maxRecDepth 16384

/-! # The context rows' queries and keys

The blocks read off the arguments, and the output arrays as the reference's results. -/

noncomputable section

namespace Cert.QkCtxIdeal.Final

open Cert.QkCtxIdeal Cert.QkCtxIdeal.Gen Idealize.ShloMosaic Idealize.ShloMosaic.TcCoe Idealize.SL.Sem
open Idealize.ShloMosaic.Pipeline (Dat)

variable (m : (ℓ : Loc nD τ sig) → Buf (Elt Ideal) ℓ)

/-- The reference's results of the argument arrays of device `c`. -/
abbrev outQ (c : Dev nD) : FVec Ideal S4096x512 .bf16 :=
  QkCtxRefIdeal.Read.val_main_v37 (F := Ideal) (m ((c : Thread nD τ).loc main_arg0)) (m ((c : Thread nD τ).loc main_arg1))
abbrev outKc (c : Dev nD) : FVec Ideal S4096x128 .bf16 :=
  QkCtxRefIdeal.Read.val_main_v39 (F := Ideal) (m ((c : Thread nD τ).loc main_arg0)) (m ((c : Thread nD τ).loc main_arg1))
abbrev outK (c : Dev nD) : FVec Ideal S4096x128 .f32 :=
  QkCtxRefIdeal.Read.val_main_v40 (F := Ideal) (m ((c : Thread nD τ).loc main_arg0)) (m ((c : Thread nD τ).loc main_arg1))

/-- The context rows' queries and keys of device `c` are finite. -/
def Finite (c : Dev nD) : Prop :=
  (∀ (i : Fin 4096) (j : Fin 512), ∃ r : ℝ, m ((c : Thread nD τ).loc main_arg0) (ix2 ⟨i.val, by omega⟩ ⟨4608 + j.val, by omega⟩) = (r : EReal)) ∧
  (∀ (i : Fin 4096) (j : Fin 128), ∃ r : ℝ, m ((c : Thread nD τ).loc main_arg0) (ix2 ⟨i.val, by omega⟩ ⟨5632 + j.val, by omega⟩) = (r : EReal))

theorem idx : ∀ t : Fin cfg0.N, win0_0.index t = ![t.val, 9] ∧ win0_1.index t = ![t.val, 44] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

/-- A column's head. -/
theorem key_col (k : Fin 128) : ∃ (h : Fin 2) (d : Fin 64), k = ⟨h.val * 64 + d.val, by omega⟩ :=
  ⟨⟨k.val / 64, by omega⟩, ⟨k.val % 64, by omega⟩, Fin.ext (by show k.val = k.val / 64 * 64 + k.val % 64; omega)⟩

variable (c : Dev nD) (t : Fin cfg0.N)

theorem bd_read (i j : Fin 512) : iblk m c 4 t (ix2 i j) = (if i.val / 64 = j.val / 64 then 1 else 0 : EReal) := by
  refine Eq.trans ?_ (Ones.ones_apply i j)
  blk_simp [iblk, idx t]
  rw [Ones.entry m c]
  congr 1
  blk_ext [idx t]
theorem qg_read (k : Fin 512) : iblk m c 2 t (ix2 0 k) = m ((c : Thread nD τ).loc main_arg1) (ix2 0 ⟨k.val % 64, by omega⟩) := by
  blk_point [iblk, V, idx t]
theorem kg_read (k : Fin 128) : iblk m c 3 t (ix2 0 k) = m ((c : Thread nD τ).loc main_arg1) (ix2 1 ⟨k.val % 64, by omega⟩) := by
  blk_point [iblk, V, idx t]

variable (r : Fin 256) (R : Fin 4096) (hR : R.val = t.val * 256 + r.val)
include hR

theorem q_read (k : Fin 512) : iblk m c 0 t (ix2 r k) = m ((c : Thread nD τ).loc main_arg0) (ix2 ⟨R.val, by omega⟩ ⟨4608 + k.val, by omega⟩) := by
  blk_point [iblk, V, idx t]
theorem k_read (k : Fin 128) : iblk m c 1 t (ix2 r k) = m ((c : Thread nD τ).loc main_arg0) (ix2 ⟨R.val, by omega⟩ ⟨5632 + k.val, by omega⟩) := by
  blk_point [iblk, V, idx t]

variable (hf : Finite m c)
include hf

/-- What a point leaves in the queries' block. -/
theorem point_q (k : Fin 512) : out0_5 (iblk m c 0 t) (iblk m c 1 t) (iblk m c 2 t) (iblk m c 3 t) (iblk m c 4 t) (ix2 r k) = outQ m c (ix2 R k) := by
  obtain ⟨h, d, rfl⟩ : ∃ (h : Fin 8) (d : Fin 64), k = ⟨h.val * 64 + d.val, by omega⟩ :=
    ⟨⟨k.val / 64, by omega⟩, ⟨k.val % 64, by omega⟩, Fin.ext (by show k.val = k.val / 64 * 64 + k.val % 64; omega)⟩
  refine (Block.block_q _ _ _ _ _ r _).trans ?_
  refine Eq.trans ?_ (QkCtxRefIdeal.Rows.q_apply _ _ R h d).symm
  rw [funext (q_read m c t r R hR), show (fun i j : Fin 512 => iblk m c 4 t (ix2 i j)) = _ from funext fun i => funext (bd_read m c t i), funext (qg_read m c t)]
  rw [Cert.Math.normHeads_eq _ (hf.1 R) _ (fun i j => rfl) _ _ h.val d rfl (by omega)]
  have e : ∀ j : Fin 64, (⟨(h.val * 64 + j.val) % 64, by omega⟩ : Fin 64) = j := fun j => Fin.ext (by show (h.val * 64 + j.val) % 64 = j.val; omega)
  simp only [e]

/-- A row of the keys. -/
theorem key_row (h : Fin 2) (d : Fin 64) : Block.keyRow (iblk m c 1 t) (iblk m c 3 t) (iblk m c 4 t) r ⟨h.val * 64 + d.val, by omega⟩ =
    Cert.Math.rms64 (fun j => m ((c : Thread nD τ).loc main_arg0) (ix2 ⟨R.val, by omega⟩ ⟨5632 + (h.val * 64 + j.val), by omega⟩))
      (fun j => m ((c : Thread nD τ).loc main_arg1) (ix2 1 j)) d := by
  unfold Block.keyRow
  rw [funext (k_read m c t r R hR), show (fun i j : Fin 128 => iblk m c 4 t (ix2 ⟨i.val, by omega⟩ ⟨j.val, by omega⟩)) = _ from
    funext fun i => funext fun j => bd_read m c t ⟨i.val, by omega⟩ ⟨j.val, by omega⟩, funext (kg_read m c t)]
  rw [Cert.Math.normHeads_eq _ (hf.2 R) _ (fun i j => rfl) _ _ h.val d rfl (by omega)]
  have e : ∀ j : Fin 64, (⟨(h.val * 64 + j.val) % 64, by omega⟩ : Fin 64) = j := fun j => Fin.ext (by show (h.val * 64 + j.val) % 64 = j.val; omega)
  simp only [e]

/-- What a point leaves in the keys' blocks. -/
theorem point_kc (k : Fin 128) : out0_6 (iblk m c 0 t) (iblk m c 1 t) (iblk m c 2 t) (iblk m c 3 t) (iblk m c 4 t) (ix2 r k) = outKc m c (ix2 R k) := by
  obtain ⟨h, d, rfl⟩ := key_col k
  exact (Block.block_kc _ _ _ _ _ r _).trans ((key_row m c t r R hR hf h d).trans (QkCtxRefIdeal.Rows.kc_apply _ _ R h d).symm)
theorem point_k (k : Fin 128) : out0_7 (iblk m c 0 t) (iblk m c 1 t) (iblk m c 2 t) (iblk m c 3 t) (iblk m c 4 t) (ix2 r k) = outK m c (ix2 R k) := by
  obtain ⟨h, d, rfl⟩ := key_col k
  exact (Block.block_k _ _ _ _ _ r _).trans ((key_row m c t r R hR hf h d).trans (QkCtxRefIdeal.Rows.k_apply _ _ R h d).symm)

omit hR in
theorem idx_q (x : S256x512.Idx) (y : S4096x512.Idx) (h0 : (y 0).val = t.val * 256 + (x 0).val)
    (h1 : (y 1).val = (x 1).val) : out0_5 (iblk m c 0 t) (iblk m c 1 t) (iblk m c 2 t) (iblk m c 3 t) (iblk m c 4 t) x = outQ m c y := by
  have hx : x = ix2 (⟨(x 0).val, (x 0).isLt⟩ : Fin 256) (⟨(x 1).val, (x 1).isLt⟩ : Fin 512) := by idx_ext
  have hy : y = ix2 (⟨(y 0).val, (y 0).isLt⟩ : Fin 4096) (⟨(x 1).val, (x 1).isLt⟩ : Fin 512) := by
    funext a; fin_cases a
    · rfl
    · exact Fin.ext h1
  rw [hx, hy]
  exact point_q m c t _ _ h0 hf _

omit hR in
theorem idx_kc (x : S256x128.Idx) (y : S4096x128.Idx) (h0 : (y 0).val = t.val * 256 + (x 0).val)
    (h1 : (y 1).val = (x 1).val) : out0_6 (iblk m c 0 t) (iblk m c 1 t) (iblk m c 2 t) (iblk m c 3 t) (iblk m c 4 t) x = outKc m c y := by
  have hx : x = ix2 (⟨(x 0).val, (x 0).isLt⟩ : Fin 256) (⟨(x 1).val, (x 1).isLt⟩ : Fin 128) := by idx_ext
  have hy : y = ix2 (⟨(y 0).val, (y 0).isLt⟩ : Fin 4096) (⟨(x 1).val, (x 1).isLt⟩ : Fin 128) := by
    funext a; fin_cases a
    · rfl
    · exact Fin.ext h1
  rw [hx, hy]
  exact point_kc m c t _ _ h0 hf _

omit hR in
theorem idx_k (x : S256x128.Idx) (y : S4096x128.Idx) (h0 : (y 0).val = t.val * 256 + (x 0).val)
    (h1 : (y 1).val = (x 1).val) : out0_7 (iblk m c 0 t) (iblk m c 1 t) (iblk m c 2 t) (iblk m c 3 t) (iblk m c 4 t) x = outK m c y := by
  have hx : x = ix2 (⟨(x 0).val, (x 0).isLt⟩ : Fin 256) (⟨(x 1).val, (x 1).isLt⟩ : Fin 128) := by idx_ext
  have hy : y = ix2 (⟨(y 0).val, (y 0).isLt⟩ : Fin 4096) (⟨(x 1).val, (x 1).isLt⟩ : Fin 128) := by
    funext a; fin_cases a
    · rfl
    · exact Fin.ext h1
  rw [hx, hy]
  exact point_k m c t _ _ h0 hf _

omit hR in
/-- The output array after the run is the reference's result. -/
theorem final_q : (dats m 0 c).arrAt 5 (cfgs 0).N = outQ m c := by
  refine (dats m 0 c).arrAt_eq_of_covers 5 _ (by decide +kernel) fun t _ y => ?_
  blk_simp
  rw [after0_5]
  exact idx_q m c t hf y _ (by blk_simp [idx t]) (by blk_simp [idx t])

omit hR in
/-- The output array after the run is the reference's result. -/
theorem final_kc : (dats m 0 c).arrAt 6 (cfgs 0).N = outKc m c := by
  refine (dats m 0 c).arrAt_eq_of_covers 6 _ (by decide +kernel) fun t _ y => ?_
  blk_simp
  rw [after0_6]
  exact idx_kc m c t hf y _ (by blk_simp [idx t]) (by blk_simp [idx t])

omit hR in
/-- The output array after the run is the reference's result. -/
theorem final_k : (dats m 0 c).arrAt 7 (cfgs 0).N = outK m c := by
  refine (dats m 0 c).arrAt_eq_of_covers 7 _ (by decide +kernel) fun t _ y => ?_
  blk_simp
  rw [after0_7]
  exact idx_k m c t hf y _ (by blk_simp [idx t]) (by blk_simp [idx t])

end Cert.QkCtxIdeal.Final

end
-- ==== Proof.QkCtx.Pre.lean ====
module

public import proofs.«01_k».proof.Proof.Gen.Pre_finite_heads
public import proofs.«01_k».proof.Proof.Math.Softmax
public import Idealize.ShloMosaic.Lib.Pointwise
public import Idealize.ShloMosaic.Lib.ReduceAll
public import Idealize.ShloMosaic.Lib.Affine

@[expose] public section

/-! # The precondition read

`jnp.abs(x) < jnp.inf` of every element of the two slices says that every element is a real. -/

noncomputable section

namespace Cert.Pre_finite_heads.Reals

open Cert.Pre_finite_heads Idealize.ShloMosaic

instance : Subsingleton S_.Idx := ⟨fun a b => funext fun i => i.elim0⟩

/-- An element whose absolute value compares below +∞ is a real. -/
theorem real_of_cmp (x : EReal) (h : Ideal.cmp .olt (max x (-x)) (Ideal.ofBits .f32 0x7F800000#32) = 1#1) :
    ∃ r : ℝ, x = r := by
  rw [Cert.Math.ofBits_inf] at h
  apply Cert.Math.real_of_abs_lt
  by_contra hn
  simp [Ideal.cmp, hn] at h

variable [Facts] (x0 : FVec Ideal S12288x6144 .f32) (x1 : FVec Ideal S2x64 .f32)

theorem slice_q (i : Fin 4096) (j : Fin 512) : extractStridedSlice S4096x512 ![0, 4608] x0 Facts.slices_S12288x6144_S4096x512_0_4608 (ix2 i j) =
    x0 (ix2 ⟨i.val, by omega⟩ ⟨4608 + j.val, by omega⟩) := by
  pointwise []
theorem slice_k (i : Fin 4096) (j : Fin 128) : extractStridedSlice S4096x128 ![0, 5632] x0 Facts.slices_S12288x6144_S4096x128_0_5632 (ix2 i j) =
    x0 (ix2 ⟨i.val, by omega⟩ ⟨5632 + j.val, by omega⟩) := by
  pointwise []

theorem finite (j : S_.Idx) (h : fn (F := Ideal) x0 x1 j = 1#1) :
    (∀ (i : Fin 4096) (j : Fin 512), ∃ r : ℝ, x0 (ix2 ⟨i.val, by omega⟩ ⟨4608 + j.val, by omega⟩) = (r : EReal)) ∧
    (∀ (i : Fin 4096) (j : Fin 128), ∃ r : ℝ, x0 (ix2 ⟨i.val, by omega⟩ ⟨5632 + j.val, by omega⟩) = (r : EReal)) := by
  dsimp only [fn] at h
  obtain ⟨h0, h1⟩ := IntOp.andi_eq_one.1 h
  refine ⟨fun i j => ?_, fun i j => ?_⟩
  · rw [← slice_q x0 i j]
    exact real_of_cmp _ (Host.reduce_andi_all _ _ _ _ _ h0 (ix2 i j))
  · rw [← slice_k x0 i j]
    exact real_of_cmp _ (Host.reduce_andi_all _ _ _ _ _ h1 (ix2 i j))

end Cert.Pre_finite_heads.Reals

end
-- ==== Proof.QkCtx.Claims.lean ====
module

public import proofs.«01_k».proof.Defs
public import proofs.«01_k».proof.Proof.Gen.QkCtx.Frame
public import proofs.«01_k».proof.Proof.Gen.QkCtxIdeal.Value
public import proofs.«01_k».proof.Proof.Gen.QkCtxRefIdeal.Run
public import proofs.«01_k».proof.Proof.QkCtx.Final
public import proofs.«01_k».proof.Proof.QkCtx.Pre

@[expose] public section

set_option maxRecDepth 16384

/-! # The claims about the context rows' queries and keys -/

noncomputable section

namespace Cert.QkCtx.Claims

open Idealize.ShloMosaic Idealize.ShloMosaic.TcCoe Idealize.SL.Sem

theorem frame : Cert.quiescent_QkCtx := fun m ρ _ => Cert.QkCtx.Gen.frame m ρ
theorem frame_ideal : Cert.quiescent_QkCtxIdeal := fun m ρ _ => Cert.QkCtxIdeal.Gen.frame m ρ
theorem frame_ideal_pre : Cert.quiescent_QkCtxIdeal_pre_finite_heads := fun m ρ _ => Cert.QkCtxIdeal.Gen.frame m ρ
theorem no_sem : SemLoc Cert.QkCtxRefIdeal.sig → False := by
  rintro (s | s) <;> exact s.elim0

theorem frame_ref : Cert.quiescent_QkCtxRefIdeal := fun m ρ _ => by
  run_from Cert.QkCtxRefIdeal.Value.run m ρ
  · exact fun _ => ⟨trivial, trivial⟩
  · exact funext fun x => (no_sem x.2).elim
theorem frame_ref_pre : Cert.quiescent_QkCtxRefIdeal_pre_finite_heads := fun m ρ _ => by
  run_from Cert.QkCtxRefIdeal.Value.run m ρ
  · exact fun _ => ⟨trivial, trivial⟩
  · exact funext fun x => (no_sem x.2).elim

/-- The precondition says that the queries and keys are reals. -/
theorem reals (m : (ℓ : Loc QkCtxIdeal.nD QkCtxIdeal.τ QkCtxIdeal.sig) → Buf (Elt Ideal) ℓ) (hpre : Cert.Pre_QkCtxIdeal_finite_heads m)
    (c : Dev QkCtxIdeal.nD) : QkCtxIdeal.Final.Finite m c :=
  Cert.Pre_finite_heads.Reals.finite _ _ (fun i => i.elim0) (congrFun (hpre c) _)

/-- The idealized kernel and the reference leave equal results. -/
theorem algebraic : Cert.algebraic_QkCtxIdeal_QkCtxRefIdeal_pre_finite_heads := by
  pair_intro
  · run_from Cert.QkCtxIdeal.Gen.run_main m g
  · run_from Cert.QkCtxRefIdeal.Value.run m' g'
    · rw [QkCtxIdeal.Final.final_q m c (reals m hpre c)]
      unfold QkCtxIdeal.Final.outQ
      rw [QkCtxRefIdeal.Read.val_main_v37_eq]
    · rw [QkCtxIdeal.Final.final_kc m c (reals m hpre c)]
      unfold QkCtxIdeal.Final.outKc
      rw [QkCtxRefIdeal.Read.val_main_v39_eq]
    · rw [QkCtxIdeal.Final.final_k m c (reals m hpre c)]
      unfold QkCtxIdeal.Final.outK
      rw [QkCtxRefIdeal.Read.val_main_v40_eq]

end Cert.QkCtx.Claims

end
-- ==== Proof.lean ====
module

public import proofs.«01_k».proof.Defs
public import proofs.«01_k».proof.Proof.Gen.Moe
public import proofs.«01_k».proof.Proof.Gen.Moe.Frame
public import proofs.«01_k».proof.Proof.Gen.MoeIdeal
public import proofs.«01_k».proof.Proof.Gen.MoeIdeal.Points
public import proofs.«01_k».proof.Proof.Gen.MoeIdeal.Frame
public import proofs.«01_k».proof.Proof.Gen.MoeRefIdeal
public import proofs.«01_k».proof.Proof.Gen.MoeRefIdeal.Run
public import proofs.«01_k».proof.Proof.Gen.MoeRefIdeal.Read
public import proofs.«01_k».proof.Proof.Gen.Ffn
public import proofs.«01_k».proof.Proof.Gen.Ffn.Frame
public import proofs.«01_k».proof.Proof.Gen.FfnIdeal
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.FfnIdeal.Value
public import proofs.«01_k».proof.Proof.Gen.Inproj
public import proofs.«01_k».proof.Proof.Gen.Inproj.Frame
public import proofs.«01_k».proof.Proof.Gen.InprojIdeal
public import proofs.«01_k».proof.Proof.Gen.InprojIdeal.Points
public import proofs.«01_k».proof.Proof.Gen.InprojIdeal.Frame
public import proofs.«01_k».proof.Proof.Gen.InprojRefIdeal
public import proofs.«01_k».proof.Proof.Gen.InprojRefIdeal.Run
public import proofs.«01_k».proof.Proof.Gen.InprojRefIdeal.Read
public import proofs.«01_k».proof.Proof.Gen.InprojIdeal.Value
public import proofs.«01_k».proof.Proof.Gen.AttnLat
public import proofs.«01_k».proof.Proof.Gen.AttnLat.Frame
public import proofs.«01_k».proof.Proof.Gen.AttnLatIdeal
public import proofs.«01_k».proof.Proof.Gen.AttnLatIdeal.Points
public import proofs.«01_k».proof.Proof.Gen.AttnLatIdeal.Frame
public import proofs.«01_k».proof.Proof.Gen.AttnLatRefIdeal
public import proofs.«01_k».proof.Proof.Gen.AttnLatRefIdeal.Run
public import proofs.«01_k».proof.Proof.Gen.AttnLatRefIdeal.Read
public import proofs.«01_k».proof.Proof.Gen.AttnLatIdeal.Value
public import proofs.«01_k».proof.Proof.Gen.Merge
public import proofs.«01_k».proof.Proof.Gen.Merge.Frame
public import proofs.«01_k».proof.Proof.Gen.MergeIdeal
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.MergeIdeal.Value
public import proofs.«01_k».proof.Proof.Gen.QkCtx
public import proofs.«01_k».proof.Proof.Gen.QkCtx.Frame
public import proofs.«01_k».proof.Proof.Gen.QkCtxIdeal
public import proofs.«01_k».proof.Proof.Gen.QkCtxIdeal.Points
public import proofs.«01_k».proof.Proof.Gen.QkCtxIdeal.Frame
public import proofs.«01_k».proof.Proof.Gen.QkCtxRefIdeal
public import proofs.«01_k».proof.Proof.Gen.QkCtxRefIdeal.Run
public import proofs.«01_k».proof.Proof.Gen.QkCtxRefIdeal.Read
public import proofs.«01_k».proof.Proof.Gen.QkCtxIdeal.Value
public import proofs.«01_k».proof.Proof.Gen.Pre_finite_route
public import proofs.«01_k».proof.Proof.Gen.Pre_finite_qk
public import proofs.«01_k».proof.Proof.Gen.Pre_finite_heads
public import proofs.«01_k».proof.Proof.Moe.Claims
public import proofs.«01_k».proof.Proof.Ffn.Claims
public import proofs.«01_k».proof.Proof.Inproj.Claims
public import proofs.«01_k».proof.Proof.AttnLat.Claims
public import proofs.«01_k».proof.Proof.Merge.Claims
public import proofs.«01_k».proof.Proof.QkCtx.Claims
public import Idealize.ShloMosaic.Adequacy
public import Idealize.ShloMosaic.Init

@[expose] public section

noncomputable section

namespace Cert.Proof

open Idealize.ShloMosaic Idealize.SL.Sem Cert

theorem claim : Cert.Claim := ⟨Cert.Moe.Gen.facts, Cert.MoeIdeal.Gen.facts, Cert.MoeRefIdeal.Gen.facts,
  Cert.Ffn.Gen.facts, Cert.FfnIdeal.Gen.facts, Cert.FfnRefIdeal.Gen.facts,
  Cert.Inproj.Gen.facts, Cert.InprojIdeal.Gen.facts, Cert.InprojRefIdeal.Gen.facts,
  Cert.AttnLat.Gen.facts, Cert.AttnLatIdeal.Gen.facts, Cert.AttnLatRefIdeal.Gen.facts,
  Cert.Merge.Gen.facts, Cert.MergeIdeal.Gen.facts, Cert.MergeRefIdeal.Gen.facts,
  Cert.QkCtx.Gen.facts, Cert.QkCtxIdeal.Gen.facts, Cert.QkCtxRefIdeal.Gen.facts,
  Cert.Pre_finite_route.Gen.facts, Cert.Pre_finite_qk.Gen.facts, Cert.Pre_finite_heads.Gen.facts,
  Moe.Claims.frame, Moe.Claims.frame_ideal, Moe.Claims.frame_ideal_pre, Moe.Claims.frame_ref, Moe.Claims.frame_ref_pre,
  Ffn.Claims.frame, Ffn.Claims.frame_ideal, Ffn.Claims.frame_ref,
  Inproj.Claims.frame, Inproj.Claims.frame_ideal, Inproj.Claims.frame_ref,
  AttnLat.Claims.frame, AttnLat.Claims.frame_ideal, AttnLat.Claims.frame_ideal_pre, AttnLat.Claims.frame_ref,
  AttnLat.Claims.frame_ref_pre,
  Merge.Claims.frame, Merge.Claims.frame_ideal, Merge.Claims.frame_ref,
  QkCtx.Claims.frame, QkCtx.Claims.frame_ideal, QkCtx.Claims.frame_ideal_pre, QkCtx.Claims.frame_ref, QkCtx.Claims.frame_ref_pre,
  trivial, Moe.Claims.algebraic, trivial, Ffn.Claims.algebraic, trivial, Inproj.Claims.algebraic,
  trivial, AttnLat.Claims.algebraic, trivial, Merge.Claims.algebraic,
  trivial, QkCtx.Claims.algebraic⟩

end Cert.Proof

end
